-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantReferenceIdeal (m : (ℓ : Loc Cert.QuantReferenceIdeal.nD Cert.QuantReferenceIdeal.τ Cert.QuantReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1)
      ∧ r.2.mem ((c.tc : Thread Cert.Quant.nD Cert.Quant.τ).loc Cert.Quant.main_arg2) = m ((c.tc : Thread Cert.Quant.nD Cert.Quant.τ).loc Cert.Quant.main_arg2))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
      ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1)
      ∧ r.2.mem ((c.tc : Thread Cert.QuantReferenceIdeal.nD Cert.QuantReferenceIdeal.τ).loc Cert.QuantReferenceIdeal.main_arg2) = m ((c.tc : Thread Cert.QuantReferenceIdeal.nD Cert.QuantReferenceIdeal.τ).loc Cert.QuantReferenceIdeal.main_arg2))
      ∧ r.2.sem = fun _ => 0)

def preserves_Kernel_KernelIdeal : Prop :=
  IdealRules.named_const.Statement Cert.KernelIdeal.κ "cap_log2e" .f32 0x429044FE#32 ((50 * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Quant_QuantIdeal : Prop :=
  True

def algebraic_QuantIdeal_QuantReferenceIdeal [hQuantIdeal : Cert.QuantIdeal.Facts] [hQuantReferenceIdeal : Cert.QuantReferenceIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_QuantIdeal m →
    (∀ c : Dev Cert.QuantIdeal.nD,
      m' ((c.tc : Thread Cert.QuantReferenceIdeal.nD Cert.QuantReferenceIdeal.τ).loc Cert.QuantReferenceIdeal.main_arg0) = m ((c.tc : Thread Cert.QuantIdeal.nD Cert.QuantIdeal.τ).loc Cert.QuantIdeal.main_arg0)
      ∧ m' ((c.tc : Thread Cert.QuantReferenceIdeal.nD Cert.QuantReferenceIdeal.τ).loc Cert.QuantReferenceIdeal.main_arg1) = m ((c.tc : Thread Cert.QuantIdeal.nD Cert.QuantIdeal.τ).loc Cert.QuantIdeal.main_arg1)
      ∧ m' ((c.tc : Thread Cert.QuantReferenceIdeal.nD Cert.QuantReferenceIdeal.τ).loc Cert.QuantReferenceIdeal.main_arg2) = m ((c.tc : Thread Cert.QuantIdeal.nD Cert.QuantIdeal.τ).loc Cert.QuantIdeal.main_arg2)) →
    ∃ (v0 : (c : Dev Cert.QuantIdeal.nD) → Buf (Elt Ideal) ((c.tc : Thread Cert.QuantIdeal.nD Cert.QuantIdeal.τ).loc Cert.QuantIdeal.main_v0_0)) (v1 : (c : Dev Cert.QuantIdeal.nD) → Buf (Elt Ideal) ((c.tc : Thread Cert.QuantIdeal.nD Cert.QuantIdeal.τ).loc Cert.QuantIdeal.main_v0_1)) (v2 : (c : Dev Cert.QuantIdeal.nD) → Buf (Elt Ideal) ((c.tc : Thread Cert.QuantIdeal.nD Cert.QuantIdeal.τ).loc Cert.QuantIdeal.main_v0_2)) (v3 : (c : Dev Cert.QuantIdeal.nD) → Buf (Elt Ideal) ((c.tc : Thread Cert.QuantIdeal.nD Cert.QuantIdeal.τ).loc Cert.QuantIdeal.main_v0_3)) (v4 : (c : Dev Cert.QuantIdeal.nD) → Buf (Elt Ideal) ((c.tc : Thread Cert.QuantIdeal.nD Cert.QuantIdeal.τ).loc Cert.QuantIdeal.main_v0_4)) (v5 : (c : Dev Cert.QuantIdeal.nD) → Buf (Elt Ideal) ((c.tc : Thread Cert.QuantIdeal.nD Cert.QuantIdeal.τ).loc Cert.QuantIdeal.main_v0_5)) (v6 : (c : Dev Cert.QuantIdeal.nD) → Buf (Elt Ideal) ((c.tc : Thread Cert.QuantIdeal.nD Cert.QuantIdeal.τ).loc Cert.QuantIdeal.main_v0_6)) (v7 : (c : Dev Cert.QuantIdeal.nD) → Buf (Elt Ideal) ((c.tc : Thread Cert.QuantIdeal.nD Cert.QuantIdeal.τ).loc Cert.QuantIdeal.main_v0_7)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v0_0) = v0 c
          ∧ r.2.mem ((c.tc : Thread Cert.QuantIdeal.nD Cert.QuantIdeal.τ).loc Cert.QuantIdeal.main_v0_1) = v1 c
          ∧ r.2.mem ((c.tc : Thread Cert.QuantIdeal.nD Cert.QuantIdeal.τ).loc Cert.QuantIdeal.main_v0_2) = v2 c
          ∧ r.2.mem ((c.tc : Thread Cert.QuantIdeal.nD Cert.QuantIdeal.τ).loc Cert.QuantIdeal.main_v0_3) = v3 c
          ∧ r.2.mem ((c.tc : Thread Cert.QuantIdeal.nD Cert.QuantIdeal.τ).loc Cert.QuantIdeal.main_v0_4) = v4 c
          ∧ r.2.mem ((c.tc : Thread Cert.QuantIdeal.nD Cert.QuantIdeal.τ).loc Cert.QuantIdeal.main_v0_5) = v5 c
          ∧ r.2.mem ((c.tc : Thread Cert.QuantIdeal.nD Cert.QuantIdeal.τ).loc Cert.QuantIdeal.main_v0_6) = v6 c
          ∧ r.2.mem ((c.tc : Thread Cert.QuantIdeal.nD Cert.QuantIdeal.τ).loc Cert.QuantIdeal.main_v0_7) = v7 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
          ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v0_0) = v0 c
          ∧ r.2.mem ((c.tc : Thread Cert.QuantReferenceIdeal.nD Cert.QuantReferenceIdeal.τ).loc Cert.QuantReferenceIdeal.main_v0_1) = v1 c
          ∧ r.2.mem ((c.tc : Thread Cert.QuantReferenceIdeal.nD Cert.QuantReferenceIdeal.τ).loc Cert.QuantReferenceIdeal.main_v0_2) = v2 c
          ∧ r.2.mem ((c.tc : Thread Cert.QuantReferenceIdeal.nD Cert.QuantReferenceIdeal.τ).loc Cert.QuantReferenceIdeal.main_v0_3) = v3 c
          ∧ r.2.mem ((c.tc : Thread Cert.QuantReferenceIdeal.nD Cert.QuantReferenceIdeal.τ).loc Cert.QuantReferenceIdeal.main_v0_4) = v4 c
          ∧ r.2.mem ((c.tc : Thread Cert.QuantReferenceIdeal.nD Cert.QuantReferenceIdeal.τ).loc Cert.QuantReferenceIdeal.main_v0_5) = v5 c
          ∧ r.2.mem ((c.tc : Thread Cert.QuantReferenceIdeal.nD Cert.QuantReferenceIdeal.τ).loc Cert.QuantReferenceIdeal.main_v0_6) = v6 c
          ∧ r.2.mem ((c.tc : Thread Cert.QuantReferenceIdeal.nD Cert.QuantReferenceIdeal.τ).loc Cert.QuantReferenceIdeal.main_v0_7) = v7 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0)
          ∧ r.2.mem ((c.tc : Thread Cert.QuantReferenceIdeal.nD Cert.QuantReferenceIdeal.τ).loc Cert.QuantReferenceIdeal.main_arg1) = m' ((c.tc : Thread Cert.QuantReferenceIdeal.nD Cert.QuantReferenceIdeal.τ).loc Cert.QuantReferenceIdeal.main_arg1)
          ∧ r.2.mem ((c.tc : Thread Cert.QuantReferenceIdeal.nD Cert.QuantReferenceIdeal.τ).loc Cert.QuantReferenceIdeal.main_arg2) = m' ((c.tc : Thread Cert.QuantReferenceIdeal.nD Cert.QuantReferenceIdeal.τ).loc Cert.QuantReferenceIdeal.main_arg2))

def Claim : Prop :=
  ∃ (hKernel : Cert.Kernel.Facts) (hKernelIdeal : Cert.KernelIdeal.Facts) (hReferenceIdeal : Cert.ReferenceIdeal.Facts) (hQuant : Cert.Quant.Facts) (hQuantIdeal : Cert.QuantIdeal.Facts) (hQuantReferenceIdeal : Cert.QuantReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Quant (hQuant := hQuant)
    ∧ quiescent_QuantIdeal (hQuantIdeal := hQuantIdeal)
    ∧ quiescent_QuantReferenceIdeal (hQuantReferenceIdeal := hQuantReferenceIdeal)
    ∧ preserves_Kernel_KernelIdeal
    ∧ algebraic_KernelIdeal_ReferenceIdeal (hKernelIdeal := hKernelIdeal) (hReferenceIdeal := hReferenceIdeal)
    ∧ preserves_Quant_QuantIdeal
    ∧ algebraic_QuantIdeal_QuantReferenceIdeal (hQuantIdeal := hQuantIdeal) (hQuantReferenceIdeal := hQuantReferenceIdeal)
-- ==== Kernel.lean ====
abbrev S4x128x1024x128 : Shape := ⟨4, ![4, 128, 1024, 128]⟩
abbrev S4x16384x128 : Shape := ⟨3, ![4, 16384, 128]⟩
abbrev S4x128x128x128 : Shape := ⟨4, ![4, 128, 128, 128]⟩
abbrev S4x128x8 : Shape := ⟨3, ![4, 128, 8]⟩
abbrev S4x128x2 : Shape := ⟨3, ![4, 128, 2]⟩
abbrev S4x128x8x1 : Shape := ⟨4, ![4, 128, 8, 1]⟩
abbrev S4x128x8x128 : Shape := ⟨4, ![4, 128, 8, 128]⟩
abbrev S4x128x2x4 : Shape := ⟨4, ![4, 128, 2, 4]⟩
abbrev S4x16384x512 : Shape := ⟨3, ![4, 16384, 512]⟩
abbrev S1x1x1024x128 : Shape := ⟨4, ![1, 1, 1024, 128]⟩
abbrev S1x128x128x128 : Shape := ⟨4, ![1, 128, 128, 128]⟩
abbrev S1x1x8x128 : Shape := ⟨4, ![1, 1, 8, 128]⟩
abbrev S1x128x8x128 : Shape := ⟨4, ![1, 128, 8, 128]⟩
abbrev S1x128x512 : Shape := ⟨3, ![1, 128, 512]⟩
abbrev S128x1024 : Shape := ⟨2, ![128, 1024]⟩
abbrev S512x128 : Shape := ⟨2, ![512, 128]⟩
abbrev S8x128 : Shape := ⟨2, ![8, 128]⟩
abbrev S1024x128 : Shape := ⟨2, ![1024, 128]⟩
abbrev S1x1x128x128 : Shape := ⟨4, ![1, 1, 128, 128]⟩
abbrev S128x128 : Shape := ⟨2, ![128, 128]⟩
abbrev S1x1x64x128 : Shape := ⟨4, ![1, 1, 64, 128]⟩
abbrev S64x128 : Shape := ⟨2, ![64, 128]⟩
abbrev S128x512 : Shape := ⟨2, ![128, 512]⟩
abbrev S64x512 : Shape := ⟨2, ![64, 512]⟩
abbrev S1x128 : Shape := ⟨2, ![1, 128]⟩
abbrev S128 : Shape := ⟨1, ![128]⟩
abbrev S128x64 : Shape := ⟨2, ![128, 64]⟩
abbrev S1x128x64 : Shape := ⟨3, ![1, 128, 64]⟩

abbrev nBuf : Space → Nat
  | .hbm => 20
  | .vmem => 20
  | .smem => 0
  | _ => 0

abbrev bufTy : (tb : Table) → Fin (tcTables nBuf tb) → BufTy
  | .hbm, ⟨0, _⟩ => ⟨S4x128x1024x128, .fp8e4m3⟩
  | .hbm, ⟨1, _⟩ => ⟨S4x16384x128, .fp8e4m3⟩
  | .hbm, ⟨2, _⟩ => ⟨S4x128x128x128, .fp8e4m3⟩
  | .hbm, ⟨3, _⟩ => ⟨S4x128x8, .f32⟩
  | .hbm, ⟨4, _⟩ => ⟨S4x128x2, .f32⟩
  | .hbm, ⟨5, _⟩ => ⟨S4x128x2, .f32⟩
  | .hbm, ⟨6, _⟩ => ⟨S4x128x128x128, .fp8e4m3⟩
  | .hbm, ⟨7, _⟩ => ⟨S4x128x8x1, .f32⟩
  | .hbm, ⟨8, _⟩ => ⟨S4x128x8, .f32⟩
  | .hbm, ⟨9, _⟩ => ⟨S4x128x8x1, .f32⟩
  | .hbm, ⟨10, _⟩ => ⟨S4x128x8x128, .f32⟩
  | .hbm, ⟨11, _⟩ => ⟨S4x128x2x4, .f32⟩
  | .hbm, ⟨12, _⟩ => ⟨S4x128x8, .f32⟩
  | .hbm, ⟨13, _⟩ => ⟨S4x128x8x1, .f32⟩
  | .hbm, ⟨14, _⟩ => ⟨S4x128x8x128, .f32⟩
  | .hbm, ⟨15, _⟩ => ⟨S4x128x2x4, .f32⟩
  | .hbm, ⟨16, _⟩ => ⟨S4x128x8, .f32⟩
  | .hbm, ⟨17, _⟩ => ⟨S4x128x8x1, .f32⟩
  | .hbm, ⟨18, _⟩ => ⟨S4x128x8x128, .f32⟩
  | .hbm, ⟨19, _⟩ => ⟨S4x16384x512, .bf16⟩
  | .local _ .vmem, ⟨0, _⟩ => ⟨S1x1x1024x128, .fp8e4m3⟩
  | .local _ .vmem, ⟨1, _⟩ => ⟨S1x1x1024x128, .fp8e4m3⟩
  | .local _ .vmem, ⟨2, _⟩ => ⟨S1x128x128x128, .fp8e4m3⟩
  | .local _ .vmem, ⟨3, _⟩ => ⟨S1x128x128x128, .fp8e4m3⟩
  | .local _ .vmem, ⟨4, _⟩ => ⟨S1x128x128x128, .fp8e4m3⟩
  | .local _ .vmem, ⟨5, _⟩ => ⟨S1x128x128x128, .fp8e4m3⟩
  | .local _ .vmem, ⟨6, _⟩ => ⟨S1x1x8x128, .f32⟩
  | .local _ .vmem, ⟨7, _⟩ => ⟨S1x1x8x128, .f32⟩
  | .local _ .vmem, ⟨8, _⟩ => ⟨S1x128x8x128, .f32⟩
  | .local _ .vmem, ⟨9, _⟩ => ⟨S1x128x8x128, .f32⟩
  | .local _ .vmem, ⟨10, _⟩ => ⟨S1x128x8x128, .f32⟩
  | .local _ .vmem, ⟨11, _⟩ => ⟨S1x128x8x128, .f32⟩
  | .local _ .vmem, ⟨12, _⟩ => ⟨S1x128x512, .bf16⟩
  | .local _ .vmem, ⟨13, _⟩ => ⟨S1x128x512, .bf16⟩
  | .local _ .vmem, ⟨14, _⟩ => ⟨S128x1024, .f32⟩
  | .local _ .vmem, ⟨15, _⟩ => ⟨S128x1024, .fp8e4m3⟩
  | .local _ .vmem, ⟨16, _⟩ => ⟨S512x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | _, _ => ⟨S4x128x1024x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 128], ![false, false]⟩

@[reducible] def k0_t1_loop (i : grid0.Coords) : Scf.Loop 32 :=
  let c0_i32 : BitVec 32 := 0#32
  let arg1 : BitVec 32 := BitVec.ofNat 32 (i 1).val
  let v28 : BitVec 32 := Scalar.subi arg1 c0_i32
  let c1_i32 : BitVec 32 := 1#32
  let v30 : BitVec 32 := Scalar.divsi v28 c1_i32
  let v31 : BitVec 32 := Scalar.muli v30 c1_i32
  let v32 : BitVec 32 := Scalar.addi c0_i32 v31
  let c1_i32_24 : BitVec 32 := 1#32
  ⟨c0_i32, v32, c1_i32_24⟩
def k0_off1 (i : grid0.Coords) (k0_t1 : Fin (k0_t1_loop i).trips) : Fin 4 → Nat :=
  let c0_396 : Index := 0#32
  let c0_i32 : BitVec 32 := 0#32
  let c1_i32_24 : BitVec 32 := 1#32
  let arg15 : BitVec 32 := Scf.iv c0_i32 c1_i32_24 k0_t1
  let c1_i32_394 : BitVec 32 := 1#32
  let v724 : BitVec 32 := Scalar.subi arg15 c1_i32_394
  let c0_i32_395 : BitVec 32 := 0#32
  let v725 : BitVec 32 := Scalar.maxsi v724 c0_i32_395
  let v726 : Index := Scalar.indexCast v725
  let c0_397 : Index := 0#32
  let c0_398 : Index := 0#32
  ![0, v726.toNat, 0, 0]
def k0_off2 (i : grid0.Coords) (k0_t1 : Fin (k0_t1_loop i).trips) : Fin 4 → Nat :=
  let c0_400 : Index := 0#32
  let c0_i32 : BitVec 32 := 0#32
  let c1_i32_24 : BitVec 32 := 1#32
  let arg15 : BitVec 32 := Scf.iv c0_i32 c1_i32_24 k0_t1
  let c1_i32_394 : BitVec 32 := 1#32
  let v724 : BitVec 32 := Scalar.subi arg15 c1_i32_394
  let c0_i32_395 : BitVec 32 := 0#32
  let v725 : BitVec 32 := Scalar.maxsi v724 c0_i32_395
  let v731 : Index := Scalar.indexCast v725
  let c0_401 : Index := 0#32
  let c0_402 : Index := 0#32
  ![0, v731.toNat, 0, 0]
def k0_off3 (i : grid0.Coords) (k0_t1 : Fin (k0_t1_loop i).trips) : Fin 4 → Nat :=
  let c0_430 : Index := 0#32
  let c0_i32 : BitVec 32 := 0#32
  let c1_i32_24 : BitVec 32 := 1#32
  let arg15 : BitVec 32 := Scf.iv c0_i32 c1_i32_24 k0_t1
  let c1_i32_394 : BitVec 32 := 1#32
  let v724 : BitVec 32 := Scalar.subi arg15 c1_i32_394
  let c0_i32_395 : BitVec 32 := 0#32
  let v725 : BitVec 32 := Scalar.maxsi v724 c0_i32_395
  let v784 : Index := Scalar.indexCast v725
  let c64_431 : Index := 64#32
  let c0_432 : Index := 0#32
  ![0, v784.toNat, 64, 0]
def k0_off4 (i : grid0.Coords) (k0_t1 : Fin (k0_t1_loop i).trips) : Fin 4 → Nat :=
  let c0_464 : Index := 0#32
  let c0_i32 : BitVec 32 := 0#32
  let c1_i32_24 : BitVec 32 := 1#32
  let arg15 : BitVec 32 := Scf.iv c0_i32 c1_i32_24 k0_t1
  let v839 : Index := Scalar.indexCast arg15
  let c0_465 : Index := 0#32
  let c0_466 : Index := 0#32
  ![0, v839.toNat, 0, 0]
def k0_off5 (i : grid0.Coords) (k0_t1 : Fin (k0_t1_loop i).trips) : Fin 4 → Nat :=
  let c0_645 : Index := 0#32
  let c0_i32 : BitVec 32 := 0#32
  let c1_i32_24 : BitVec 32 := 1#32
  let arg15 : BitVec 32 := Scf.iv c0_i32 c1_i32_24 k0_t1
  let c1_i32_644 : BitVec 32 := 1#32
  let v1197 : BitVec 32 := Scalar.addi arg15 c1_i32_644
  let v1198 : Index := Scalar.indexCast v1197
  let c0_646 : Index := 0#32
  let c0_647 : Index := 0#32
  ![0, v1198.toNat, 0, 0]
@[reducible] def k0_t2_loop (i : grid0.Coords) : Scf.Loop 32 :=
  let c0_i32 : BitVec 32 := 0#32
  let arg1 : BitVec 32 := BitVec.ofNat 32 (i 1).val
  let v28 : BitVec 32 := Scalar.subi arg1 c0_i32
  let c1_i32 : BitVec 32 := 1#32
  let v30 : BitVec 32 := Scalar.divsi v28 c1_i32
  let v31 : BitVec 32 := Scalar.muli v30 c1_i32
  let v32 : BitVec 32 := Scalar.addi c0_i32 v31
  let v29 : BitVec 32 := Scalar.addi c0_i32 v28
  let c1_i32_25 : BitVec 32 := 1#32
  ⟨v32, v29, c1_i32_25⟩
def k0_off6 (i : grid0.Coords) (k0_t2 : Fin (k0_t2_loop i).trips) : Fin 4 → Nat :=
  let c0_396 : Index := 0#32
  let c0_i32 : BitVec 32 := 0#32
  let arg1 : BitVec 32 := BitVec.ofNat 32 (i 1).val
  let v28 : BitVec 32 := Scalar.subi arg1 c0_i32
  let c1_i32 : BitVec 32 := 1#32
  let v30 : BitVec 32 := Scalar.divsi v28 c1_i32
  let v31 : BitVec 32 := Scalar.muli v30 c1_i32
  let v32 : BitVec 32 := Scalar.addi c0_i32 v31
  let c1_i32_25 : BitVec 32 := 1#32
  let arg15 : BitVec 32 := Scf.iv v32 c1_i32_25 k0_t2
  let c1_i32_394 : BitVec 32 := 1#32
  let v724 : BitVec 32 := Scalar.subi arg15 c1_i32_394
  let c0_i32_395 : BitVec 32 := 0#32
  let v725 : BitVec 32 := Scalar.maxsi v724 c0_i32_395
  let v726 : Index := Scalar.indexCast v725
  let c0_397 : Index := 0#32
  let c0_398 : Index := 0#32
  ![0, v726.toNat, 0, 0]
def k0_off7 (i : grid0.Coords) (k0_t2 : Fin (k0_t2_loop i).trips) : Fin 4 → Nat :=
  let c0_400 : Index := 0#32
  let c0_i32 : BitVec 32 := 0#32
  let arg1 : BitVec 32 := BitVec.ofNat 32 (i 1).val
  let v28 : BitVec 32 := Scalar.subi arg1 c0_i32
  let c1_i32 : BitVec 32 := 1#32
  let v30 : BitVec 32 := Scalar.divsi v28 c1_i32
  let v31 : BitVec 32 := Scalar.muli v30 c1_i32
  let v32 : BitVec 32 := Scalar.addi c0_i32 v31
  let c1_i32_25 : BitVec 32 := 1#32
  let arg15 : BitVec 32 := Scf.iv v32 c1_i32_25 k0_t2
  let c1_i32_394 : BitVec 32 := 1#32
  let v724 : BitVec 32 := Scalar.subi arg15 c1_i32_394
  let c0_i32_395 : BitVec 32 := 0#32
  let v725 : BitVec 32 := Scalar.maxsi v724 c0_i32_395
  let v731 : Index := Scalar.indexCast v725
  let c0_401 : Index := 0#32
  let c0_402 : Index := 0#32
  ![0, v731.toNat, 0, 0]
def k0_off8 (i : grid0.Coords) (k0_t2 : Fin (k0_t2_loop i).trips) : Fin 4 → Nat :=
  let c0_430 : Index := 0#32
  let c0_i32 : BitVec 32 := 0#32
  let arg1 : BitVec 32 := BitVec.ofNat 32 (i 1).val
  let v28 : BitVec 32 := Scalar.subi arg1 c0_i32
  let c1_i32 : BitVec 32 := 1#32
  let v30 : BitVec 32 := Scalar.divsi v28 c1_i32
  let v31 : BitVec 32 := Scalar.muli v30 c1_i32
  let v32 : BitVec 32 := Scalar.addi c0_i32 v31
  let c1_i32_25 : BitVec 32 := 1#32
  let arg15 : BitVec 32 := Scf.iv v32 c1_i32_25 k0_t2
  let c1_i32_394 : BitVec 32 := 1#32
  let v724 : BitVec 32 := Scalar.subi arg15 c1_i32_394
  let c0_i32_395 : BitVec 32 := 0#32
  let v725 : BitVec 32 := Scalar.maxsi v724 c0_i32_395
  let v784 : Index := Scalar.indexCast v725
  let c64_431 : Index := 64#32
  let c0_432 : Index := 0#32
  ![0, v784.toNat, 64, 0]
def k0_off9 (i : grid0.Coords) (k0_t2 : Fin (k0_t2_loop i).trips) : Fin 4 → Nat :=
  let c0_464 : Index := 0#32
  let c0_i32 : BitVec 32 := 0#32
  let arg1 : BitVec 32 := BitVec.ofNat 32 (i 1).val
  let v28 : BitVec 32 := Scalar.subi arg1 c0_i32
  let c1_i32 : BitVec 32 := 1#32
  let v30 : BitVec 32 := Scalar.divsi v28 c1_i32
  let v31 : BitVec 32 := Scalar.muli v30 c1_i32
  let v32 : BitVec 32 := Scalar.addi c0_i32 v31
  let c1_i32_25 : BitVec 32 := 1#32
  let arg15 : BitVec 32 := Scf.iv v32 c1_i32_25 k0_t2
  let v839 : Index := Scalar.indexCast arg15
  let c0_465 : Index := 0#32
  let c0_466 : Index := 0#32
  ![0, v839.toNat, 0, 0]
def k0_off10 (i : grid0.Coords) (k0_t2 : Fin (k0_t2_loop i).trips) : Fin 4 → Nat :=
  let c0_645 : Index := 0#32
  let c0_i32 : BitVec 32 := 0#32
  let arg1 : BitVec 32 := BitVec.ofNat 32 (i 1).val
  let v28 : BitVec 32 := Scalar.subi arg1 c0_i32
  let c1_i32 : BitVec 32 := 1#32
  let v30 : BitVec 32 := Scalar.divsi v28 c1_i32
  let v31 : BitVec 32 := Scalar.muli v30 c1_i32
  let v32 : BitVec 32 := Scalar.addi c0_i32 v31
  let c1_i32_25 : BitVec 32 := 1#32
  let arg15 : BitVec 32 := Scf.iv v32 c1_i32_25 k0_t2
  let c1_i32_644 : BitVec 32 := 1#32
  let v1197 : BitVec 32 := Scalar.addi arg15 c1_i32_644
  let v1198 : Index := Scalar.indexCast v1197
  let c0_646 : Index := 0#32
  let c0_647 : Index := 0#32
  ![0, v1198.toNat, 0, 0]
def k0_off11 (i : grid0.Coords) : Fin 4 → Nat :=
  let c0_28 : Index := 0#32
  let arg1 : BitVec 32 := BitVec.ofNat 32 (i 1).val
  let c1_i32_26 : BitVec 32 := 1#32
  let v33 : BitVec 32 := Scalar.subi arg1 c1_i32_26
  let c0_i32_27 : BitVec 32 := 0#32
  let v34 : BitVec 32 := Scalar.maxsi v33 c0_i32_27
  let v35 : Index := Scalar.indexCast v34
  let c0_29 : Index := 0#32
  let c0_30 : Index := 0#32
  ![0, v35.toNat, 0, 0]
def k0_off12 (i : grid0.Coords) : Fin 4 → Nat :=
  let c0_32 : Index := 0#32
  let arg1 : BitVec 32 := BitVec.ofNat 32 (i 1).val
  let c1_i32_26 : BitVec 32 := 1#32
  let v33 : BitVec 32 := Scalar.subi arg1 c1_i32_26
  let c0_i32_27 : BitVec 32 := 0#32
  let v34 : BitVec 32 := Scalar.maxsi v33 c0_i32_27
  let v40 : Index := Scalar.indexCast v34
  let c0_33 : Index := 0#32
  let c0_34 : Index := 0#32
  ![0, v40.toNat, 0, 0]
def k0_off13 (i : grid0.Coords) : Fin 4 → Nat :=
  let c0_56 : Index := 0#32
  let arg1 : BitVec 32 := BitVec.ofNat 32 (i 1).val
  let c1_i32_26 : BitVec 32 := 1#32
  let v33 : BitVec 32 := Scalar.subi arg1 c1_i32_26
  let c0_i32_27 : BitVec 32 := 0#32
  let v34 : BitVec 32 := Scalar.maxsi v33 c0_i32_27
  let v93 : Index := Scalar.indexCast v34
  let c64_57 : Index := 64#32
  let c0_58 : Index := 0#32
  ![0, v93.toNat, 64, 0]
def k0_off14 (i : grid0.Coords) : Fin 4 → Nat :=
  let c0_81 : Index := 0#32
  let arg1 : BitVec 32 := BitVec.ofNat 32 (i 1).val
  let v151 : Index := Scalar.indexCast arg1
  let c0_82 : Index := 0#32
  let c0_83 : Index := 0#32
  ![0, v151.toNat, 0, 0]
def k0_off15 (i : grid0.Coords) : Fin 4 → Nat :=
  let c0_270 : Index := 0#32
  let arg1 : BitVec 32 := BitVec.ofNat 32 (i 1).val
  let v530 : Index := Scalar.indexCast arg1
  let c0_271 : Index := 0#32
  let c0_272 : Index := 0#32
  ![0, v530.toNat, 0, 0]
def k0_off16 (i : grid0.Coords) : Fin 4 → Nat :=
  let c0_300 : Index := 0#32
  let arg1 : BitVec 32 := BitVec.ofNat 32 (i 1).val
  let v583 : Index := Scalar.indexCast arg1
  let c64_301 : Index := 64#32
  let c0_302 : Index := 0#32
  ![0, v583.toNat, 64, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x128x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "cap_log2e" => some ((50 * (Real.log 2)⁻¹ : ℝ) : EReal)
  | _ => none
-- ==== ReferenceIdeal.lean ====
abbrev S4x128x1024x128 : Shape := ⟨4, ![4, 128, 1024, 128]⟩
abbrev S4x16384x128 : Shape := ⟨3, ![4, 16384, 128]⟩
abbrev S4x128x128x128 : Shape := ⟨4, ![4, 128, 128, 128]⟩
abbrev S4x128x8 : Shape := ⟨3, ![4, 128, 8]⟩
abbrev S4x128x2 : Shape := ⟨3, ![4, 128, 2]⟩
abbrev S4x16384x512 : Shape := ⟨3, ![4, 16384, 512]⟩
abbrev S4x128x2x4x128x128 : Shape := ⟨6, ![4, 128, 2, 4, 128, 128]⟩
abbrev S4x128x2x64x128 : Shape := ⟨5, ![4, 128, 2, 64, 128]⟩
abbrev S4x128x2x4x1x1x1 : Shape := ⟨7, ![4, 128, 2, 4, 1, 1, 1]⟩
abbrev S4x2x128 : Shape := ⟨3, ![4, 2, 128]⟩
abbrev S4x1x2x1x1x128x1 : Shape := ⟨7, ![4, 1, 2, 1, 1, 128, 1]⟩
abbrev S4x2x128x1x1x1x1 : Shape := ⟨7, ![4, 2, 128, 1, 1, 1, 1]⟩
abbrev S4x128x2x4x128x128x128 : Shape := ⟨7, ![4, 128, 2, 4, 128, 128, 128]⟩
abbrev S4x128x2x4x1x128x1 : Shape := ⟨7, ![4, 128, 2, 4, 1, 128, 1]⟩
abbrev S4x128x2x4x128 : Shape := ⟨5, ![4, 128, 2, 4, 128]⟩
abbrev S4x128x2x4x128x1x1 : Shape := ⟨7, ![4, 128, 2, 4, 128, 1, 1]⟩
abbrev S4x2x128x128x4x128x64 : Shape := ⟨7, ![4, 2, 128, 128, 4, 128, 64]⟩
abbrev S4x2x128x4x128x64 : Shape := ⟨6, ![4, 2, 128, 4, 128, 64]⟩
abbrev S4x128x128x2x4x64 : Shape := ⟨6, ![4, 128, 128, 2, 4, 64]⟩
abbrev S4x128x128x2x4 : Shape := ⟨5, ![4, 128, 128, 2, 4]⟩
abbrev S4x128x128x2x4x1 : Shape := ⟨6, ![4, 128, 128, 2, 4, 1]⟩

abbrev nBuf : Space → Nat
  | .hbm => 7
  | .vmem => 7
  | .smem => 0
  | _ => 0

abbrev bufTy : (tb : Table) → Fin (tcTables nBuf tb) → BufTy
  | .hbm, ⟨0, _⟩ => ⟨S4x128x1024x128, .fp8e4m3⟩
  | .hbm, ⟨1, _⟩ => ⟨S4x16384x128, .fp8e4m3⟩
  | .hbm, ⟨2, _⟩ => ⟨S4x128x128x128, .fp8e4m3⟩
  | .hbm, ⟨3, _⟩ => ⟨S4x128x8, .f32⟩
  | .hbm, ⟨4, _⟩ => ⟨S4x128x2, .f32⟩
  | .hbm, ⟨5, _⟩ => ⟨S4x128x2, .f32⟩
  | .hbm, ⟨6, _⟩ => ⟨S4x16384x512, .bf16⟩
  | .local _ .vmem, ⟨0, _⟩ => ⟨S4x128x1024x128, .fp8e4m3⟩
  | .local _ .vmem, ⟨1, _⟩ => ⟨S4x16384x128, .fp8e4m3⟩
  | .local _ .vmem, ⟨2, _⟩ => ⟨S4x128x128x128, .fp8e4m3⟩
  | .local _ .vmem, ⟨3, _⟩ => ⟨S4x128x8, .f32⟩
  | .local _ .vmem, ⟨4, _⟩ => ⟨S4x128x2, .f32⟩
  | .local _ .vmem, ⟨5, _⟩ => ⟨S4x128x2, .f32⟩
  | .local _ .vmem, ⟨6, _⟩ => ⟨S4x16384x512, .bf16⟩
  | _, _ => ⟨S4x128x1024x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x128x1024x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x16384x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x128x128x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x128x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x128x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x16384x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Quant.lean ====
abbrev S4x16384x512 : Shape := ⟨3, ![4, 16384, 512]⟩
abbrev S4x16384x128 : Shape := ⟨3, ![4, 16384, 128]⟩
abbrev S4x128x1024x128 : Shape := ⟨4, ![4, 128, 1024, 128]⟩
abbrev S4x128x512 : Shape := ⟨3, ![4, 128, 512]⟩
abbrev S4x128x128 : Shape := ⟨3, ![4, 128, 128]⟩
abbrev S4x128x128x128 : Shape := ⟨4, ![4, 128, 128, 128]⟩
abbrev S1x1024x512 : Shape := ⟨3, ![1, 1024, 512]⟩
abbrev S1x1024x128 : Shape := ⟨3, ![1, 1024, 128]⟩
abbrev S1x8x1024x128 : Shape := ⟨4, ![1, 8, 1024, 128]⟩
abbrev S1x8x512 : Shape := ⟨3, ![1, 8, 512]⟩
abbrev S1x8x128 : Shape := ⟨3, ![1, 8, 128]⟩
abbrev S1x8x128x128 : Shape := ⟨4, ![1, 8, 128, 128]⟩
abbrev S1024x512 : Shape := ⟨2, ![1024, 512]⟩
abbrev S8x128x512 : Shape := ⟨3, ![8, 128, 512]⟩
abbrev S8x512 : Shape := ⟨2, ![8, 512]⟩
abbrev S8 : Shape := ⟨1, ![8]⟩
abbrev S8x1 : Shape := ⟨2, ![8, 1]⟩
abbrev S8x1x512 : Shape := ⟨3, ![8, 1, 512]⟩
abbrev S1024x128 : Shape := ⟨2, ![1024, 128]⟩
abbrev S8x128x128 : Shape := ⟨3, ![8, 128, 128]⟩
abbrev S8x128 : Shape := ⟨2, ![8, 128]⟩
abbrev S8x1x128 : Shape := ⟨3, ![8, 1, 128]⟩
abbrev S128x128 : Shape := ⟨2, ![128, 128]⟩
abbrev S1x1x128x128 : Shape := ⟨4, ![1, 1, 128, 128]⟩

abbrev nBuf : Space → Nat
  | .hbm => 11
  | .vmem => 22
  | .smem => 0
  | _ => 0

abbrev bufTy : (tb : Table) → Fin (tcTables nBuf tb) → BufTy
  | .hbm, ⟨0, _⟩ => ⟨S4x16384x512, .bf16⟩
  | .hbm, ⟨1, _⟩ => ⟨S4x16384x128, .bf16⟩
  | .hbm, ⟨2, _⟩ => ⟨S4x16384x128, .bf16⟩
  | .hbm, ⟨3, _⟩ => ⟨S4x16384x512, .fp8e4m3⟩
  | .hbm, ⟨4, _⟩ => ⟨S4x128x1024x128, .fp8e4m3⟩
  | .hbm, ⟨5, _⟩ => ⟨S4x128x512, .f32⟩
  | .hbm, ⟨6, _⟩ => ⟨S4x16384x128, .fp8e4m3⟩
  | .hbm, ⟨7, _⟩ => ⟨S4x128x128, .f32⟩
  | .hbm, ⟨8, _⟩ => ⟨S4x16384x128, .fp8e4m3⟩
  | .hbm, ⟨9, _⟩ => ⟨S4x128x128x128, .fp8e4m3⟩
  | .hbm, ⟨10, _⟩ => ⟨S4x128x128, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x1024x512, .fp8e4m3⟩
  | .local _ .vmem, ⟨7, _⟩ => ⟨S1x1024x512, .fp8e4m3⟩
  | .local _ .vmem, ⟨8, _⟩ => ⟨S1x8x1024x128, .fp8e4m3⟩
  | .local _ .vmem, ⟨9, _⟩ => ⟨S1x8x1024x128, .fp8e4m3⟩
  | .local _ .vmem, ⟨10, _⟩ => ⟨S1x8x512, .f32⟩
  | .local _ .vmem, ⟨11, _⟩ => ⟨S1x8x512, .f32⟩
  | .local _ .vmem, ⟨12, _⟩ => ⟨S1x1024x128, .fp8e4m3⟩
  | .local _ .vmem, ⟨13, _⟩ => ⟨S1x1024x128, .fp8e4m3⟩
  | .local _ .vmem, ⟨14, _⟩ => ⟨S1x8x128, .f32⟩
  | .local _ .vmem, ⟨15, _⟩ => ⟨S1x8x128, .f32⟩
  | .local _ .vmem, ⟨16, _⟩ => ⟨S1x1024x128, .fp8e4m3⟩
  | .local _ .vmem, ⟨17, _⟩ => ⟨S1x1024x128, .fp8e4m3⟩
  | .local _ .vmem, ⟨18, _⟩ => ⟨S1x8x128x128, .fp8e4m3⟩
  | .local _ .vmem, ⟨19, _⟩ => ⟨S1x8x128x128, .fp8e4m3⟩
  | .local _ .vmem, ⟨20, _⟩ => ⟨S1x8x128, .f32⟩
  | .local _ .vmem, ⟨21, _⟩ => ⟨S1x8x128, .f32⟩
  | _, _ => ⟨S4x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x128x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== QuantReferenceIdeal.lean ====
abbrev S4x16384x512 : Shape := ⟨3, ![4, 16384, 512]⟩
abbrev S4x16384x128 : Shape := ⟨3, ![4, 16384, 128]⟩
abbrev S4x128x1024x128 : Shape := ⟨4, ![4, 128, 1024, 128]⟩
abbrev S4x128x512 : Shape := ⟨3, ![4, 128, 512]⟩
abbrev S4x128x128 : Shape := ⟨3, ![4, 128, 128]⟩
abbrev S4x128x128x128 : Shape := ⟨4, ![4, 128, 128, 128]⟩
abbrev S4x128x128x8x64 : Shape := ⟨5, ![4, 128, 128, 8, 64]⟩
abbrev S4x128x8 : Shape := ⟨3, ![4, 128, 8]⟩
abbrev S4x128x1x8x1 : Shape := ⟨5, ![4, 128, 1, 8, 1]⟩
abbrev S4x128x1x8x64 : Shape := ⟨5, ![4, 128, 1, 8, 64]⟩
abbrev S4x128x128x2x64 : Shape := ⟨5, ![4, 128, 128, 2, 64]⟩
abbrev S4x128x2 : Shape := ⟨3, ![4, 128, 2]⟩
abbrev S4x128x1x2x1 : Shape := ⟨5, ![4, 128, 1, 2, 1]⟩
abbrev S4x128x1x2x64 : Shape := ⟨5, ![4, 128, 1, 2, 64]⟩
abbrev S4x128x8x128x64 : Shape := ⟨5, ![4, 128, 8, 128, 64]⟩
abbrev S4x128x2x4x128x1x64 : Shape := ⟨7, ![4, 128, 2, 4, 128, 1, 64]⟩
abbrev S4x128x2x4x128x2x64 : Shape := ⟨7, ![4, 128, 2, 4, 128, 2, 64]⟩

abbrev nBuf : Space → Nat
  | .hbm => 11
  | .vmem => 11
  | .smem => 0
  | _ => 0

abbrev bufTy : (tb : Table) → Fin (tcTables nBuf tb) → BufTy
  | .hbm, ⟨0, _⟩ => ⟨S4x16384x512, .bf16⟩
  | .hbm, ⟨1, _⟩ => ⟨S4x16384x128, .bf16⟩
  | .hbm, ⟨2, _⟩ => ⟨S4x16384x128, .bf16⟩
  | .hbm, ⟨3, _⟩ => ⟨S4x16384x512, .fp8e4m3⟩
  | .hbm, ⟨4, _⟩ => ⟨S4x128x1024x128, .fp8e4m3⟩
  | .hbm, ⟨5, _⟩ => ⟨S4x128x512, .f32⟩
  | .hbm, ⟨6, _⟩ => ⟨S4x16384x128, .fp8e4m3⟩
  | .hbm, ⟨7, _⟩ => ⟨S4x128x128, .f32⟩
  | .hbm, ⟨8, _⟩ => ⟨S4x16384x128, .fp8e4m3⟩
  | .hbm, ⟨9, _⟩ => ⟨S4x128x128x128, .fp8e4m3⟩
  | .hbm, ⟨10, _⟩ => ⟨S4x128x128, .f32⟩
  | .local _ .vmem, ⟨0, _⟩ => ⟨S4x16384x512, .bf16⟩
  | .local _ .vmem, ⟨1, _⟩ => ⟨S4x16384x128, .bf16⟩
  | .local _ .vmem, ⟨2, _⟩ => ⟨S4x16384x128, .bf16⟩
  | .local _ .vmem, ⟨3, _⟩ => ⟨S4x16384x512, .fp8e4m3⟩
  | .local _ .vmem, ⟨4, _⟩ => ⟨S4x128x1024x128, .fp8e4m3⟩
  | .local _ .vmem, ⟨5, _⟩ => ⟨S4x128x512, .f32⟩
  | .local _ .vmem, ⟨6, _⟩ => ⟨S4x16384x128, .fp8e4m3⟩
  | .local _ .vmem, ⟨7, _⟩ => ⟨S4x128x128, .f32⟩
  | .local _ .vmem, ⟨8, _⟩ => ⟨S4x16384x128, .fp8e4m3⟩
  | .local _ .vmem, ⟨9, _⟩ => ⟨S4x128x128x128, .fp8e4m3⟩
  | .local _ .vmem, ⟨10, _⟩ => ⟨S4x128x128, .f32⟩
  | _, _ => ⟨S4x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S4x16384x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x16384x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x128x1024x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x16384x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x16384x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x128x128x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.BTrip.lean ====
module

public import proofs.«01_k».proof.Proof.Gen.Kernel.Loops
public import proofs.«01_k».proof.Proof.Gen.Kernel.Frame

@[expose] public section

set_option maxRecDepth 8192

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

section Trip

variable (c : Dev nD) (i : grid0.Coords)
  (arg2 : Memref sig .tc .vmem S1x1x1024x128 .fp8e4m3) (harg2 : arg2.IsWhole)
  (arg3 : Memref sig .tc .vmem S1x128x128x128 .fp8e4m3) (harg3 : arg3.IsWhole)
  (arg4 : Memref sig .tc .vmem S1x128x128x128 .fp8e4m3) (harg4 : arg4.IsWhole)
  (arg5 : Memref sig .tc .vmem S1x1x8x128 .f32) (harg5 : arg5.IsWhole)
  (arg6 : Memref sig .tc .vmem S1x128x8x128 .f32) (harg6 : arg6.IsWhole)
  (arg7 : Memref sig .tc .vmem S1x128x8x128 .f32) (harg7 : arg7.IsWhole)
  (arg8 : Memref sig .tc .vmem S1x128x512 .bf16) (harg8 : arg8.IsWhole)
  (arg9 : Memref sig .tc .vmem S128x1024 .f32) (harg9 : arg9.IsWhole)
  (arg10 : Memref sig .tc .vmem S128x1024 .fp8e4m3) (harg10 : arg10.IsWhole)
  (arg11 : Memref sig .tc .vmem S512x128 .f32) (harg11 : arg11.IsWhole)
  (arg12 : Memref sig .tc .vmem S8x128 .f32) (harg12 : arg12.IsWhole)
  (arg13 : Memref sig .tc .vmem S8x128 .f32) (harg13 : arg13.IsWhole)
  (arg14 : Memref sig .tc .vmem S8x128 .f32) (harg14 : arg14.IsWhole)
  (arg1 : BitVec 32) (v1 : FVec F S1024x128 .fp8e4m3) (v24 : FVec F S128x1024 .f32)
  (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ)))

/-- What a trip holds: the four inputs it reads, and the six scratch buffers. -/
abbrev Trip (fS : Buf (Elt F) (arg9.view.loc (c : Thread nD τ))) (fP : Buf (Elt F) (arg10.view.loc (c : Thread nD τ))) (fO : Buf (Elt F) (arg11.view.loc (c : Thread nD τ))) (fT : Buf (Elt F) (arg12.view.loc (c : Thread nD τ))) (fL : Buf (Elt F) (arg13.view.loc (c : Thread nD τ))) (fA : Buf (Elt F) (arg14.view.loc (c : Thread nD τ))) : sProp 𝕄 :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} fS) ∗ (arg10.view.loc (c : Thread nD τ) ↦[arg10.view.set]{fullShare} fP) ∗ (arg11.view.loc (c : Thread nD τ) ↦[arg11.view.set]{fullShare} fO) ∗ (arg12.view.loc (c : Thread nD τ) ↦[arg12.view.set]{fullShare} fT) ∗ (arg13.view.loc (c : Thread nD τ) ↦[arg13.view.set]{fullShare} fL) ∗ (arg14.view.loc (c : Thread nD τ) ↦[arg14.view.set]{fullShare} fA))

set_option maxHeartbeats 4000000 in
/-- One trip, whatever the scratches hold: each scratch gains the trip's stores, found by the run. -/
@[irreducible] def trip (k : Fin (k0_t1_loop i).trips) :
    Σ' (LS : (Buf (Elt F) (arg9.view.loc (c : Thread nD τ))) → (Buf (Elt F) (arg10.view.loc (c : Thread nD τ))) → (Buf (Elt F) (arg11.view.loc (c : Thread nD τ))) → (Buf (Elt F) (arg12.view.loc (c : Thread nD τ))) → (Buf (Elt F) (arg13.view.loc (c : Thread nD τ))) → (Buf (Elt F) (arg14.view.loc (c : Thread nD τ))) → List (View.Piece (Elt F) S128x1024 .f32)) (LP : (Buf (Elt F) (arg9.view.loc (c : Thread nD τ))) → (Buf (Elt F) (arg10.view.loc (c : Thread nD τ))) → (Buf (Elt F) (arg11.view.loc (c : Thread nD τ))) → (Buf (Elt F) (arg12.view.loc (c : Thread nD τ))) → (Buf (Elt F) (arg13.view.loc (c : Thread nD τ))) → (Buf (Elt F) (arg14.view.loc (c : Thread nD τ))) → List (View.Piece (Elt F) S128x1024 .fp8e4m3)) (LO : (Buf (Elt F) (arg9.view.loc (c : Thread nD τ))) → (Buf (Elt F) (arg10.view.loc (c : Thread nD τ))) → (Buf (Elt F) (arg11.view.loc (c : Thread nD τ))) → (Buf (Elt F) (arg12.view.loc (c : Thread nD τ))) → (Buf (Elt F) (arg13.view.loc (c : Thread nD τ))) → (Buf (Elt F) (arg14.view.loc (c : Thread nD τ))) → List (View.Piece (Elt F) S512x128 .f32)) (LT : (Buf (Elt F) (arg9.view.loc (c : Thread nD τ))) → (Buf (Elt F) (arg10.view.loc (c : Thread nD τ))) → (Buf (Elt F) (arg11.view.loc (c : Thread nD τ))) → (Buf (Elt F) (arg12.view.loc (c : Thread nD τ))) → (Buf (Elt F) (arg13.view.loc (c : Thread nD τ))) → (Buf (Elt F) (arg14.view.loc (c : Thread nD τ))) → List (View.Piece (Elt F) S8x128 .f32)) (LL : (Buf (Elt F) (arg9.view.loc (c : Thread nD τ))) → (Buf (Elt F) (arg10.view.loc (c : Thread nD τ))) → (Buf (Elt F) (arg11.view.loc (c : Thread nD τ))) → (Buf (Elt F) (arg12.view.loc (c : Thread nD τ))) → (Buf (Elt F) (arg13.view.loc (c : Thread nD τ))) → (Buf (Elt F) (arg14.view.loc (c : Thread nD τ))) → List (View.Piece (Elt F) S8x128 .f32)),
    { LA : (Buf (Elt F) (arg9.view.loc (c : Thread nD τ))) → (Buf (Elt F) (arg10.view.loc (c : Thread nD τ))) → (Buf (Elt F) (arg11.view.loc (c : Thread nD τ))) → (Buf (Elt F) (arg12.view.loc (c : Thread nD τ))) → (Buf (Elt F) (arg13.view.loc (c : Thread nD τ))) → (Buf (Elt F) (arg14.view.loc (c : Thread nD τ))) → List (View.Piece (Elt F) S8x128 .f32) //
      ∀ (fS : Buf (Elt F) (arg9.view.loc (c : Thread nD τ))) (fP : Buf (Elt F) (arg10.view.loc (c : Thread nD τ))) (fO : Buf (Elt F) (arg11.view.loc (c : Thread nD τ))) (fT : Buf (Elt F) (arg12.view.loc (c : Thread nD τ))) (fL : Buf (Elt F) (arg13.view.loc (c : Thread nD τ))) (fA : Buf (Elt F) (arg14.view.loc (c : Thread nD τ))),
        Trip c arg3 arg4 arg5 arg6 arg7 arg9 arg10 arg11 arg12 arg13 arg14 X3 X4 X5 X6 X7 fS fP fO fT fL fA
          ⊢ wp frame (wpE (defs₀ (F := F)) Variants.none (c : Thread nD τ) none) Set.univ
              (k0_t1_body (F := F) i arg2 harg2 arg3 harg3 arg4 harg4 arg5 harg5 arg6 harg6 arg7 harg7 arg8 harg8 arg9 harg9 arg10 harg10 arg11 harg11 arg12 harg12 arg13 harg13 arg14 harg14 arg1 v1 v24 k ())
              (fun _ => Trip c arg3 arg4 arg5 arg6 arg7 arg9 arg10 arg11 arg12 arg13 arg14 X3 X4 X5 X6 X7 (arg9.view.writes (Elt F) fS (LS fS fP fO fT fL fA)) (arg10.view.writes (Elt F) fP (LP fS fP fO fT fL fA)) (arg11.view.writes (Elt F) fO (LO fS fP fO fT fL fA)) (arg12.view.writes (Elt F) fT (LT fS fP fO fT fL fA)) (arg13.view.writes (Elt F) fL (LL fS fP fO fT fL fA)) (arg14.view.writes (Elt F) fA (LA fS fP fO fT fL fA))) } := by
  refine ⟨?_, ?_, ?_, ?_, ?_, ?_, fun fS fP fO fT fL fA => ?run⟩
  case run =>
    unfold k0_t1_body
    iintro ⟨H3, H4, H5, H6, H7, HS, HP, HO, HT, HL, HA⟩
    sl_exec_parts
    sl_step
    sl_close

theorem trips1 : (k0_t1_loop i).trips = (i 1).val := by
  unfold k0_t1_loop
  have h : ∀ n : Fin 128, (⟨0#32, Scalar.addi 0#32 (Scalar.muli (Scalar.divsi (Scalar.subi (BitVec.ofNat 32 n.val) 0#32) 1#32) 1#32), 1#32⟩ : Scf.Loop 32).trips = n.val := by
    decide +kernel
  exact h (i 1)

/-- The six scratch buffers' contents. -/
abbrev St : Type := Buf (Elt F) (arg9.view.loc (c : Thread nD τ)) × Buf (Elt F) (arg10.view.loc (c : Thread nD τ)) × Buf (Elt F) (arg11.view.loc (c : Thread nD τ)) × Buf (Elt F) (arg12.view.loc (c : Thread nD τ)) × Buf (Elt F) (arg13.view.loc (c : Thread nD τ)) × Buf (Elt F) (arg14.view.loc (c : Thread nD τ))

/-- One trip's effect on them. -/
def stepSt (k : Fin (k0_t1_loop i).trips) (s : St (F := F) c arg9 arg10 arg11 arg12 arg13 arg14) : St (F := F) c arg9 arg10 arg11 arg12 arg13 arg14 :=
  let t := trip c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 k
  (arg9.view.writes (Elt F) s.1 (t.1 s.1 s.2.1 s.2.2.1 s.2.2.2.1 s.2.2.2.2.1 s.2.2.2.2.2), arg10.view.writes (Elt F) s.2.1 (t.2.1 s.1 s.2.1 s.2.2.1 s.2.2.2.1 s.2.2.2.2.1 s.2.2.2.2.2), arg11.view.writes (Elt F) s.2.2.1 (t.2.2.1 s.1 s.2.1 s.2.2.1 s.2.2.2.1 s.2.2.2.2.1 s.2.2.2.2.2), arg12.view.writes (Elt F) s.2.2.2.1 (t.2.2.2.1 s.1 s.2.1 s.2.2.1 s.2.2.2.1 s.2.2.2.2.1 s.2.2.2.2.2), arg13.view.writes (Elt F) s.2.2.2.2.1 (t.2.2.2.2.1 s.1 s.2.1 s.2.2.1 s.2.2.2.1 s.2.2.2.2.1 s.2.2.2.2.2), arg14.view.writes (Elt F) s.2.2.2.2.2 (t.2.2.2.2.2.1 s.1 s.2.1 s.2.2.1 s.2.2.2.1 s.2.2.2.2.1 s.2.2.2.2.2))

/-- Their contents before trip `k`, from those the loop is entered with. -/
def st (g : St (F := F) c arg9 arg10 arg11 arg12 arg13 arg14) : ℕ → St (F := F) c arg9 arg10 arg11 arg12 arg13 arg14
  | 0 => g
  | k + 1 => if h : k < (k0_t1_loop i).trips then
      stepSt c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 ⟨k, h⟩ (st g k)
    else st g k

theorem st_succ (g : St (F := F) c arg9 arg10 arg11 arg12 arg13 arg14) (k : Fin (k0_t1_loop i).trips) :
    st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 g (k.val + 1)
      = stepSt c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 k (st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 g k.val) := by
  rw [st, dif_pos k.isLt]

/-- The first of two things at 0, the second from 1 on. -/
abbrev pick {α : Type} : ℕ → α → α → α
  | 0, a, _ => a
  | _ + 1, _, b => b

theorem pick_succ {α : Type} (k : ℕ) (a b : α) : pick (k + 1) a b = b := rfl

theorem pick_eq {α : Type} : ∀ (k : ℕ) (a b : α), (k = 0 → a = b) → pick k a b = b
  | 0, _, _, h => h rfl
  | _ + 1, _, _, _ => rfl

set_option warn.classDefReducibility false in
/-- The main loop: before trip `k` the scratches hold what `k` trips leave. -/
@[sl_loop] def loopInv1 (gS : Buf (Elt F) (arg9.view.loc (c : Thread nD τ))) (gP : Buf (Elt F) (arg10.view.loc (c : Thread nD τ))) (gO : Buf (Elt F) (arg11.view.loc (c : Thread nD τ))) (gT : Buf (Elt F) (arg12.view.loc (c : Thread nD τ))) (gL : Buf (Elt F) (arg13.view.loc (c : Thread nD τ))) (gA : Buf (Elt F) (arg14.view.loc (c : Thread nD τ))) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg1 v1 v24 where
  inv k _ := Trip c arg3 arg4 arg5 arg6 arg7 arg9 arg10 arg11 arg12 arg13 arg14 X3 X4 X5 X6 X7 (pick k gS (st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 (gS, gP, gO, gT, gL, gA) k).1) (pick k gP (st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 (gS, gP, gO, gT, gL, gA) k).2.1) (pick k gO (st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 (gS, gP, gO, gT, gL, gA) k).2.2.1) (pick k gT (st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 (gS, gP, gO, gT, gL, gA) k).2.2.2.1) (pick k gL (st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 (gS, gP, gO, gT, gL, gA) k).2.2.2.2.1) (pick k gA (st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 (gS, gP, gO, gT, gL, gA) k).2.2.2.2.2)
  step k _ := by
    have e : ∀ {α : Type} (p : St (F := F) c arg9 arg10 arg11 arg12 arg13 arg14 → α), pick k.val (p (gS, gP, gO, gT, gL, gA)) (p (st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 (gS, gP, gO, gT, gL, gA) k.val))
        = p (st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 (gS, gP, gO, gT, gL, gA) k.val) := fun p => pick_eq _ _ _ fun h => by rw [h]; rfl
    have e1 := e fun s => s.1
    have e2 := e fun s => s.2.1
    have e3 := e fun s => s.2.2.1
    have e4 := e fun s => s.2.2.2.1
    have e5 := e fun s => s.2.2.2.2.1
    have e6 := e fun s => s.2.2.2.2.2
    dsimp only at e1 e2 e3 e4 e5 e6
    rw [e1, e2, e3, e4, e5, e6, pick_succ, pick_succ, pick_succ, pick_succ, pick_succ, pick_succ, st_succ]
    generalize st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 (gS, gP, gO, gT, gL, gA) k.val = s
    exact (trip c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 k).2.2.2.2.2.2 s.1 s.2.1 s.2.2.1 s.2.2.2.1 s.2.2.2.2.1 s.2.2.2.2.2

/-- The second loop has no trip. -/
theorem trips2 : (k0_t2_loop i).trips = 0 := by
  unfold k0_t2_loop
  have h : ∀ n : Fin 128, (⟨Scalar.addi 0#32 (Scalar.muli (Scalar.divsi (Scalar.subi (BitVec.ofNat 32 n.val) 0#32) 1#32) 1#32), Scalar.addi 0#32 (Scalar.subi (BitVec.ofNat 32 n.val) 0#32), 1#32⟩ : Scf.Loop 32).trips = 0 := by
    decide +kernel
  exact h (i 1)

variable (v32 : BitVec 32)

set_option warn.classDefReducibility false in
/-- The second loop, of no trip: the scratches as the first leaves them. -/
@[sl_loop] def loopInv2 (gS : Buf (Elt F) (arg9.view.loc (c : Thread nD τ))) (gP : Buf (Elt F) (arg10.view.loc (c : Thread nD τ))) (gO : Buf (Elt F) (arg11.view.loc (c : Thread nD τ))) (gT : Buf (Elt F) (arg12.view.loc (c : Thread nD τ))) (gL : Buf (Elt F) (arg13.view.loc (c : Thread nD τ))) (gA : Buf (Elt F) (arg14.view.loc (c : Thread nD τ))) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg1 v1 v24 v32 where
  inv _ _ := Trip c arg3 arg4 arg5 arg6 arg7 arg9 arg10 arg11 arg12 arg13 arg14 X3 X4 X5 X6 X7 gS gP gO gT gL gA
  step k _ := (Nat.not_lt_zero _ (Nat.lt_of_lt_of_eq k.isLt (trips2 i))).elim

end Trip

section Run

variable (c : Dev nD) (i : grid0.Coords)
  (arg2 : Memref sig .tc .vmem S1x1x1024x128 .fp8e4m3) (harg2 : arg2.IsWhole)
  (arg3 : Memref sig .tc .vmem S1x128x128x128 .fp8e4m3) (harg3 : arg3.IsWhole)
  (arg4 : Memref sig .tc .vmem S1x128x128x128 .fp8e4m3) (harg4 : arg4.IsWhole)
  (arg5 : Memref sig .tc .vmem S1x1x8x128 .f32) (harg5 : arg5.IsWhole)
  (arg6 : Memref sig .tc .vmem S1x128x8x128 .f32) (harg6 : arg6.IsWhole)
  (arg7 : Memref sig .tc .vmem S1x128x8x128 .f32) (harg7 : arg7.IsWhole)
  (arg8 : Memref sig .tc .vmem S1x128x512 .bf16) (harg8 : arg8.IsWhole)
  (arg9 : Memref sig .tc .vmem S128x1024 .f32) (harg9 : arg9.IsWhole)
  (arg10 : Memref sig .tc .vmem S128x1024 .fp8e4m3) (harg10 : arg10.IsWhole)
  (arg11 : Memref sig .tc .vmem S512x128 .f32) (harg11 : arg11.IsWhole)
  (arg12 : Memref sig .tc .vmem S8x128 .f32) (harg12 : arg12.IsWhole)
  (arg13 : Memref sig .tc .vmem S8x128 .f32) (harg13 : arg13.IsWhole)
  (arg14 : Memref sig .tc .vmem S8x128 .f32) (harg14 : arg14.IsWhole)
  (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ)))

/-- Before the body: the inputs, the output window and the scratches. -/
abbrev RunPre (f8 : Buf (Elt F) (arg8.view.loc (c : Thread nD τ))) (fS : Buf (Elt F) (arg9.view.loc (c : Thread nD τ))) (fP : Buf (Elt F) (arg10.view.loc (c : Thread nD τ))) (fO : Buf (Elt F) (arg11.view.loc (c : Thread nD τ))) (fT : Buf (Elt F) (arg12.view.loc (c : Thread nD τ))) (fL : Buf (Elt F) (arg13.view.loc (c : Thread nD τ))) (fA : Buf (Elt F) (arg14.view.loc (c : Thread nD τ))) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} fS) ∗ (arg10.view.loc (c : Thread nD τ) ↦[arg10.view.set]{fullShare} fP) ∗ (arg11.view.loc (c : Thread nD τ) ↦[arg11.view.set]{fullShare} fO) ∗ (arg12.view.loc (c : Thread nD τ) ↦[arg12.view.set]{fullShare} fT) ∗ (arg13.view.loc (c : Thread nD τ) ↦[arg13.view.set]{fullShare} fL) ∗ (arg14.view.loc (c : Thread nD τ) ↦[arg14.view.set]{fullShare} fA))

/-- After the body: the inputs as they were, the output window at `g8`, the scratches at something. -/
abbrev RunPost (g8 : Buf (Elt F) (arg8.view.loc (c : Thread nD τ))) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} g8) ∗ (∃ f : Buf (Elt F) (arg9.view.loc (c : Thread nD τ)), (arg9.view.loc (c : Thread nD τ) ↦[arg9.view.set]{fullShare} f)) ∗ (∃ f : Buf (Elt F) (arg10.view.loc (c : Thread nD τ)), (arg10.view.loc (c : Thread nD τ) ↦[arg10.view.set]{fullShare} f)) ∗ (∃ f : Buf (Elt F) (arg11.view.loc (c : Thread nD τ)), (arg11.view.loc (c : Thread nD τ) ↦[arg11.view.set]{fullShare} f)) ∗ (∃ f : Buf (Elt F) (arg12.view.loc (c : Thread nD τ)), (arg12.view.loc (c : Thread nD τ) ↦[arg12.view.set]{fullShare} f)) ∗ (∃ f : Buf (Elt F) (arg13.view.loc (c : Thread nD τ)), (arg13.view.loc (c : Thread nD τ) ↦[arg13.view.set]{fullShare} f)) ∗ (∃ f : Buf (Elt F) (arg14.view.loc (c : Thread nD τ)), (arg14.view.loc (c : Thread nD τ) ↦[arg14.view.set]{fullShare} f)))

set_option maxHeartbeats 8000000 in
/-- The body: the inputs stay, the scratches are left at something, and the output gains the stores the run finds. -/
@[irreducible] def run :
    { L8 : List (View.Piece (Elt F) S1x128x512 .bf16) //
      ∀ (f8 : Buf (Elt F) (arg8.view.loc (c : Thread nD τ))) (fS : Buf (Elt F) (arg9.view.loc (c : Thread nD τ))) (fP : Buf (Elt F) (arg10.view.loc (c : Thread nD τ))) (fO : Buf (Elt F) (arg11.view.loc (c : Thread nD τ))) (fT : Buf (Elt F) (arg12.view.loc (c : Thread nD τ))) (fL : Buf (Elt F) (arg13.view.loc (c : Thread nD τ))) (fA : Buf (Elt F) (arg14.view.loc (c : Thread nD τ))),
        RunPre c arg2 arg3 arg4 arg5 arg6 arg7 arg8 arg9 arg10 arg11 arg12 arg13 arg14 X2 X3 X4 X5 X6 X7 f8 fS fP fO fT fL fA
          ⊢ wp frame (wpE (defs₀ (F := F)) Variants.none (c : Thread nD τ) none) Set.univ
              (cc0_softcap_attention (F := F) i arg2 harg2 arg3 harg3 arg4 harg4 arg5 harg5 arg6 harg6 arg7 harg7 arg8 harg8 arg9 harg9 arg10 harg10 arg11 harg11 arg12 harg12 arg13 harg13 arg14 harg14)
              (fun _ => RunPost c arg2 arg3 arg4 arg5 arg6 arg7 arg8 arg9 arg10 arg11 arg12 arg13 arg14 X2 X3 X4 X5 X6 X7 (arg8.view.writes (Elt F) f8 L8)) } := by
  refine ⟨?_, fun f8 fS fP fO fT fL fA => ?run⟩
  case run =>
    unfold cc0_softcap_attention
    iintro ⟨H2, H3, H4, H5, H6, H7, H8, HS, HP, HO, HT, HL, HA⟩
    sl_exec_parts
    sl_step
    sl_close

end Run

end Cert.Kernel.Own
-- ==== Proof.BFrame.lean ====
/-
  The frame of the kernel in namespace `Kernel`: the body leaves every input block as it finds it and the scratches at
  something; nothing is said here of what it stores in the result.
-/
module

public import proofs.«01_k».proof.Proof.BTrip

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The class's invariant: the six scratches owned at something, and the generator's register. -/
theorem PhiA_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA
  rw [scopedRest0_eq]; simp only [owns_whole]; try rfl

/-- What the run asks of the body, for any continuation. -/
theorem sound_kernel (c : Dev nD) (i : grid0.Coords) (arg2 : Memref sig .tc .vmem S1x1x1024x128 .fp8e4m3) (harg2 : arg2.IsWhole)
  (arg3 : Memref sig .tc .vmem S1x128x128x128 .fp8e4m3) (harg3 : arg3.IsWhole)
  (arg4 : Memref sig .tc .vmem S1x128x128x128 .fp8e4m3) (harg4 : arg4.IsWhole)
  (arg5 : Memref sig .tc .vmem S1x1x8x128 .f32) (harg5 : arg5.IsWhole)
  (arg6 : Memref sig .tc .vmem S1x128x8x128 .f32) (harg6 : arg6.IsWhole)
  (arg7 : Memref sig .tc .vmem S1x128x8x128 .f32) (harg7 : arg7.IsWhole)
  (arg8 : Memref sig .tc .vmem S1x128x512 .bf16) (harg8 : arg8.IsWhole)
  (arg9 : Memref sig .tc .vmem S128x1024 .f32) (harg9 : arg9.IsWhole)
  (arg10 : Memref sig .tc .vmem S128x1024 .fp8e4m3) (harg10 : arg10.IsWhole)
  (arg11 : Memref sig .tc .vmem S512x128 .f32) (harg11 : arg11.IsWhole)
  (arg12 : Memref sig .tc .vmem S8x128 .f32) (harg12 : arg12.IsWhole)
  (arg13 : Memref sig .tc .vmem S8x128 .f32) (harg13 : arg13.IsWhole)
  (arg14 : Memref sig .tc .vmem S8x128 .f32) (harg14 : arg14.IsWhole)
    (x2 : Vec F S1x1x1024x128 .fp8e4m3) (x3 : Vec F S1x128x128x128 .fp8e4m3) (x4 : Vec F S1x128x128x128 .fp8e4m3) (x5 : Vec F S1x1x8x128 .f32) (x6 : Vec F S1x128x8x128 .f32) (x7 : Vec F S1x128x8x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none (c : Thread nD τ) none) Set.univ
          (cc0_softcap_attention (F := F) i arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  iapply (wp_wand_r Idealize.ShloMosaic.frame (wpE (defs₀ (F := F)) Variants.none (c : Thread nD τ) none) Set.univ)
  isplitr [Hk]
  · iapply ((run c i arg2 harg2 arg3 harg3 arg4 harg4 arg5 harg5 arg6 harg6 arg7 harg7 arg8 harg8 arg9 harg9 arg10 harg10 arg11 harg11 arg12 harg12 arg13 harg13 arg14 harg14 f2 f3 f4 f5 f6 f7).2 f8 f9 f10 f11 f12 f13 f14)
    unfold RunPre
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro %u
  unfold RunPost
  iintro ⟨H2, H3, H4, H5, H6, H7, H8, ⟨%g9, H9⟩, ⟨%g10, H10⟩, ⟨%g11, H11⟩, ⟨%g12, H12⟩, ⟨%g13, H13⟩, ⟨%g14, H14⟩⟩
  iapply Hk
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

/-- The result's window is the one nothing is said of. -/
def forgets : Fin 7 → Bool := ![false, false, false, false, false, false, true]

/-- The proof data: the arrays as the region finds them, each input's buffer left at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4, after0_5]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, H6⟩
  iapply (sound_kernel c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, S0, S1, S2, S3, S4, S5⟩
  isplitl [S0 S1 S2 S3 S4 S5 Hg]
  · isplitr [Hg]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
set_option maxHeartbeats 800000 in
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends, with the arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(Pipeline.RDat.FramePost.arr_in h.1 c 0 rfl).trans (V_main_arg0 m c),
      ((h.1 c).2 main_arg1 (Pipeline.mem_restRefs_of main_arg1 (by decide) (by decide))).trans (V_main_arg1 m c),
      (Pipeline.RDat.FramePost.arr_in h.1 c 2 rfl).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run_main m ρ)

end Cert.Kernel.Own

end
-- ==== Proof.KTrip.lean ====
module

public import proofs.«01_k».proof.Proof.Gen.KernelIdeal.Loops
public import proofs.«01_k».proof.Proof.Gen.KernelIdeal.Frame

@[expose] public section

set_option maxRecDepth 8192

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

section Trip

variable (c : Dev nD) (i : grid0.Coords)
  (arg2 : Memref sig .tc .vmem S1x1x1024x128 .fp8e4m3) (harg2 : arg2.IsWhole)
  (arg3 : Memref sig .tc .vmem S1x128x128x128 .fp8e4m3) (harg3 : arg3.IsWhole)
  (arg4 : Memref sig .tc .vmem S1x128x128x128 .fp8e4m3) (harg4 : arg4.IsWhole)
  (arg5 : Memref sig .tc .vmem S1x1x8x128 .f32) (harg5 : arg5.IsWhole)
  (arg6 : Memref sig .tc .vmem S1x128x8x128 .f32) (harg6 : arg6.IsWhole)
  (arg7 : Memref sig .tc .vmem S1x128x8x128 .f32) (harg7 : arg7.IsWhole)
  (arg8 : Memref sig .tc .vmem S1x128x512 .bf16) (harg8 : arg8.IsWhole)
  (arg9 : Memref sig .tc .vmem S128x1024 .f32) (harg9 : arg9.IsWhole)
  (arg10 : Memref sig .tc .vmem S128x1024 .fp8e4m3) (harg10 : arg10.IsWhole)
  (arg11 : Memref sig .tc .vmem S512x128 .f32) (harg11 : arg11.IsWhole)
  (arg12 : Memref sig .tc .vmem S8x128 .f32) (harg12 : arg12.IsWhole)
  (arg13 : Memref sig .tc .vmem S8x128 .f32) (harg13 : arg13.IsWhole)
  (arg14 : Memref sig .tc .vmem S8x128 .f32) (harg14 : arg14.IsWhole)
  (arg1 : BitVec 32) (v1 : FVec F S1024x128 .fp8e4m3) (v24 : FVec F S128x1024 .f32)
  (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ)))

/-- What a trip holds: the four inputs it reads, and the six scratch buffers. -/
abbrev Trip (fS : Buf (Elt F) (arg9.view.loc (c : Thread nD τ))) (fP : Buf (Elt F) (arg10.view.loc (c : Thread nD τ))) (fO : Buf (Elt F) (arg11.view.loc (c : Thread nD τ))) (fT : Buf (Elt F) (arg12.view.loc (c : Thread nD τ))) (fL : Buf (Elt F) (arg13.view.loc (c : Thread nD τ))) (fA : Buf (Elt F) (arg14.view.loc (c : Thread nD τ))) : sProp 𝕄 :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} fS) ∗ (arg10.view.loc (c : Thread nD τ) ↦[arg10.view.set]{fullShare} fP) ∗ (arg11.view.loc (c : Thread nD τ) ↦[arg11.view.set]{fullShare} fO) ∗ (arg12.view.loc (c : Thread nD τ) ↦[arg12.view.set]{fullShare} fT) ∗ (arg13.view.loc (c : Thread nD τ) ↦[arg13.view.set]{fullShare} fL) ∗ (arg14.view.loc (c : Thread nD τ) ↦[arg14.view.set]{fullShare} fA))

set_option maxHeartbeats 4000000 in
/-- One trip, whatever the scratches hold: each scratch gains the trip's stores, found by the run. -/
@[irreducible] def trip (k : Fin (k0_t1_loop i).trips) :
    Σ' (LS : (Buf (Elt F) (arg9.view.loc (c : Thread nD τ))) → (Buf (Elt F) (arg10.view.loc (c : Thread nD τ))) → (Buf (Elt F) (arg11.view.loc (c : Thread nD τ))) → (Buf (Elt F) (arg12.view.loc (c : Thread nD τ))) → (Buf (Elt F) (arg13.view.loc (c : Thread nD τ))) → (Buf (Elt F) (arg14.view.loc (c : Thread nD τ))) → List (View.Piece (Elt F) S128x1024 .f32)) (LP : (Buf (Elt F) (arg9.view.loc (c : Thread nD τ))) → (Buf (Elt F) (arg10.view.loc (c : Thread nD τ))) → (Buf (Elt F) (arg11.view.loc (c : Thread nD τ))) → (Buf (Elt F) (arg12.view.loc (c : Thread nD τ))) → (Buf (Elt F) (arg13.view.loc (c : Thread nD τ))) → (Buf (Elt F) (arg14.view.loc (c : Thread nD τ))) → List (View.Piece (Elt F) S128x1024 .fp8e4m3)) (LO : (Buf (Elt F) (arg9.view.loc (c : Thread nD τ))) → (Buf (Elt F) (arg10.view.loc (c : Thread nD τ))) → (Buf (Elt F) (arg11.view.loc (c : Thread nD τ))) → (Buf (Elt F) (arg12.view.loc (c : Thread nD τ))) → (Buf (Elt F) (arg13.view.loc (c : Thread nD τ))) → (Buf (Elt F) (arg14.view.loc (c : Thread nD τ))) → List (View.Piece (Elt F) S512x128 .f32)) (LT : (Buf (Elt F) (arg9.view.loc (c : Thread nD τ))) → (Buf (Elt F) (arg10.view.loc (c : Thread nD τ))) → (Buf (Elt F) (arg11.view.loc (c : Thread nD τ))) → (Buf (Elt F) (arg12.view.loc (c : Thread nD τ))) → (Buf (Elt F) (arg13.view.loc (c : Thread nD τ))) → (Buf (Elt F) (arg14.view.loc (c : Thread nD τ))) → List (View.Piece (Elt F) S8x128 .f32)) (LL : (Buf (Elt F) (arg9.view.loc (c : Thread nD τ))) → (Buf (Elt F) (arg10.view.loc (c : Thread nD τ))) → (Buf (Elt F) (arg11.view.loc (c : Thread nD τ))) → (Buf (Elt F) (arg12.view.loc (c : Thread nD τ))) → (Buf (Elt F) (arg13.view.loc (c : Thread nD τ))) → (Buf (Elt F) (arg14.view.loc (c : Thread nD τ))) → List (View.Piece (Elt F) S8x128 .f32)),
    { LA : (Buf (Elt F) (arg9.view.loc (c : Thread nD τ))) → (Buf (Elt F) (arg10.view.loc (c : Thread nD τ))) → (Buf (Elt F) (arg11.view.loc (c : Thread nD τ))) → (Buf (Elt F) (arg12.view.loc (c : Thread nD τ))) → (Buf (Elt F) (arg13.view.loc (c : Thread nD τ))) → (Buf (Elt F) (arg14.view.loc (c : Thread nD τ))) → List (View.Piece (Elt F) S8x128 .f32) //
      ∀ (fS : Buf (Elt F) (arg9.view.loc (c : Thread nD τ))) (fP : Buf (Elt F) (arg10.view.loc (c : Thread nD τ))) (fO : Buf (Elt F) (arg11.view.loc (c : Thread nD τ))) (fT : Buf (Elt F) (arg12.view.loc (c : Thread nD τ))) (fL : Buf (Elt F) (arg13.view.loc (c : Thread nD τ))) (fA : Buf (Elt F) (arg14.view.loc (c : Thread nD τ))),
        Trip c arg3 arg4 arg5 arg6 arg7 arg9 arg10 arg11 arg12 arg13 arg14 X3 X4 X5 X6 X7 fS fP fO fT fL fA
          ⊢ wp frame (wpE (defs₀ (F := F)) Variants.none (c : Thread nD τ) none) Set.univ
              (k0_t1_body (F := F) i arg2 harg2 arg3 harg3 arg4 harg4 arg5 harg5 arg6 harg6 arg7 harg7 arg8 harg8 arg9 harg9 arg10 harg10 arg11 harg11 arg12 harg12 arg13 harg13 arg14 harg14 arg1 v1 v24 k ())
              (fun _ => Trip c arg3 arg4 arg5 arg6 arg7 arg9 arg10 arg11 arg12 arg13 arg14 X3 X4 X5 X6 X7 (arg9.view.writes (Elt F) fS (LS fS fP fO fT fL fA)) (arg10.view.writes (Elt F) fP (LP fS fP fO fT fL fA)) (arg11.view.writes (Elt F) fO (LO fS fP fO fT fL fA)) (arg12.view.writes (Elt F) fT (LT fS fP fO fT fL fA)) (arg13.view.writes (Elt F) fL (LL fS fP fO fT fL fA)) (arg14.view.writes (Elt F) fA (LA fS fP fO fT fL fA))) } := by
  refine ⟨?_, ?_, ?_, ?_, ?_, ?_, fun fS fP fO fT fL fA => ?run⟩
  case run =>
    unfold k0_t1_body
    iintro ⟨H3, H4, H5, H6, H7, HS, HP, HO, HT, HL, HA⟩
    sl_exec_parts
    sl_step
    sl_close

theorem trips1 : (k0_t1_loop i).trips = (i 1).val := by
  unfold k0_t1_loop
  have h : ∀ n : Fin 128, (⟨0#32, Scalar.addi 0#32 (Scalar.muli (Scalar.divsi (Scalar.subi (BitVec.ofNat 32 n.val) 0#32) 1#32) 1#32), 1#32⟩ : Scf.Loop 32).trips = n.val := by
    decide +kernel
  exact h (i 1)

/-- The six scratch buffers' contents. -/
abbrev St : Type := Buf (Elt F) (arg9.view.loc (c : Thread nD τ)) × Buf (Elt F) (arg10.view.loc (c : Thread nD τ)) × Buf (Elt F) (arg11.view.loc (c : Thread nD τ)) × Buf (Elt F) (arg12.view.loc (c : Thread nD τ)) × Buf (Elt F) (arg13.view.loc (c : Thread nD τ)) × Buf (Elt F) (arg14.view.loc (c : Thread nD τ))

/-- One trip's effect on them. -/
def stepSt (k : Fin (k0_t1_loop i).trips) (s : St (F := F) c arg9 arg10 arg11 arg12 arg13 arg14) : St (F := F) c arg9 arg10 arg11 arg12 arg13 arg14 :=
  let t := trip c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 k
  (arg9.view.writes (Elt F) s.1 (t.1 s.1 s.2.1 s.2.2.1 s.2.2.2.1 s.2.2.2.2.1 s.2.2.2.2.2), arg10.view.writes (Elt F) s.2.1 (t.2.1 s.1 s.2.1 s.2.2.1 s.2.2.2.1 s.2.2.2.2.1 s.2.2.2.2.2), arg11.view.writes (Elt F) s.2.2.1 (t.2.2.1 s.1 s.2.1 s.2.2.1 s.2.2.2.1 s.2.2.2.2.1 s.2.2.2.2.2), arg12.view.writes (Elt F) s.2.2.2.1 (t.2.2.2.1 s.1 s.2.1 s.2.2.1 s.2.2.2.1 s.2.2.2.2.1 s.2.2.2.2.2), arg13.view.writes (Elt F) s.2.2.2.2.1 (t.2.2.2.2.1 s.1 s.2.1 s.2.2.1 s.2.2.2.1 s.2.2.2.2.1 s.2.2.2.2.2), arg14.view.writes (Elt F) s.2.2.2.2.2 (t.2.2.2.2.2.1 s.1 s.2.1 s.2.2.1 s.2.2.2.1 s.2.2.2.2.1 s.2.2.2.2.2))

/-- Their contents before trip `k`, from those the loop is entered with. -/
def st (g : St (F := F) c arg9 arg10 arg11 arg12 arg13 arg14) : ℕ → St (F := F) c arg9 arg10 arg11 arg12 arg13 arg14
  | 0 => g
  | k + 1 => if h : k < (k0_t1_loop i).trips then
      stepSt c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 ⟨k, h⟩ (st g k)
    else st g k

theorem st_succ (g : St (F := F) c arg9 arg10 arg11 arg12 arg13 arg14) (k : Fin (k0_t1_loop i).trips) :
    st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 g (k.val + 1)
      = stepSt c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 k (st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 g k.val) := by
  rw [st, dif_pos k.isLt]

/-- The first of two things at 0, the second from 1 on. -/
abbrev pick {α : Type} : ℕ → α → α → α
  | 0, a, _ => a
  | _ + 1, _, b => b

theorem pick_succ {α : Type} (k : ℕ) (a b : α) : pick (k + 1) a b = b := rfl

theorem pick_eq {α : Type} : ∀ (k : ℕ) (a b : α), (k = 0 → a = b) → pick k a b = b
  | 0, _, _, h => h rfl
  | _ + 1, _, _, _ => rfl

set_option warn.classDefReducibility false in
/-- The main loop: before trip `k` the scratches hold what `k` trips leave. -/
@[sl_loop] def loopInv1 (gS : Buf (Elt F) (arg9.view.loc (c : Thread nD τ))) (gP : Buf (Elt F) (arg10.view.loc (c : Thread nD τ))) (gO : Buf (Elt F) (arg11.view.loc (c : Thread nD τ))) (gT : Buf (Elt F) (arg12.view.loc (c : Thread nD τ))) (gL : Buf (Elt F) (arg13.view.loc (c : Thread nD τ))) (gA : Buf (Elt F) (arg14.view.loc (c : Thread nD τ))) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg1 v1 v24 where
  inv k _ := Trip c arg3 arg4 arg5 arg6 arg7 arg9 arg10 arg11 arg12 arg13 arg14 X3 X4 X5 X6 X7 (pick k gS (st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 (gS, gP, gO, gT, gL, gA) k).1) (pick k gP (st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 (gS, gP, gO, gT, gL, gA) k).2.1) (pick k gO (st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 (gS, gP, gO, gT, gL, gA) k).2.2.1) (pick k gT (st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 (gS, gP, gO, gT, gL, gA) k).2.2.2.1) (pick k gL (st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 (gS, gP, gO, gT, gL, gA) k).2.2.2.2.1) (pick k gA (st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 (gS, gP, gO, gT, gL, gA) k).2.2.2.2.2)
  step k _ := by
    have e : ∀ {α : Type} (p : St (F := F) c arg9 arg10 arg11 arg12 arg13 arg14 → α), pick k.val (p (gS, gP, gO, gT, gL, gA)) (p (st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 (gS, gP, gO, gT, gL, gA) k.val))
        = p (st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 (gS, gP, gO, gT, gL, gA) k.val) := fun p => pick_eq _ _ _ fun h => by rw [h]; rfl
    have e1 := e fun s => s.1
    have e2 := e fun s => s.2.1
    have e3 := e fun s => s.2.2.1
    have e4 := e fun s => s.2.2.2.1
    have e5 := e fun s => s.2.2.2.2.1
    have e6 := e fun s => s.2.2.2.2.2
    dsimp only at e1 e2 e3 e4 e5 e6
    rw [e1, e2, e3, e4, e5, e6, pick_succ, pick_succ, pick_succ, pick_succ, pick_succ, pick_succ, st_succ]
    generalize st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 (gS, gP, gO, gT, gL, gA) k.val = s
    exact (trip c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 k).2.2.2.2.2.2 s.1 s.2.1 s.2.2.1 s.2.2.2.1 s.2.2.2.2.1 s.2.2.2.2.2

/-- The second loop has no trip. -/
theorem trips2 : (k0_t2_loop i).trips = 0 := by
  unfold k0_t2_loop
  have h : ∀ n : Fin 128, (⟨Scalar.addi 0#32 (Scalar.muli (Scalar.divsi (Scalar.subi (BitVec.ofNat 32 n.val) 0#32) 1#32) 1#32), Scalar.addi 0#32 (Scalar.subi (BitVec.ofNat 32 n.val) 0#32), 1#32⟩ : Scf.Loop 32).trips = 0 := by
    decide +kernel
  exact h (i 1)

variable (v32 : BitVec 32)

set_option warn.classDefReducibility false in
/-- The second loop, of no trip: the scratches as the first leaves them. -/
@[sl_loop] def loopInv2 (gS : Buf (Elt F) (arg9.view.loc (c : Thread nD τ))) (gP : Buf (Elt F) (arg10.view.loc (c : Thread nD τ))) (gO : Buf (Elt F) (arg11.view.loc (c : Thread nD τ))) (gT : Buf (Elt F) (arg12.view.loc (c : Thread nD τ))) (gL : Buf (Elt F) (arg13.view.loc (c : Thread nD τ))) (gA : Buf (Elt F) (arg14.view.loc (c : Thread nD τ))) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg1 v1 v24 v32 where
  inv _ _ := Trip c arg3 arg4 arg5 arg6 arg7 arg9 arg10 arg11 arg12 arg13 arg14 X3 X4 X5 X6 X7 gS gP gO gT gL gA
  step k _ := (Nat.not_lt_zero _ (Nat.lt_of_lt_of_eq k.isLt (trips2 i))).elim

end Trip

section Run

variable (c : Dev nD) (i : grid0.Coords)
  (arg2 : Memref sig .tc .vmem S1x1x1024x128 .fp8e4m3) (harg2 : arg2.IsWhole)
  (arg3 : Memref sig .tc .vmem S1x128x128x128 .fp8e4m3) (harg3 : arg3.IsWhole)
  (arg4 : Memref sig .tc .vmem S1x128x128x128 .fp8e4m3) (harg4 : arg4.IsWhole)
  (arg5 : Memref sig .tc .vmem S1x1x8x128 .f32) (harg5 : arg5.IsWhole)
  (arg6 : Memref sig .tc .vmem S1x128x8x128 .f32) (harg6 : arg6.IsWhole)
  (arg7 : Memref sig .tc .vmem S1x128x8x128 .f32) (harg7 : arg7.IsWhole)
  (arg8 : Memref sig .tc .vmem S1x128x512 .bf16) (harg8 : arg8.IsWhole)
  (arg9 : Memref sig .tc .vmem S128x1024 .f32) (harg9 : arg9.IsWhole)
  (arg10 : Memref sig .tc .vmem S128x1024 .fp8e4m3) (harg10 : arg10.IsWhole)
  (arg11 : Memref sig .tc .vmem S512x128 .f32) (harg11 : arg11.IsWhole)
  (arg12 : Memref sig .tc .vmem S8x128 .f32) (harg12 : arg12.IsWhole)
  (arg13 : Memref sig .tc .vmem S8x128 .f32) (harg13 : arg13.IsWhole)
  (arg14 : Memref sig .tc .vmem S8x128 .f32) (harg14 : arg14.IsWhole)
  (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ)))

/-- Before the body: the inputs, the output window and the scratches. -/
abbrev RunPre (f8 : Buf (Elt F) (arg8.view.loc (c : Thread nD τ))) (fS : Buf (Elt F) (arg9.view.loc (c : Thread nD τ))) (fP : Buf (Elt F) (arg10.view.loc (c : Thread nD τ))) (fO : Buf (Elt F) (arg11.view.loc (c : Thread nD τ))) (fT : Buf (Elt F) (arg12.view.loc (c : Thread nD τ))) (fL : Buf (Elt F) (arg13.view.loc (c : Thread nD τ))) (fA : Buf (Elt F) (arg14.view.loc (c : Thread nD τ))) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} fS) ∗ (arg10.view.loc (c : Thread nD τ) ↦[arg10.view.set]{fullShare} fP) ∗ (arg11.view.loc (c : Thread nD τ) ↦[arg11.view.set]{fullShare} fO) ∗ (arg12.view.loc (c : Thread nD τ) ↦[arg12.view.set]{fullShare} fT) ∗ (arg13.view.loc (c : Thread nD τ) ↦[arg13.view.set]{fullShare} fL) ∗ (arg14.view.loc (c : Thread nD τ) ↦[arg14.view.set]{fullShare} fA))

/-- After the body: the inputs as they were, the output window at `g8`, the scratches at something. -/
abbrev RunPost (g8 : Buf (Elt F) (arg8.view.loc (c : Thread nD τ))) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} g8) ∗ (∃ f : Buf (Elt F) (arg9.view.loc (c : Thread nD τ)), (arg9.view.loc (c : Thread nD τ) ↦[arg9.view.set]{fullShare} f)) ∗ (∃ f : Buf (Elt F) (arg10.view.loc (c : Thread nD τ)), (arg10.view.loc (c : Thread nD τ) ↦[arg10.view.set]{fullShare} f)) ∗ (∃ f : Buf (Elt F) (arg11.view.loc (c : Thread nD τ)), (arg11.view.loc (c : Thread nD τ) ↦[arg11.view.set]{fullShare} f)) ∗ (∃ f : Buf (Elt F) (arg12.view.loc (c : Thread nD τ)), (arg12.view.loc (c : Thread nD τ) ↦[arg12.view.set]{fullShare} f)) ∗ (∃ f : Buf (Elt F) (arg13.view.loc (c : Thread nD τ)), (arg13.view.loc (c : Thread nD τ) ↦[arg13.view.set]{fullShare} f)) ∗ (∃ f : Buf (Elt F) (arg14.view.loc (c : Thread nD τ)), (arg14.view.loc (c : Thread nD τ) ↦[arg14.view.set]{fullShare} f)))

set_option maxHeartbeats 8000000 in
/-- The body: the inputs stay, the scratches are left at something, and the output gains the stores the run finds. -/
@[irreducible] def run :
    { L8 : List (View.Piece (Elt F) S1x128x512 .bf16) //
      ∀ (f8 : Buf (Elt F) (arg8.view.loc (c : Thread nD τ))) (fS : Buf (Elt F) (arg9.view.loc (c : Thread nD τ))) (fP : Buf (Elt F) (arg10.view.loc (c : Thread nD τ))) (fO : Buf (Elt F) (arg11.view.loc (c : Thread nD τ))) (fT : Buf (Elt F) (arg12.view.loc (c : Thread nD τ))) (fL : Buf (Elt F) (arg13.view.loc (c : Thread nD τ))) (fA : Buf (Elt F) (arg14.view.loc (c : Thread nD τ))),
        RunPre c arg2 arg3 arg4 arg5 arg6 arg7 arg8 arg9 arg10 arg11 arg12 arg13 arg14 X2 X3 X4 X5 X6 X7 f8 fS fP fO fT fL fA
          ⊢ wp frame (wpE (defs₀ (F := F)) Variants.none (c : Thread nD τ) none) Set.univ
              (cc0_softcap_attention (F := F) i arg2 harg2 arg3 harg3 arg4 harg4 arg5 harg5 arg6 harg6 arg7 harg7 arg8 harg8 arg9 harg9 arg10 harg10 arg11 harg11 arg12 harg12 arg13 harg13 arg14 harg14)
              (fun _ => RunPost c arg2 arg3 arg4 arg5 arg6 arg7 arg8 arg9 arg10 arg11 arg12 arg13 arg14 X2 X3 X4 X5 X6 X7 (arg8.view.writes (Elt F) f8 L8)) } := by
  refine ⟨?_, fun f8 fS fP fO fT fL fA => ?run⟩
  case run =>
    unfold cc0_softcap_attention
    iintro ⟨H2, H3, H4, H5, H6, H7, H8, HS, HP, HO, HT, HL, HA⟩
    sl_exec_parts
    sl_step
    sl_close

end Run

end Cert.KernelIdeal.Own
-- ==== Proof.Col.lean ====
/-
  One column of the kernel's online softmax: what happens to one query (a lane) of one head, block of keys after block
  of keys. The columns do not meet, so that the whole kernel is this, 1024 times at each grid point.
-/
module

public import Idealize.ShloMosaic.PureOps.Ideal
public import Idealize.ShloMosaic.Lib.Pointwise

@[expose] public section

noncomputable section

namespace Cert.Col

open Idealize.ShloMosaic

/-- 50 / ln 2. -/
abbrev kap : EReal := ((50 * (Real.log 2)⁻¹ : ℝ) : EReal)

/-- 2^-8, as a float. -/
abbrev down : EReal := Ideal.ofBits .f32 998244352#32

/-- 8, as a float. -/
abbrev eight : EReal := Ideal.ofBits .f32 1090519040#32

/-- A probability, clipped to what its format holds. -/
abbrev clip (p : EReal) : EReal :=
  min (Ideal.ofBits .f32 1138753536#32) (max (Ideal.ofBits .f32 3286237184#32) p)

/-- What a column reads: the scores against each block of keys, their factors, each block's values, and their factors. -/
structure In where
  sc : ℕ → Fin 128 → EReal
  cf : ℕ → EReal
  v : ℕ → Fin 64 → Fin 128 → EReal
  w : ℕ → EReal

/-- What the scratches hold of a column. -/
@[ext] structure St where
  S : Fin 128 → EReal
  P : Fin 128 → EReal
  O : Fin 64 → EReal
  T : EReal
  L : EReal
  A : EReal

/-- The block's largest bounded score, or the largest before. -/
def tmax (T : EReal) (t : Fin 128 → EReal) : EReal := max T (Finset.univ.fold max (Ideal.ofBits .f32 4286578688#32) t)

/-- The factor from an old maximum to a new one. -/
def alpha (T T' : EReal) : EReal := Ideal.exp2 ((T - T') * kap)

/-- A key's weight. -/
def prob (T' : EReal) (t : EReal) : EReal := Ideal.exp2 (t * kap - (T' * kap - eight))

/-- The bounded scores of a block. -/
def bounded (S : Fin 128 → EReal) (cf : EReal) (c : Fin 128) : EReal := Ideal.tanh (S c * cf)

/-- The values of a block, weighed, onto the accumulator. -/
def acc (v : Fin 64 → Fin 128 → EReal) (w : EReal) (P : Fin 128 → EReal) (O : Fin 64 → EReal) (A : EReal) (d : Fin 64) : EReal :=
  O d * A + (∑ c, v d c * P c) * w

/-- The softmax of a block of bounded scores, and the scores of the next. -/
def soft (t : Fin 128 → EReal) (S' : Fin 128 → EReal) (O' : Fin 64 → EReal) (T L : EReal) : St where
  S := S'
  P c := clip (prob (tmax T t) (t c))
  O := O'
  T := tmax T t
  L := L * alpha T (tmax T t) + ∑ c, prob (tmax T t) (t c)
  A := alpha T (tmax T t)

/-- A trip of the loop. -/
def step (d : In) (k : ℕ) (s : St) : St :=
  soft (bounded s.S (d.cf k)) (d.sc (k + 1)) (acc (d.v (k - 1)) (d.w (k - 1)) s.P s.O s.A) s.T s.L

/-- What the loop is entered with. -/
def init (d : In) : St := ⟨d.sc 0, fun _ => 0, fun _ => 0, Ideal.ofBits .f32 4286578688#32, 0, 0⟩

/-- What the scratches hold before trip `k`. -/
def st (d : In) : ℕ → St
  | 0 => init d
  | k + 1 => step d k (st d k)

/-- The bounded scores of the diagonal block, of query `q`: the keys past the query are left out. -/
def masked (q : Fin 128) (t : Fin 128 → EReal) (c : Fin 128) : EReal :=
  Scalar.select (IntOp.cmpi .sle (BitVec.ofNat 32 c.val) (BitVec.ofNat 32 q.val)) (t c) (Ideal.ofBits .f32 4286578688#32)

/-- The softmax of the diagonal block, block `n`, after `n` trips. -/
def diag (d : In) (n : ℕ) (q : Fin 128) (s : St) : St :=
  soft (masked q (bounded s.S (d.cf n))) (d.sc (n + 1)) (acc (d.v (n - 1)) (d.w (n - 1)) s.P s.O s.A) s.T s.L

/-- What is stored: the accumulator with the diagonal block's values, over the sum of the weights. -/
def fin (d : In) (n : ℕ) (s : St) (r : Fin 64) : EReal :=
  Ideal.div (acc (d.v n) (d.w n) s.P s.O s.A r) (s.L * down)

/-- The column's result. -/
def out (d : In) (n : ℕ) (q : Fin 128) : Fin 64 → EReal := fin d n (diag d n q (st d n))

end Cert.Col

end
-- ==== Proof.KCol.lean ====
/-
  Where the kernel reads, and the column of a head and a lane: what the input blocks give it, what the scratches hold of it.
-/
module

public import proofs.«01_k».proof.Proof.KTrip
public import proofs.«01_k».proof.Proof.Col
public import Idealize.ShloMosaic.Lib.Pointwise
public import Idealize.ShloMosaic.Lib.Pipeline.ReadBack

@[expose] public section

set_option maxRecDepth 16384

noncomputable section

namespace Cert.KernelIdeal.Own

open Idealize.ShloMosaic Idealize.ShloMosaic.TcCoe
open Cert.KernelIdeal Cert.KernelIdeal.Gen

/-- Lane `q` of head `h` among the 1024 columns. -/
abbrev hq (h : Fin 8) (q : Fin 128) : Fin 1024 := ⟨128 * h.val + q.val, by omega⟩

/-- Row `r` of head `h` among the 512 rows of the accumulator. -/
abbrev hr (h : Fin 8) (r : Fin 64) : Fin 512 := ⟨64 * h.val + r.val, by omega⟩

/-- Row `r` of the values that head `h` shares with three others. -/
abbrev kvr (h : Fin 8) (r : Fin 64) : Fin 128 := ⟨64 * (h.val / 4) + r.val, by omega⟩

/-- Block `j`. -/
abbrev blk (j : ℕ) : Fin 128 := Fin.ofNat 128 j

theorem trips_lt (i : grid0.Coords) (k : Fin (k0_t1_loop i).trips) : k.val < 127 :=
  Nat.lt_of_lt_of_le k.isLt (by rw [trips1]; exact Nat.le_of_lt_succ (i 1).isLt)

theorem off1 (i : grid0.Coords) (k : Fin (k0_t1_loop i).trips) : k0_off1 i k = ![0, k.val - 1, 0, 0] := by
  have h : ∀ n : Fin 127, (Scalar.indexCast (Scalar.maxsi (Scalar.subi (Scf.iv 0#32 1#32 n.val) 1#32) 0#32)).toNat = n.val - 1 := by decide +kernel
  exact congrArg (fun j => ![0, j, 0, 0]) (h ⟨k.val, trips_lt i k⟩)

theorem off2 (i : grid0.Coords) (k : Fin (k0_t1_loop i).trips) : k0_off2 i k = ![0, k.val - 1, 0, 0] := off1 i k

theorem off3 (i : grid0.Coords) (k : Fin (k0_t1_loop i).trips) : k0_off3 i k = ![0, k.val - 1, 64, 0] := by
  have h : ∀ n : Fin 127, (Scalar.indexCast (Scalar.maxsi (Scalar.subi (Scf.iv 0#32 1#32 n.val) 1#32) 0#32)).toNat = n.val - 1 := by decide +kernel
  exact congrArg (fun j => ![0, j, 64, 0]) (h ⟨k.val, trips_lt i k⟩)

theorem off4 (i : grid0.Coords) (k : Fin (k0_t1_loop i).trips) : k0_off4 i k = ![0, k.val, 0, 0] := by
  have h : ∀ n : Fin 127, (Scalar.indexCast (Scf.iv 0#32 1#32 n.val)).toNat = n.val := by decide +kernel
  exact congrArg (fun j => ![0, j, 0, 0]) (h ⟨k.val, trips_lt i k⟩)

theorem off5 (i : grid0.Coords) (k : Fin (k0_t1_loop i).trips) : k0_off5 i k = ![0, k.val + 1, 0, 0] := by
  have h : ∀ n : Fin 127, (Scalar.indexCast (Scalar.addi (Scf.iv 0#32 1#32 n.val) 1#32)).toNat = n.val + 1 := by decide +kernel
  exact congrArg (fun j => ![0, j, 0, 0]) (h ⟨k.val, trips_lt i k⟩)

theorem off11 (i : grid0.Coords) : k0_off11 i = ![0, (i 1).val - 1, 0, 0] := by
  have h : ∀ n : Fin 128, (Scalar.indexCast (Scalar.maxsi (Scalar.subi (BitVec.ofNat 32 n.val) 1#32) 0#32)).toNat = n.val - 1 := by decide +kernel
  exact congrArg (fun j => ![0, j, 0, 0]) (h (i 1))

theorem off12 (i : grid0.Coords) : k0_off12 i = ![0, (i 1).val - 1, 0, 0] := off11 i

theorem off13 (i : grid0.Coords) : k0_off13 i = ![0, (i 1).val - 1, 64, 0] := by
  have h : ∀ n : Fin 128, (Scalar.indexCast (Scalar.maxsi (Scalar.subi (BitVec.ofNat 32 n.val) 1#32) 0#32)).toNat = n.val - 1 := by decide +kernel
  exact congrArg (fun j => ![0, j, 64, 0]) (h (i 1))

theorem off14 (i : grid0.Coords) : k0_off14 i = ![0, (i 1).val, 0, 0] := by
  have h : ∀ n : Fin 128, (Scalar.indexCast (BitVec.ofNat 32 n.val)).toNat = n.val := by decide +kernel
  exact congrArg (fun j => ![0, j, 0, 0]) (h (i 1))

theorem off15 (i : grid0.Coords) : k0_off15 i = ![0, (i 1).val, 0, 0] := off14 i

theorem off16 (i : grid0.Coords) : k0_off16 i = ![0, (i 1).val, 64, 0] := by
  have h : ∀ n : Fin 128, (Scalar.indexCast (BitVec.ofNat 32 n.val)).toNat = n.val := by decide +kernel
  exact congrArg (fun j => ![0, j, 64, 0]) (h (i 1))

/-- A block's rows of factors. -/
theorem ld_rows {off : Fin 4 → ℕ} {j : ℕ} (h : off = ![0, j, 0, 0]) (hj : j < 128) (X : S1x128x8x128.Idx → Elt Ideal .f32) (inb) :
    View.ld X (Rect.unit off ![1, 1, 8, 128] inb) = fun x => X (ix4 0 (blk j) (x 2) (x 3)) := by
  subst h
  funext x
  pointwise
  exact congrArg (fun a => X (ix4 0 a (x 2) (x 3))) (Fin.ext (Nat.mod_eq_of_lt hj).symm)

/-- A block of keys. -/
theorem ld_keys {off : Fin 4 → ℕ} {j : ℕ} (h : off = ![0, j, 0, 0]) (hj : j < 128) (X : S1x128x128x128.Idx → Elt Ideal .fp8e4m3) (inb) :
    View.ld X (Rect.unit off ![1, 1, 128, 128] inb) = fun x => X (ix4 0 (blk j) (x 2) (x 3)) := by
  subst h
  funext x
  pointwise
  exact congrArg (fun a => X (ix4 0 a (x 2) (x 3))) (Fin.ext (Nat.mod_eq_of_lt hj).symm)

/-- The first half of a block of values. -/
theorem ld_lo {off : Fin 4 → ℕ} {j : ℕ} (h : off = ![0, j, 0, 0]) (hj : j < 128) (X : S1x128x128x128.Idx → Elt Ideal .fp8e4m3) (inb) :
    View.ld X (Rect.unit off ![1, 1, 64, 128] inb) = fun x => X (ix4 0 (blk j) (kvr 0 (x 2)) (x 3)) := by
  subst h
  funext x
  have e : blk j = ⟨j, hj⟩ := Fin.ext (Nat.mod_eq_of_lt hj)
  rw [e]
  pointwise
  exact congrArg (fun a => X (ix4 0 ⟨j, hj⟩ a (x 3))) (Fin.ext (by show (x 2).val = 64 * (0 / 4) + (x 2).val; omega))

/-- The second half. -/
theorem ld_hi {off : Fin 4 → ℕ} {j : ℕ} (h : off = ![0, j, 64, 0]) (hj : j < 128) (X : S1x128x128x128.Idx → Elt Ideal .fp8e4m3) (inb) :
    View.ld X (Rect.unit off ![1, 1, 64, 128] inb) = fun x => X (ix4 0 (blk j) (kvr 4 (x 2)) (x 3)) := by
  subst h
  funext x
  have e : blk j = ⟨j, hj⟩ := Fin.ext (Nat.mod_eq_of_lt hj)
  rw [e]
  pointwise
  rfl

/-- The head a column belongs to, and its lane. -/
abbrev headOf (y : Fin 1024) : Fin 8 := ⟨y.val / 128, by omega⟩
abbrev laneOf (y : Fin 1024) : Fin 128 := ⟨y.val % 128, by omega⟩
abbrev headOfR (y : Fin 512) : Fin 8 := ⟨y.val / 64, by omega⟩
abbrev rowOf (y : Fin 512) : Fin 64 := ⟨y.val % 64, by omega⟩

theorem row_inb (h : Fin 8) : ∀ a : Fin 2, (![h.val, 0] : Fin 2 → ℕ) a + S1x128.size a ≤ S8x128.size a := by
  decide +revert

theorem col_inb (h : Fin 8) : ∀ a : Fin 2, (![0, 128 * h.val] : Fin 2 → ℕ) a + S128x128.size a ≤ S128x1024.size a := by
  decide +revert

theorem acc_inb (h : Fin 8) : ∀ a : Fin 2, (![64 * h.val, 0] : Fin 2 → ℕ) a + S64x128.size a ≤ S512x128.size a := by
  decide +revert

/-- A row of a head, of what each column gives. -/
theorem piece_row (h : Fin 8) (w : S1x128.Idx → EReal) (G : Fin 8 → Fin 128 → EReal) (hw : ∀ x : S1x128.Idx, w x = G h (x 1)) :
    ∀ x : S1x128.Idx, w x = (fun y : S8x128.Idx => G (y 0) (y 1)) ((Rect.unit (s := S8x128) ![h.val, 0] S1x128.size (row_inb h)).emb x) := by
  intro x
  rw [hw]
  have h0 : (x 0).val < 1 := (x 0).isLt
  refine congrArg₂ G (Fin.ext ?_) (Fin.ext ?_)
  · show h.val = h.val + 1 * (x 0).val; omega
  · show (x 1).val = 0 + 1 * (x 1).val; omega

theorem piece_col (h : Fin 8) (w : S128x128.Idx → EReal) (G : Fin 8 → Fin 128 → Fin 128 → EReal) (hw : ∀ x : S128x128.Idx, w x = G h (x 1) (x 0)) :
    ∀ x : S128x128.Idx, w x = (fun y : S128x1024.Idx => G (headOf (y 1)) (laneOf (y 1)) (y 0)) ((Rect.unit (s := S128x1024) ![0, 128 * h.val] S128x128.size (col_inb h)).emb x) := by
  intro x
  rw [hw]
  have h1 : (x 1).val < 128 := (x 1).isLt
  have e1 : h = headOf ((Rect.unit (s := S128x1024) ![0, 128 * h.val] S128x128.size (col_inb h)).emb x 1) := Fin.ext (by
    show h.val = (128 * h.val + 1 * (x 1).val) / 128; omega)
  have e2 : x 1 = laneOf ((Rect.unit (s := S128x1024) ![0, 128 * h.val] S128x128.size (col_inb h)).emb x 1) := Fin.ext (by
    show (x 1).val = (128 * h.val + 1 * (x 1).val) % 128; omega)
  have e3 : x 0 = (Rect.unit (s := S128x1024) ![0, 128 * h.val] S128x128.size (col_inb h)).emb x 0 := Fin.ext (by
    show (x 0).val = 0 + 1 * (x 0).val; omega)
  exact congr (congr (congrArg G e1) e2) e3

theorem piece_acc (h : Fin 8) (w : S64x128.Idx → EReal) (G : Fin 8 → Fin 128 → Fin 64 → EReal) (hw : ∀ x : S64x128.Idx, w x = G h (x 1) (x 0)) :
    ∀ x : S64x128.Idx, w x = (fun y : S512x128.Idx => G (headOfR (y 0)) (y 1) (rowOf (y 0))) ((Rect.unit (s := S512x128) ![64 * h.val, 0] S64x128.size (acc_inb h)).emb x) := by
  intro x
  rw [hw]
  have h0 : (x 0).val < 64 := (x 0).isLt
  have e1 : h = headOfR ((Rect.unit (s := S512x128) ![64 * h.val, 0] S64x128.size (acc_inb h)).emb x 0) := Fin.ext (by
    show h.val = (64 * h.val + 1 * (x 0).val) / 64; omega)
  have e2 : x 1 = (Rect.unit (s := S512x128) ![64 * h.val, 0] S64x128.size (acc_inb h)).emb x 1 := Fin.ext (by
    show (x 1).val = 0 + 1 * (x 1).val; omega)
  have e3 : x 0 = rowOf ((Rect.unit (s := S512x128) ![64 * h.val, 0] S64x128.size (acc_inb h)).emb x 0) := Fin.ext (by
    show (x 0).val = (64 * h.val + 1 * (x 0).val) % 64; omega)
  exact congr (congr (congrArg G e1) e2) e3

/-- All the columns at once. -/
theorem piece_all {inb} (w : S128x1024.Idx → EReal) (G : Fin 8 → Fin 128 → Fin 128 → EReal)
    (hw : ∀ x : S128x1024.Idx, w x = G (headOf (x 1)) (laneOf (x 1)) (x 0)) :
    ∀ x : S128x1024.Idx, w x = (fun y : S128x1024.Idx => G (headOf (y 1)) (laneOf (y 1)) (y 0)) ((Rect.unit (s := S128x1024) ![0, 0] S128x1024.size inb).emb x) := by
  intro x
  rw [hw]
  refine congrArg (fun y : S128x1024.Idx => G (headOf (y 1)) (laneOf (y 1)) (y 0)) (funext fun a => Fin.ext ?_)
  match a with
  | 0 => show (x 0).val = 0 + 1 * (x 0).val; omega
  | 1 => show (x 1).val = 0 + 1 * (x 1).val; omega

theorem hq_of (y : Fin 1024) : hq (headOf y) (laneOf y) = y := Fin.ext (Nat.div_add_mod _ _)

/-- What the input blocks give the column of head `h` and lane `q`. -/
def colIn (Q : S1024x128.Idx → EReal) (r3 r4 : S1x128x128x128.Idx → EReal) (r5 : S1x1x8x128.Idx → EReal) (r6 r7 : S1x128x8x128.Idx → EReal)
    (h : Fin 8) (q : Fin 128) : Col.In where
  sc j c := ∑ l : Fin 128, r3 (ix4 0 (blk j) c l) * Q (ix2 (hq h q) l)
  cf j := r5 (ix4 0 0 h q) * r6 (ix4 0 (blk j) h q) * Ideal.ofBits .f32 0x3B23D70A#32
  v j d c := r4 (ix4 0 (blk j) (kvr h d) c)
  w j := r7 (ix4 0 (blk j) h q) * Col.down

/-- What the six scratches hold of it. -/
def colSt (s p : S128x1024.Idx → EReal) (o : S512x128.Idx → EReal) (T L A : S8x128.Idx → EReal) (h : Fin 8) (q : Fin 128) : Col.St where
  S c := s (ix2 c (hq h q))
  P c := p (ix2 c (hq h q))
  O d := o (ix2 (hr h d) q)
  T := T (ix2 h q)
  L := L (ix2 h q)
  A := A (ix2 h q)

end Cert.KernelIdeal.Own

end
-- ==== Proof.KStep.lean ====
/-
  What one trip of the kernel's loop writes, column by column: the step of the online softmax.
-/
module

public import proofs.«01_k».proof.Proof.KCol

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open Cert.KernelIdeal Cert.KernelIdeal.Gen

section Trip

variable (c : Dev nD) (i : grid0.Coords)
  (arg2 : Memref sig .tc .vmem S1x1x1024x128 .fp8e4m3) (harg2 : arg2.IsWhole)
  (arg3 : Memref sig .tc .vmem S1x128x128x128 .fp8e4m3) (harg3 : arg3.IsWhole)
  (arg4 : Memref sig .tc .vmem S1x128x128x128 .fp8e4m3) (harg4 : arg4.IsWhole)
  (arg5 : Memref sig .tc .vmem S1x1x8x128 .f32) (harg5 : arg5.IsWhole)
  (arg6 : Memref sig .tc .vmem S1x128x8x128 .f32) (harg6 : arg6.IsWhole)
  (arg7 : Memref sig .tc .vmem S1x128x8x128 .f32) (harg7 : arg7.IsWhole)
  (arg8 : Memref sig .tc .vmem S1x128x512 .bf16) (harg8 : arg8.IsWhole)
  (arg9 : Memref sig .tc .vmem S128x1024 .f32) (harg9 : arg9.IsWhole)
  (arg10 : Memref sig .tc .vmem S128x1024 .fp8e4m3) (harg10 : arg10.IsWhole)
  (arg11 : Memref sig .tc .vmem S512x128 .f32) (harg11 : arg11.IsWhole)
  (arg12 : Memref sig .tc .vmem S8x128 .f32) (harg12 : arg12.IsWhole)
  (arg13 : Memref sig .tc .vmem S8x128 .f32) (harg13 : arg13.IsWhole)
  (arg14 : Memref sig .tc .vmem S8x128 .f32) (harg14 : arg14.IsWhole)
  (arg1 : BitVec 32) (v1 : FVec Ideal S1024x128 .fp8e4m3) (v24 : FVec Ideal S128x1024 .f32)
  (X3 : Buf (Elt Ideal) (arg3.view.loc (c : Thread nD τ))) (X4 : Buf (Elt Ideal) (arg4.view.loc (c : Thread nD τ))) (X5 : Buf (Elt Ideal) (arg5.view.loc (c : Thread nD τ))) (X6 : Buf (Elt Ideal) (arg6.view.loc (c : Thread nD τ))) (X7 : Buf (Elt Ideal) (arg7.view.loc (c : Thread nD τ)))
  (k : Fin (k0_t1_loop i).trips)
  (fS : Buf (Elt Ideal) (arg9.view.loc (c : Thread nD τ))) (fP : Buf (Elt Ideal) (arg10.view.loc (c : Thread nD τ))) (fO : Buf (Elt Ideal) (arg11.view.loc (c : Thread nD τ))) (fT : Buf (Elt Ideal) (arg12.view.loc (c : Thread nD τ))) (fL : Buf (Elt Ideal) (arg13.view.loc (c : Thread nD τ))) (fA : Buf (Elt Ideal) (arg14.view.loc (c : Thread nD τ)))

/-- The trip's column step. -/
abbrev tripCol (h : Fin 8) (q : Fin 128) : Col.St :=
  Col.step (colIn v1 (arg3.view.read (Elt Ideal) X3) (arg4.view.read (Elt Ideal) X4) (arg5.view.read (Elt Ideal) X5) (arg6.view.read (Elt Ideal) X6) (arg7.view.read (Elt Ideal) X7) h q) k.val
    (colSt (arg9.view.read (Elt Ideal) fS) (arg10.view.read (Elt Ideal) fP) (arg11.view.read (Elt Ideal) fO) (arg12.view.read (Elt Ideal) fT) (arg13.view.read (Elt Ideal) fL) (arg14.view.read (Elt Ideal) fA) h q)

set_option maxHeartbeats 4000000 in
theorem trip_S : View.PiecesOf (fun y => (tripCol c i arg3 arg4 arg5 arg6 arg7 arg9 arg10 arg11 arg12 arg13 arg14 v1 X3 X4 X5 X6 X7 k fS fP fO fT fL fA (headOf (y 1)) (laneOf (y 1))).S (y 0))
    ((trip c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 k).1 fS fP fO fT fL fA) := by
  unfold trip tripCol
  dsimp only
  unfold trip.sl.v1204 trip.sl.v1201 trip.sl.v1200 trip.sl.cst_648
  simp only [View.readAt_eq_ld]
  generalize arg3.view.read (Elt Ideal) X3 = r3
  generalize arg4.view.read (Elt Ideal) X4 = r4
  generalize arg5.view.read (Elt Ideal) X5 = r5
  generalize arg6.view.read (Elt Ideal) X6 = r6
  generalize arg7.view.read (Elt Ideal) X7 = r7
  generalize arg9.view.read (Elt Ideal) fS = s
  generalize arg10.view.read (Elt Ideal) fP = p
  generalize arg11.view.read (Elt Ideal) fO = o
  generalize arg12.view.read (Elt Ideal) fT = T
  generalize arg13.view.read (Elt Ideal) fL = L
  generalize arg14.view.read (Elt Ideal) fA = A
  have hk := trips_lt i k
  unfold_payloads
  simp only [ld_rows (off4 i k) (by omega), ld_rows (off1 i k) (by omega), ld_keys (off5 i k) (by omega), ld_lo (off2 i k) (by omega), ld_hi (off3 i k) (by omega)]
  refine ⟨piece_all (inb := inb_S128x1024_S128x1024_0_0) _ (fun h q z => (Col.step (colIn v1 r3 r4 r5 r6 r7 h q) k.val (colSt s p o T L A h q)).S z) fun x => ?_, trivial⟩
  pointwise [Col.step, Col.soft, colIn]
  exact Finset.sum_congr rfl fun l _ => congrArg (fun a => r3 (ix4 0 (blk (k.val + 1)) (x 0) l) * v1 (ix2 a l)) (hq_of (x 1)).symm

set_option maxHeartbeats 4000000 in
theorem trip_P : View.PiecesOf (fun y => (tripCol c i arg3 arg4 arg5 arg6 arg7 arg9 arg10 arg11 arg12 arg13 arg14 v1 X3 X4 X5 X6 X7 k fS fP fO fT fL fA (headOf (y 1)) (laneOf (y 1))).P (y 0))
    ((trip c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 k).2.1 fS fP fO fT fL fA) := by
  unfold trip tripCol
  dsimp only
  unfold trip.sl.v1196 trip.sl.v1193 trip.sl.v1192 trip.sl.v1191 trip.sl.cst_641 trip.sl.v1190 trip.sl.v1189 trip.sl.cst_640 trip.sl.v1174 trip.sl.v1173 trip.sl.v1172 trip.sl.v1171
  unfold trip.sl.v1170 trip.sl.r_23 trip.sl.v1158 trip.sl.r_22 trip.sl.HP_7 trip.sl.r_18 trip.sl.v1114 trip.sl.HP_6 trip.sl.r_16 trip.sl.v1070 trip.sl.HP_5 trip.sl.r_13
  unfold trip.sl.v1026 trip.sl.HP_4 trip.sl.r_12 trip.sl.v982 trip.sl.r_11 trip.sl.HP_3 trip.sl.r_9 trip.sl.v938 trip.sl.r_8 trip.sl.HP_2 trip.sl.r_7 trip.sl.v894
  unfold trip.sl.r_6 trip.sl.r trip.sl.cst_498 trip.sl.HP_1 trip.sl.r_2
  simp only [View.readAt_eq_ld]
  generalize arg3.view.read (Elt Ideal) X3 = r3
  generalize arg4.view.read (Elt Ideal) X4 = r4
  generalize arg5.view.read (Elt Ideal) X5 = r5
  generalize arg6.view.read (Elt Ideal) X6 = r6
  generalize arg7.view.read (Elt Ideal) X7 = r7
  generalize arg9.view.read (Elt Ideal) fS = s
  generalize arg10.view.read (Elt Ideal) fP = p
  generalize arg11.view.read (Elt Ideal) fO = o
  generalize arg12.view.read (Elt Ideal) fT = T
  generalize arg13.view.read (Elt Ideal) fL = L
  generalize arg14.view.read (Elt Ideal) fA = A
  have hk := trips_lt i k
  unfold_payloads
  simp only [ld_rows (off4 i k) (by omega), ld_rows (off1 i k) (by omega), ld_keys (off5 i k) (by omega), ld_lo (off2 i k) (by omega), ld_hi (off3 i k) (by omega)]
  refine ⟨piece_col 7 _ (fun h q z => (Col.step (colIn v1 r3 r4 r5 r6 r7 h q) k.val (colSt s p o T L A h q)).P z) fun x => ?_, piece_col 6 _ (fun h q z => (Col.step (colIn v1 r3 r4 r5 r6 r7 h q) k.val (colSt s p o T L A h q)).P z) fun x => ?_, piece_col 5 _ (fun h q z => (Col.step (colIn v1 r3 r4 r5 r6 r7 h q) k.val (colSt s p o T L A h q)).P z) fun x => ?_, piece_col 4 _ (fun h q z => (Col.step (colIn v1 r3 r4 r5 r6 r7 h q) k.val (colSt s p o T L A h q)).P z) fun x => ?_, piece_col 3 _ (fun h q z => (Col.step (colIn v1 r3 r4 r5 r6 r7 h q) k.val (colSt s p o T L A h q)).P z) fun x => ?_, piece_col 2 _ (fun h q z => (Col.step (colIn v1 r3 r4 r5 r6 r7 h q) k.val (colSt s p o T L A h q)).P z) fun x => ?_, piece_col 1 _ (fun h q z => (Col.step (colIn v1 r3 r4 r5 r6 r7 h q) k.val (colSt s p o T L A h q)).P z) fun x => ?_, piece_col 0 _ (fun h q z => (Col.step (colIn v1 r3 r4 r5 r6 r7 h q) k.val (colSt s p o T L A h q)).P z) fun x => ?_, trivial⟩
  all_goals
    pointwise [Col.step, Col.soft, Col.tmax, Col.alpha, Col.prob, Col.bounded, Col.acc, colIn, colSt]
    first | rfl | (simp only [hq, hr, Fin.val_zero, Nat.mul_zero, Nat.zero_add]; try rfl)

set_option maxHeartbeats 4000000 in
theorem trip_O : View.PiecesOf (fun y => (tripCol c i arg3 arg4 arg5 arg6 arg7 arg9 arg10 arg11 arg12 arg13 arg14 v1 X3 X4 X5 X6 X7 k fS fP fO fT fL fA (headOfR (y 0)) (y 1)).O (rowOf (y 0)))
    ((trip c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 k).2.2.1 fS fP fO fT fL fA) := by
  unfold trip tripCol
  dsimp only
  unfold trip.sl.HO_8 trip.sl.v831 trip.sl.v830 trip.sl.v829 trip.sl.v828 trip.sl.v827 trip.sl.v825 trip.sl.HO_7 trip.sl.v824 trip.sl.v821 trip.sl.v820 trip.sl.v819
  unfold trip.sl.v818 trip.sl.v817 trip.sl.v816 trip.sl.v815 trip.sl.v813 trip.sl.v812 trip.sl.v809 trip.sl.v808 trip.sl.v807 trip.sl.v806 trip.sl.v805 trip.sl.v804
  unfold trip.sl.v803 trip.sl.v801 trip.sl.v800 trip.sl.v797 trip.sl.v796 trip.sl.v795 trip.sl.v794 trip.sl.v793 trip.sl.v788 trip.sl.v786 trip.sl.v792 trip.sl.v791
  unfold trip.sl.v789 trip.sl.HO_4 trip.sl.v783 trip.sl.v780 trip.sl.v779 trip.sl.v778 trip.sl.v777 trip.sl.v776 trip.sl.v775 trip.sl.v774 trip.sl.v772 trip.sl.v771
  unfold trip.sl.v768 trip.sl.v767 trip.sl.v766 trip.sl.v765 trip.sl.v764 trip.sl.v763 trip.sl.v762 trip.sl.v760 trip.sl.v759 trip.sl.v756 trip.sl.v755 trip.sl.v754
  unfold trip.sl.v753 trip.sl.v752 trip.sl.v751 trip.sl.v750 trip.sl.v748 trip.sl.HO_1 trip.sl.v747 trip.sl.v744 trip.sl.v743 trip.sl.v742 trip.sl.v741 trip.sl.v730
  unfold trip.sl.v729 trip.sl.cst_399 trip.sl.v728 trip.sl.v740 trip.sl.v735 trip.sl.v733 trip.sl.cst_405 trip.sl.v739 trip.sl.v738
  simp only [View.readAt_eq_ld]
  generalize arg3.view.read (Elt Ideal) X3 = r3
  generalize arg4.view.read (Elt Ideal) X4 = r4
  generalize arg5.view.read (Elt Ideal) X5 = r5
  generalize arg6.view.read (Elt Ideal) X6 = r6
  generalize arg7.view.read (Elt Ideal) X7 = r7
  generalize arg9.view.read (Elt Ideal) fS = s
  generalize arg10.view.read (Elt Ideal) fP = p
  generalize arg11.view.read (Elt Ideal) fO = o
  generalize arg12.view.read (Elt Ideal) fT = T
  generalize arg13.view.read (Elt Ideal) fL = L
  generalize arg14.view.read (Elt Ideal) fA = A
  have hk := trips_lt i k
  unfold_payloads
  simp only [ld_rows (off4 i k) (by omega), ld_rows (off1 i k) (by omega), ld_keys (off5 i k) (by omega), ld_lo (off2 i k) (by omega), ld_hi (off3 i k) (by omega)]
  refine ⟨piece_acc 7 _ (fun h q z => (Col.step (colIn v1 r3 r4 r5 r6 r7 h q) k.val (colSt s p o T L A h q)).O z) fun x => ?_, piece_acc 6 _ (fun h q z => (Col.step (colIn v1 r3 r4 r5 r6 r7 h q) k.val (colSt s p o T L A h q)).O z) fun x => ?_, piece_acc 5 _ (fun h q z => (Col.step (colIn v1 r3 r4 r5 r6 r7 h q) k.val (colSt s p o T L A h q)).O z) fun x => ?_, piece_acc 4 _ (fun h q z => (Col.step (colIn v1 r3 r4 r5 r6 r7 h q) k.val (colSt s p o T L A h q)).O z) fun x => ?_, piece_acc 3 _ (fun h q z => (Col.step (colIn v1 r3 r4 r5 r6 r7 h q) k.val (colSt s p o T L A h q)).O z) fun x => ?_, piece_acc 2 _ (fun h q z => (Col.step (colIn v1 r3 r4 r5 r6 r7 h q) k.val (colSt s p o T L A h q)).O z) fun x => ?_, piece_acc 1 _ (fun h q z => (Col.step (colIn v1 r3 r4 r5 r6 r7 h q) k.val (colSt s p o T L A h q)).O z) fun x => ?_, piece_acc 0 _ (fun h q z => (Col.step (colIn v1 r3 r4 r5 r6 r7 h q) k.val (colSt s p o T L A h q)).O z) fun x => ?_, trivial⟩
  all_goals
    pointwise [Col.step, Col.soft, Col.tmax, Col.alpha, Col.prob, Col.bounded, Col.acc, colIn, colSt]
    try simp only [← Nat.add_assoc, Nat.reduceAdd]
    first | rfl | (simp only [hq, hr, Fin.val_zero, Nat.mul_zero, Nat.zero_add]; try rfl)

set_option maxHeartbeats 4000000 in
theorem trip_T : View.PiecesOf (fun y => (tripCol c i arg3 arg4 arg5 arg6 arg7 arg9 arg10 arg11 arg12 arg13 arg14 v1 X3 X4 X5 X6 X7 k fS fP fO fT fL fA (y 0) (y 1)).T)
    ((trip c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 k).2.2.2.1 fS fP fO fT fL fA) := by
  unfold trip tripCol
  dsimp only
  unfold trip.sl.v1177 trip.sl.r_20 trip.sl.v1158 trip.sl.HT_7 trip.sl.r_19 trip.sl.v1114 trip.sl.HT_6 trip.sl.v1070 trip.sl.HT_5 trip.sl.v1026 trip.sl.HT_4 trip.sl.v982
  unfold trip.sl.r_11 trip.sl.HT_3 trip.sl.r_9 trip.sl.v938 trip.sl.HT_2 trip.sl.r_4 trip.sl.v894 trip.sl.r trip.sl.HT_1 trip.sl.r_3
  simp only [View.readAt_eq_ld]
  generalize arg3.view.read (Elt Ideal) X3 = r3
  generalize arg4.view.read (Elt Ideal) X4 = r4
  generalize arg5.view.read (Elt Ideal) X5 = r5
  generalize arg6.view.read (Elt Ideal) X6 = r6
  generalize arg7.view.read (Elt Ideal) X7 = r7
  generalize arg9.view.read (Elt Ideal) fS = s
  generalize arg10.view.read (Elt Ideal) fP = p
  generalize arg11.view.read (Elt Ideal) fO = o
  generalize arg12.view.read (Elt Ideal) fT = T
  generalize arg13.view.read (Elt Ideal) fL = L
  generalize arg14.view.read (Elt Ideal) fA = A
  have hk := trips_lt i k
  unfold_payloads
  simp only [ld_rows (off4 i k) (by omega), ld_rows (off1 i k) (by omega), ld_keys (off5 i k) (by omega), ld_lo (off2 i k) (by omega), ld_hi (off3 i k) (by omega)]
  refine ⟨piece_row 7 _ (fun h q  => (Col.step (colIn v1 r3 r4 r5 r6 r7 h q) k.val (colSt s p o T L A h q)).T) fun x => ?_, piece_row 6 _ (fun h q  => (Col.step (colIn v1 r3 r4 r5 r6 r7 h q) k.val (colSt s p o T L A h q)).T) fun x => ?_, piece_row 5 _ (fun h q  => (Col.step (colIn v1 r3 r4 r5 r6 r7 h q) k.val (colSt s p o T L A h q)).T) fun x => ?_, piece_row 4 _ (fun h q  => (Col.step (colIn v1 r3 r4 r5 r6 r7 h q) k.val (colSt s p o T L A h q)).T) fun x => ?_, piece_row 3 _ (fun h q  => (Col.step (colIn v1 r3 r4 r5 r6 r7 h q) k.val (colSt s p o T L A h q)).T) fun x => ?_, piece_row 2 _ (fun h q  => (Col.step (colIn v1 r3 r4 r5 r6 r7 h q) k.val (colSt s p o T L A h q)).T) fun x => ?_, piece_row 1 _ (fun h q  => (Col.step (colIn v1 r3 r4 r5 r6 r7 h q) k.val (colSt s p o T L A h q)).T) fun x => ?_, piece_row 0 _ (fun h q  => (Col.step (colIn v1 r3 r4 r5 r6 r7 h q) k.val (colSt s p o T L A h q)).T) fun x => ?_, trivial⟩
  all_goals
    pointwise [Col.step, Col.soft, Col.tmax, Col.alpha, Col.prob, Col.bounded, Col.acc, colIn, colSt]
    first | rfl | (simp only [hq, hr, Fin.val_zero, Nat.mul_zero, Nat.zero_add]; try rfl)

set_option maxHeartbeats 4000000 in
theorem trip_L : View.PiecesOf (fun y => (tripCol c i arg3 arg4 arg5 arg6 arg7 arg9 arg10 arg11 arg12 arg13 arg14 v1 X3 X4 X5 X6 X7 k fS fP fO fT fL fA (y 0) (y 1)).L)
    ((trip c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 k).2.2.2.2.1 fS fP fO fT fL fA) := by
  unfold trip tripCol
  dsimp only
  unfold trip.sl.v1188 trip.sl.v1185 trip.sl.v1184 trip.sl.v1183 trip.sl.v1174 trip.sl.v1173 trip.sl.v1172 trip.sl.v1171 trip.sl.v1170 trip.sl.r_23 trip.sl.r_22 trip.sl.v1182
  unfold trip.sl.v1181 trip.sl.r_21 trip.sl.v1158 trip.sl.HL_7 trip.sl.v1137 trip.sl.r_18 trip.sl.r_17 trip.sl.v1114 trip.sl.HL_6 trip.sl.v1093 trip.sl.r_16 trip.sl.r_15
  unfold trip.sl.v1070 trip.sl.HL_5 trip.sl.r_14 trip.sl.v1049 trip.sl.v1026 trip.sl.HL_4 trip.sl.v982 trip.sl.v1005 trip.sl.r_11 trip.sl.HL_3 trip.sl.v961 trip.sl.r_9
  unfold trip.sl.r_8 trip.sl.r_10 trip.sl.v938 trip.sl.cst_517 trip.sl.HL_2 trip.sl.v917 trip.sl.r_7 trip.sl.r_6 trip.sl.r_5 trip.sl.v894 trip.sl.r trip.sl.cst_498
  unfold trip.sl.HL_1 trip.sl.r_2 trip.sl.r_1
  simp only [View.readAt_eq_ld]
  generalize arg3.view.read (Elt Ideal) X3 = r3
  generalize arg4.view.read (Elt Ideal) X4 = r4
  generalize arg5.view.read (Elt Ideal) X5 = r5
  generalize arg6.view.read (Elt Ideal) X6 = r6
  generalize arg7.view.read (Elt Ideal) X7 = r7
  generalize arg9.view.read (Elt Ideal) fS = s
  generalize arg10.view.read (Elt Ideal) fP = p
  generalize arg11.view.read (Elt Ideal) fO = o
  generalize arg12.view.read (Elt Ideal) fT = T
  generalize arg13.view.read (Elt Ideal) fL = L
  generalize arg14.view.read (Elt Ideal) fA = A
  have hk := trips_lt i k
  unfold_payloads
  simp only [ld_rows (off4 i k) (by omega), ld_rows (off1 i k) (by omega), ld_keys (off5 i k) (by omega), ld_lo (off2 i k) (by omega), ld_hi (off3 i k) (by omega)]
  refine ⟨piece_row 7 _ (fun h q  => (Col.step (colIn v1 r3 r4 r5 r6 r7 h q) k.val (colSt s p o T L A h q)).L) fun x => ?_, piece_row 6 _ (fun h q  => (Col.step (colIn v1 r3 r4 r5 r6 r7 h q) k.val (colSt s p o T L A h q)).L) fun x => ?_, piece_row 5 _ (fun h q  => (Col.step (colIn v1 r3 r4 r5 r6 r7 h q) k.val (colSt s p o T L A h q)).L) fun x => ?_, piece_row 4 _ (fun h q  => (Col.step (colIn v1 r3 r4 r5 r6 r7 h q) k.val (colSt s p o T L A h q)).L) fun x => ?_, piece_row 3 _ (fun h q  => (Col.step (colIn v1 r3 r4 r5 r6 r7 h q) k.val (colSt s p o T L A h q)).L) fun x => ?_, piece_row 2 _ (fun h q  => (Col.step (colIn v1 r3 r4 r5 r6 r7 h q) k.val (colSt s p o T L A h q)).L) fun x => ?_, piece_row 1 _ (fun h q  => (Col.step (colIn v1 r3 r4 r5 r6 r7 h q) k.val (colSt s p o T L A h q)).L) fun x => ?_, piece_row 0 _ (fun h q  => (Col.step (colIn v1 r3 r4 r5 r6 r7 h q) k.val (colSt s p o T L A h q)).L) fun x => ?_, trivial⟩
  all_goals
    pointwise [Col.step, Col.soft, Col.tmax, Col.alpha, Col.prob, Col.bounded, Col.acc, colIn, colSt]
    first | rfl | (simp only [hq, hr, Fin.val_zero, Nat.mul_zero, Nat.zero_add]; try rfl)

set_option maxHeartbeats 4000000 in
theorem trip_A : View.PiecesOf (fun y => (tripCol c i arg3 arg4 arg5 arg6 arg7 arg9 arg10 arg11 arg12 arg13 arg14 v1 X3 X4 X5 X6 X7 k fS fP fO fT fL fA (y 0) (y 1)).A)
    ((trip c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 k).2.2.2.2.2.1 fS fP fO fT fL fA) := by
  unfold trip tripCol
  dsimp only
  unfold trip.sl.v1180 trip.sl.r_21 trip.sl.v1158 trip.sl.HA_7 trip.sl.r_17 trip.sl.v1114 trip.sl.HA_6 trip.sl.v1070 trip.sl.HA_5 trip.sl.v1026 trip.sl.HA_4 trip.sl.v982
  unfold trip.sl.r_11 trip.sl.HA_3 trip.sl.r_10 trip.sl.v938 trip.sl.cst_517 trip.sl.HA_2 trip.sl.r_5 trip.sl.v894 trip.sl.r trip.sl.HA_1 trip.sl.r_1
  simp only [View.readAt_eq_ld]
  generalize arg3.view.read (Elt Ideal) X3 = r3
  generalize arg4.view.read (Elt Ideal) X4 = r4
  generalize arg5.view.read (Elt Ideal) X5 = r5
  generalize arg6.view.read (Elt Ideal) X6 = r6
  generalize arg7.view.read (Elt Ideal) X7 = r7
  generalize arg9.view.read (Elt Ideal) fS = s
  generalize arg10.view.read (Elt Ideal) fP = p
  generalize arg11.view.read (Elt Ideal) fO = o
  generalize arg12.view.read (Elt Ideal) fT = T
  generalize arg13.view.read (Elt Ideal) fL = L
  generalize arg14.view.read (Elt Ideal) fA = A
  have hk := trips_lt i k
  unfold_payloads
  simp only [ld_rows (off4 i k) (by omega), ld_rows (off1 i k) (by omega), ld_keys (off5 i k) (by omega), ld_lo (off2 i k) (by omega), ld_hi (off3 i k) (by omega)]
  refine ⟨piece_row 7 _ (fun h q  => (Col.step (colIn v1 r3 r4 r5 r6 r7 h q) k.val (colSt s p o T L A h q)).A) fun x => ?_, piece_row 6 _ (fun h q  => (Col.step (colIn v1 r3 r4 r5 r6 r7 h q) k.val (colSt s p o T L A h q)).A) fun x => ?_, piece_row 5 _ (fun h q  => (Col.step (colIn v1 r3 r4 r5 r6 r7 h q) k.val (colSt s p o T L A h q)).A) fun x => ?_, piece_row 4 _ (fun h q  => (Col.step (colIn v1 r3 r4 r5 r6 r7 h q) k.val (colSt s p o T L A h q)).A) fun x => ?_, piece_row 3 _ (fun h q  => (Col.step (colIn v1 r3 r4 r5 r6 r7 h q) k.val (colSt s p o T L A h q)).A) fun x => ?_, piece_row 2 _ (fun h q  => (Col.step (colIn v1 r3 r4 r5 r6 r7 h q) k.val (colSt s p o T L A h q)).A) fun x => ?_, piece_row 1 _ (fun h q  => (Col.step (colIn v1 r3 r4 r5 r6 r7 h q) k.val (colSt s p o T L A h q)).A) fun x => ?_, piece_row 0 _ (fun h q  => (Col.step (colIn v1 r3 r4 r5 r6 r7 h q) k.val (colSt s p o T L A h q)).A) fun x => ?_, trivial⟩
  all_goals
    pointwise [Col.step, Col.soft, Col.tmax, Col.alpha, Col.prob, Col.bounded, Col.acc, colIn, colSt]
    first | rfl | (simp only [hq, hr, Fin.val_zero, Nat.mul_zero, Nat.zero_add]; try rfl)

end Trip

end Cert.KernelIdeal.Own

end
-- ==== Proof.KLoop.lean ====
/-
  What the scratches hold of a column, trip after trip.
-/
module

public import proofs.«01_k».proof.Proof.KStep

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open Cert.KernelIdeal Cert.KernelIdeal.Gen

/-- Where the pieces written agree with one function and cover, the buffer reads as the function. -/
theorem read_pieces {sg : RefSig} {κ' : Kind} {sp : Space} {S : Shape} {e : EltTy} {v : View sg κ' sp S e} {f : v.ty.Contents (Elt Ideal)}
    {G : S.Idx → Elt Ideal e} {L : List (View.Piece (Elt Ideal) S e)} (hp : View.PiecesOf G L) (y : S.Idx) (hc : ∃ p ∈ L, y ∈ p.1.set) :
    v.read (Elt Ideal) (v.writes (Elt Ideal) f L) y = G y :=
  View.read_writes_apply_of_pieces _ _ G L hp.mem y hc

section Step

variable (c : Dev nD) (i : grid0.Coords)
  (arg2 : Memref sig .tc .vmem S1x1x1024x128 .fp8e4m3) (harg2 : arg2.IsWhole)
  (arg3 : Memref sig .tc .vmem S1x128x128x128 .fp8e4m3) (harg3 : arg3.IsWhole)
  (arg4 : Memref sig .tc .vmem S1x128x128x128 .fp8e4m3) (harg4 : arg4.IsWhole)
  (arg5 : Memref sig .tc .vmem S1x1x8x128 .f32) (harg5 : arg5.IsWhole)
  (arg6 : Memref sig .tc .vmem S1x128x8x128 .f32) (harg6 : arg6.IsWhole)
  (arg7 : Memref sig .tc .vmem S1x128x8x128 .f32) (harg7 : arg7.IsWhole)
  (arg8 : Memref sig .tc .vmem S1x128x512 .bf16) (harg8 : arg8.IsWhole)
  (arg9 : Memref sig .tc .vmem S128x1024 .f32) (harg9 : arg9.IsWhole)
  (arg10 : Memref sig .tc .vmem S128x1024 .fp8e4m3) (harg10 : arg10.IsWhole)
  (arg11 : Memref sig .tc .vmem S512x128 .f32) (harg11 : arg11.IsWhole)
  (arg12 : Memref sig .tc .vmem S8x128 .f32) (harg12 : arg12.IsWhole)
  (arg13 : Memref sig .tc .vmem S8x128 .f32) (harg13 : arg13.IsWhole)
  (arg14 : Memref sig .tc .vmem S8x128 .f32) (harg14 : arg14.IsWhole)
  (arg1 : BitVec 32) (v1 : FVec Ideal S1024x128 .fp8e4m3) (v24 : FVec Ideal S128x1024 .f32)
  (X3 : Buf (Elt Ideal) (arg3.view.loc (c : Thread nD τ))) (X4 : Buf (Elt Ideal) (arg4.view.loc (c : Thread nD τ))) (X5 : Buf (Elt Ideal) (arg5.view.loc (c : Thread nD τ))) (X6 : Buf (Elt Ideal) (arg6.view.loc (c : Thread nD τ))) (X7 : Buf (Elt Ideal) (arg7.view.loc (c : Thread nD τ)))
  (k : Fin (k0_t1_loop i).trips)

/-- What the scratches hold of a column, from their contents. -/
abbrev bufCol (s : Own.St (F := Ideal) c arg9 arg10 arg11 arg12 arg13 arg14) (h : Fin 8) (q : Fin 128) : Col.St :=
  colSt (arg9.view.read (Elt Ideal) s.1) (arg10.view.read (Elt Ideal) s.2.1) (arg11.view.read (Elt Ideal) s.2.2.1) (arg12.view.read (Elt Ideal) s.2.2.2.1) (arg13.view.read (Elt Ideal) s.2.2.2.2.1) (arg14.view.read (Elt Ideal) s.2.2.2.2.2) h q

theorem headOf_hq (h : Fin 8) (q : Fin 128) : headOf (hq h q) = h := Fin.ext (by show (128 * h.val + q.val) / 128 = h.val; omega)
theorem laneOf_hq (h : Fin 8) (q : Fin 128) : laneOf (hq h q) = q := Fin.ext (by show (128 * h.val + q.val) % 128 = q.val; omega)
theorem headOfR_hr (h : Fin 8) (r : Fin 64) : headOfR (hr h r) = h := Fin.ext (by show (64 * h.val + r.val) / 64 = h.val; omega)
theorem rowOf_hr (h : Fin 8) (r : Fin 64) : rowOf (hr h r) = r := Fin.ext (by show (64 * h.val + r.val) % 64 = r.val; omega)

/-- A trip steps every column. -/
theorem step_col (s : Own.St (F := Ideal) c arg9 arg10 arg11 arg12 arg13 arg14) (h : Fin 8) (q : Fin 128) :
    bufCol c arg9 arg10 arg11 arg12 arg13 arg14 (stepSt c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 k s) h q
      = Col.step (colIn v1 (arg3.view.read (Elt Ideal) X3) (arg4.view.read (Elt Ideal) X4) (arg5.view.read (Elt Ideal) X5) (arg6.view.read (Elt Ideal) X6) (arg7.view.read (Elt Ideal) X7) h q) k.val (bufCol c arg9 arg10 arg11 arg12 arg13 arg14 s h q) := by
  refine Col.St.ext (funext fun z => ?_) (funext fun z => ?_) (funext fun z => ?_) ?_ ?_ ?_
  · refine (read_pieces (trip_S c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 k s.1 s.2.1 s.2.2.1 s.2.2.2.1 s.2.2.2.2.1 s.2.2.2.2.2) _ (View.cover_of_tiled _ ![128, 1024] ?_ _)).trans ?_
    · unfold trip; rfl
    · exact congrArg₂ (fun h q => (tripCol c i arg3 arg4 arg5 arg6 arg7 arg9 arg10 arg11 arg12 arg13 arg14 v1 X3 X4 X5 X6 X7 k s.1 s.2.1 s.2.2.1 s.2.2.2.1 s.2.2.2.2.1 s.2.2.2.2.2 h q).S z) (headOf_hq h q) (laneOf_hq h q)
  · refine (read_pieces (trip_P c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 k s.1 s.2.1 s.2.2.1 s.2.2.2.1 s.2.2.2.2.1 s.2.2.2.2.2) _ (View.cover_of_tiled _ ![128, 128] ?_ _)).trans ?_
    · unfold trip; rfl
    · exact congrArg₂ (fun h q => (tripCol c i arg3 arg4 arg5 arg6 arg7 arg9 arg10 arg11 arg12 arg13 arg14 v1 X3 X4 X5 X6 X7 k s.1 s.2.1 s.2.2.1 s.2.2.2.1 s.2.2.2.2.1 s.2.2.2.2.2 h q).P z) (headOf_hq h q) (laneOf_hq h q)
  · refine (read_pieces (trip_O c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 k s.1 s.2.1 s.2.2.1 s.2.2.2.1 s.2.2.2.2.1 s.2.2.2.2.2) _ (View.cover_of_tiled _ ![64, 128] ?_ _)).trans ?_
    · unfold trip; rfl
    · exact congrArg₂ (fun h r => (tripCol c i arg3 arg4 arg5 arg6 arg7 arg9 arg10 arg11 arg12 arg13 arg14 v1 X3 X4 X5 X6 X7 k s.1 s.2.1 s.2.2.1 s.2.2.2.1 s.2.2.2.2.1 s.2.2.2.2.2 h q).O r) (headOfR_hr h z) (rowOf_hr h z)
  · refine (read_pieces (trip_T c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 k s.1 s.2.1 s.2.2.1 s.2.2.2.1 s.2.2.2.2.1 s.2.2.2.2.2) _ (View.cover_of_tiled _ ![1, 128] ?_ _)).trans ?_
    · unfold trip; rfl
    · rfl
  · refine (read_pieces (trip_L c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 k s.1 s.2.1 s.2.2.1 s.2.2.2.1 s.2.2.2.2.1 s.2.2.2.2.2) _ (View.cover_of_tiled _ ![1, 128] ?_ _)).trans ?_
    · unfold trip; rfl
    · rfl
  · refine (read_pieces (trip_A c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 k s.1 s.2.1 s.2.2.1 s.2.2.2.1 s.2.2.2.2.1 s.2.2.2.2.2) _ (View.cover_of_tiled _ ![1, 128] ?_ _)).trans ?_
    · unfold trip; rfl
    · rfl

omit k in
/-- So that before each trip the columns are where their steps take them. -/
theorem st_col (g : Own.St (F := Ideal) c arg9 arg10 arg11 arg12 arg13 arg14) (h : Fin 8) (q : Fin 128)
    (hg : bufCol c arg9 arg10 arg11 arg12 arg13 arg14 g h q = Col.init (colIn v1 (arg3.view.read (Elt Ideal) X3) (arg4.view.read (Elt Ideal) X4) (arg5.view.read (Elt Ideal) X5) (arg6.view.read (Elt Ideal) X6) (arg7.view.read (Elt Ideal) X7) h q)) :
    ∀ k : ℕ, k ≤ (i 1).val → bufCol c arg9 arg10 arg11 arg12 arg13 arg14 (Own.st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 g k) h q = Col.st (colIn v1 (arg3.view.read (Elt Ideal) X3) (arg4.view.read (Elt Ideal) X4) (arg5.view.read (Elt Ideal) X5) (arg6.view.read (Elt Ideal) X6) (arg7.view.read (Elt Ideal) X7) h q) k
  | 0, _ => hg
  | k + 1, hk => by
    rw [st_succ c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 g ⟨k, by rw [trips1]; exact hk⟩, step_col, st_col g h q hg k (Nat.le_of_succ_le hk)]
    rfl

end Step

end Cert.KernelIdeal.Own

end
-- ==== Proof.KEpi.lean ====
/-
  What the loop leaves and the diagonal block makes of it, column by column.
-/
module

public import proofs.«01_k».proof.Proof.KLoop
public import Idealize.ShloMosaic.Lib.WritesUnit

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open Cert.KernelIdeal Cert.KernelIdeal.Gen

section Epi

variable (c : Dev nD) (i : grid0.Coords)
  (arg2 : Memref sig .tc .vmem S1x1x1024x128 .fp8e4m3) (harg2 : arg2.IsWhole)
  (arg3 : Memref sig .tc .vmem S1x128x128x128 .fp8e4m3) (harg3 : arg3.IsWhole)
  (arg4 : Memref sig .tc .vmem S1x128x128x128 .fp8e4m3) (harg4 : arg4.IsWhole)
  (arg5 : Memref sig .tc .vmem S1x1x8x128 .f32) (harg5 : arg5.IsWhole)
  (arg6 : Memref sig .tc .vmem S1x128x8x128 .f32) (harg6 : arg6.IsWhole)
  (arg7 : Memref sig .tc .vmem S1x128x8x128 .f32) (harg7 : arg7.IsWhole)
  (arg8 : Memref sig .tc .vmem S1x128x512 .bf16) (harg8 : arg8.IsWhole)
  (arg9 : Memref sig .tc .vmem S128x1024 .f32) (harg9 : arg9.IsWhole)
  (arg10 : Memref sig .tc .vmem S128x1024 .fp8e4m3) (harg10 : arg10.IsWhole)
  (arg11 : Memref sig .tc .vmem S512x128 .f32) (harg11 : arg11.IsWhole)
  (arg12 : Memref sig .tc .vmem S8x128 .f32) (harg12 : arg12.IsWhole)
  (arg13 : Memref sig .tc .vmem S8x128 .f32) (harg13 : arg13.IsWhole)
  (arg14 : Memref sig .tc .vmem S8x128 .f32) (harg14 : arg14.IsWhole)
  (X2 : Buf (Elt Ideal) (arg2.view.loc (c : Thread nD τ))) (X3 : Buf (Elt Ideal) (arg3.view.loc (c : Thread nD τ))) (X4 : Buf (Elt Ideal) (arg4.view.loc (c : Thread nD τ))) (X5 : Buf (Elt Ideal) (arg5.view.loc (c : Thread nD τ))) (X6 : Buf (Elt Ideal) (arg6.view.loc (c : Thread nD τ))) (X7 : Buf (Elt Ideal) (arg7.view.loc (c : Thread nD τ)))

/-- The scratches as the loop is entered. -/
abbrev entry : Own.St (F := Ideal) c arg9 arg10 arg11 arg12 arg13 arg14 :=
  (arg9.view.writes (Elt Ideal) arg9.view.junk (run.sl.HS_1 (F := Ideal) c arg2 arg3 X2 X3), arg10.view.writes (Elt Ideal) arg10.view.junk (run.sl.HP_1 (F := Ideal)), arg11.view.writes (Elt Ideal) arg11.view.junk (run.sl.HO_1 (F := Ideal)), arg12.view.writes (Elt Ideal) arg12.view.junk (run.sl.HT_1 (F := Ideal)), arg13.view.writes (Elt Ideal) arg13.view.junk (run.sl.HL_1 (F := Ideal)), arg14.view.writes (Elt Ideal) arg14.view.junk (run.sl.HL_1 (F := Ideal)))

/-- And as it leaves them. -/
abbrev post : Own.St (F := Ideal) c arg9 arg10 arg11 arg12 arg13 arg14 :=
  Own.st c i arg2 harg2 arg3 harg3 arg4 harg4 arg5 harg5 arg6 harg6 arg7 harg7 arg8 harg8 arg9 harg9 arg10 harg10 arg11 harg11 arg12 harg12 arg13 harg13 arg14 harg14 (BitVec.ofNat 32 ↑(i 1)) (run.sl.v1 (F := Ideal) c arg2 X2) (run.sl.v24 (F := Ideal) c arg2 arg3 X2 X3) X3 X4 X5 X6 X7 (entry c arg2 arg3 arg9 arg10 arg11 arg12 arg13 arg14 X2 X3) (Scf.trips (k0_t1_loop i).lb (k0_t1_loop i).ub (k0_t1_loop i).st)

/-- What the input blocks give a column. -/
abbrev colI (h : Fin 8) (q : Fin 128) : Col.In :=
  colIn (run.sl.v1 (F := Ideal) c arg2 X2) (arg3.view.read (Elt Ideal) X3) (arg4.view.read (Elt Ideal) X4) (arg5.view.read (Elt Ideal) X5) (arg6.view.read (Elt Ideal) X6) (arg7.view.read (Elt Ideal) X7) h q

/-- A column after the loop. -/
abbrev postCol (h : Fin 8) (q : Fin 128) : Col.St := bufCol c arg9 arg10 arg11 arg12 arg13 arg14 (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7) h q

/-- A column after the diagonal block. -/
abbrev dCol (h : Fin 8) (q : Fin 128) : Col.St :=
  Col.diag (colI c arg2 arg3 arg4 arg5 arg6 arg7 X2 X3 X4 X5 X6 X7 h q) (i 1).val q (postCol c i arg2 harg2 arg3 harg3 arg4 harg4 arg5 harg5 arg6 harg6 arg7 harg7 arg8 harg8 arg9 harg9 arg10 harg10 arg11 harg11 arg12 harg12 arg13 harg13 arg14 harg14 X2 X3 X4 X5 X6 X7 h q)

theorem pick_S (arg1 : BitVec 32) (v1 : FVec Ideal S1024x128 .fp8e4m3) (v24 : FVec Ideal S128x1024 .f32)
    (g : Own.St (F := Ideal) c arg9 arg10 arg11 arg12 arg13 arg14) (n : ℕ) :
    pick n g.1 (Own.st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 g n).1 = (Own.st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 g n).1 :=
  pick_eq _ _ _ fun h => by subst h; rfl

theorem pick_P (arg1 : BitVec 32) (v1 : FVec Ideal S1024x128 .fp8e4m3) (v24 : FVec Ideal S128x1024 .f32)
    (g : Own.St (F := Ideal) c arg9 arg10 arg11 arg12 arg13 arg14) (n : ℕ) :
    pick n g.2.1 (Own.st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 g n).2.1 = (Own.st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 g n).2.1 :=
  pick_eq _ _ _ fun h => by subst h; rfl

theorem pick_O (arg1 : BitVec 32) (v1 : FVec Ideal S1024x128 .fp8e4m3) (v24 : FVec Ideal S128x1024 .f32)
    (g : Own.St (F := Ideal) c arg9 arg10 arg11 arg12 arg13 arg14) (n : ℕ) :
    pick n g.2.2.1 (Own.st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 g n).2.2.1 = (Own.st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 g n).2.2.1 :=
  pick_eq _ _ _ fun h => by subst h; rfl

theorem pick_T (arg1 : BitVec 32) (v1 : FVec Ideal S1024x128 .fp8e4m3) (v24 : FVec Ideal S128x1024 .f32)
    (g : Own.St (F := Ideal) c arg9 arg10 arg11 arg12 arg13 arg14) (n : ℕ) :
    pick n g.2.2.2.1 (Own.st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 g n).2.2.2.1 = (Own.st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 g n).2.2.2.1 :=
  pick_eq _ _ _ fun h => by subst h; rfl

theorem pick_L (arg1 : BitVec 32) (v1 : FVec Ideal S1024x128 .fp8e4m3) (v24 : FVec Ideal S128x1024 .f32)
    (g : Own.St (F := Ideal) c arg9 arg10 arg11 arg12 arg13 arg14) (n : ℕ) :
    pick n g.2.2.2.2.1 (Own.st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 g n).2.2.2.2.1 = (Own.st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 g n).2.2.2.2.1 :=
  pick_eq _ _ _ fun h => by subst h; rfl

theorem pick_A (arg1 : BitVec 32) (v1 : FVec Ideal S1024x128 .fp8e4m3) (v24 : FVec Ideal S128x1024 .f32)
    (g : Own.St (F := Ideal) c arg9 arg10 arg11 arg12 arg13 arg14) (n : ℕ) :
    pick n g.2.2.2.2.2 (Own.st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 g n).2.2.2.2.2 = (Own.st c i arg2 harg2 arg3 harg3 arg4 harg4 arg5 harg5 arg6 harg6 arg7 harg7 arg8 harg8 arg9 harg9 arg10 harg10 arg11 harg11 arg12 harg12 arg13 harg13 arg14 harg14 arg1 v1 v24 X3 X4 X5 X6 X7 g n).2.2.2.2.2 :=
  pick_eq _ _ _ fun h => by subst h; rfl

set_option maxHeartbeats 4000000 in
theorem diag_T : View.PiecesOf (fun y => (dCol c i arg2 harg2 arg3 harg3 arg4 harg4 arg5 harg5 arg6 harg6 arg7 harg7 arg8 harg8 arg9 harg9 arg10 harg10 arg11 harg11 arg12 harg12 arg13 harg13 arg14 harg14 X2 X3 X4 X5 X6 X7 (y 0) (y 1)).T)
    (run.sl.HT_8 (F := Ideal) c i arg2 harg2 arg3 harg3 arg4 harg4 arg5 harg5 arg6 harg6 arg7 harg7 arg8 harg8 arg9 harg9 arg10 harg10 arg11 harg11 arg12 harg12 arg13 harg13 arg14 harg14 X2 X3 X4 X5 X6 X7) := by
  unfold run.sl.HT_8 run.sl.v486 run.sl.v479 run.sl.HT_7 run.sl.v440 run.sl.v run.sl.HT_6 run.sl.v396 run.sl.v395 run.sl.v393 run.sl.v392 run.sl.v391
  unfold run.sl.v390 run.sl.v389 run.sl.v388 run.sl.v387 run.sl.v394 run.sl.HT_5 run.sl.v367 run.sl.r_12 run.sl.v348 run.sl.v341 run.sl.HT_4 run.sl.v302
  unfold run.sl.v295 run.sl.HT_3 run.sl.v256 run.sl.v249 run.sl.HT_2 run.sl.v210 run.sl.r_6 run.sl.v203 run.sl.r_2 run.sl.cst_110 run.sl.HT_1_1 run.sl.r_4
  unfold run.sl.v164 run.sl.v157
  unfold dCol postCol colI
  have hS := pick_S c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hP := pick_P c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hO := pick_O c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hT := pick_T c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hL := pick_L c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hA := pick_A c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  unfold pick at hS hP hO hT hL hA
  unfold entry at hS hP hO hT hL hA
  dsimp only at hS hP hO hT hL hA
  simp only [hS, hT]
  unfold bufCol
  simp only [View.readAt_eq_ld]
  generalize arg3.view.read (Elt Ideal) X3 = r3
  generalize arg4.view.read (Elt Ideal) X4 = r4
  generalize arg5.view.read (Elt Ideal) X5 = r5
  generalize arg6.view.read (Elt Ideal) X6 = r6
  generalize arg7.view.read (Elt Ideal) X7 = r7
  generalize arg9.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).1 = sS
  generalize arg10.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.1 = sP
  generalize arg11.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.2.1 = sO
  generalize arg12.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.2.2.1 = sT
  generalize arg13.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.2.2.2.1 = sL
  generalize arg14.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.2.2.2.2 = sA
  generalize run.sl.v1 (F := Ideal) c arg2 X2 = v1
  have hn : (i 1).val < 128 := (i 1).isLt
  unfold_payloads
  simp only [ld_rows (off14 i) (by omega)]
  refine ⟨piece_row 7 _ (fun h q  => (Col.diag (colIn v1 r3 r4 r5 r6 r7 h q) (i 1).val q (colSt sS sP sO sT sL sA h q)).T) fun x => ?_, piece_row 6 _ (fun h q  => (Col.diag (colIn v1 r3 r4 r5 r6 r7 h q) (i 1).val q (colSt sS sP sO sT sL sA h q)).T) fun x => ?_, piece_row 5 _ (fun h q  => (Col.diag (colIn v1 r3 r4 r5 r6 r7 h q) (i 1).val q (colSt sS sP sO sT sL sA h q)).T) fun x => ?_, piece_row 4 _ (fun h q  => (Col.diag (colIn v1 r3 r4 r5 r6 r7 h q) (i 1).val q (colSt sS sP sO sT sL sA h q)).T) fun x => ?_, piece_row 3 _ (fun h q  => (Col.diag (colIn v1 r3 r4 r5 r6 r7 h q) (i 1).val q (colSt sS sP sO sT sL sA h q)).T) fun x => ?_, piece_row 2 _ (fun h q  => (Col.diag (colIn v1 r3 r4 r5 r6 r7 h q) (i 1).val q (colSt sS sP sO sT sL sA h q)).T) fun x => ?_, piece_row 1 _ (fun h q  => (Col.diag (colIn v1 r3 r4 r5 r6 r7 h q) (i 1).val q (colSt sS sP sO sT sL sA h q)).T) fun x => ?_, piece_row 0 _ (fun h q  => (Col.diag (colIn v1 r3 r4 r5 r6 r7 h q) (i 1).val q (colSt sS sP sO sT sL sA h q)).T) fun x => ?_, trivial⟩
  all_goals
    pointwise [Col.diag, Col.masked, Col.soft, Col.tmax, Col.alpha, Col.prob, Col.bounded, Col.acc, colIn, colSt]
    first | rfl | (simp only [hq, hr, Fin.val_zero, Nat.mul_zero, Nat.zero_add]; try rfl)

set_option maxHeartbeats 4000000 in
theorem diag_L : View.PiecesOf (fun y => (dCol c i arg2 harg2 arg3 harg3 arg4 harg4 arg5 harg5 arg6 harg6 arg7 harg7 arg8 harg8 arg9 harg9 arg10 harg10 arg11 harg11 arg12 harg12 arg13 harg13 arg14 harg14 X2 X3 X4 X5 X6 X7 (y 0) (y 1)).L)
    (run.sl.HL_8 (F := Ideal) c i arg2 harg2 arg3 harg3 arg4 harg4 arg5 harg5 arg6 harg6 arg7 harg7 arg8 harg8 arg9 harg9 arg10 harg10 arg11 harg11 arg12 harg12 arg13 harg13 arg14 harg14 X2 X3 X4 X5 X6 X7) := by
  unfold run.sl.HL_8 run.sl.v516 run.sl.v513 run.sl.v512 run.sl.v511 run.sl.r_17 run.sl.r_18 run.sl.v509 run.sl.v486 run.sl.v479 run.sl.HL_7 run.sl.v463
  unfold run.sl.v440 run.sl.v run.sl.HL_6 run.sl.v417 run.sl.v396 run.sl.v395 run.sl.v394 run.sl.v393 run.sl.v392 run.sl.v391 run.sl.v390 run.sl.v389
  unfold run.sl.v388 run.sl.v387 run.sl.HL_5 run.sl.v378 run.sl.v375 run.sl.v374 run.sl.v373 run.sl.v364 run.sl.v363 run.sl.v362 run.sl.v361 run.sl.v360
  unfold run.sl.cst_186 run.sl.r_15 run.sl.r_14 run.sl.v372 run.sl.v371 run.sl.r_13 run.sl.v348 run.sl.v341 run.sl.HL_4 run.sl.v325 run.sl.r_11 run.sl.r_10
  unfold run.sl.v302 run.sl.v295 run.sl.HL_3 run.sl.r_9 run.sl.v279 run.sl.v256 run.sl.v249 run.sl.HL_2 run.sl.v233 run.sl.v210 run.sl.r_6 run.sl.v203
  unfold run.sl.r_2 run.sl.cst_110 run.sl.HL_1_1 run.sl.v187 run.sl.r_5 run.sl.r_4 run.sl.v164 run.sl.r_3 run.sl.v157
  unfold dCol postCol colI
  have hS := pick_S c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hP := pick_P c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hO := pick_O c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hT := pick_T c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hL := pick_L c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hA := pick_A c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  unfold pick at hS hP hO hT hL hA
  unfold entry at hS hP hO hT hL hA
  dsimp only at hS hP hO hT hL hA
  simp only [hS, hT, hL]
  unfold bufCol
  simp only [View.readAt_eq_ld]
  generalize arg3.view.read (Elt Ideal) X3 = r3
  generalize arg4.view.read (Elt Ideal) X4 = r4
  generalize arg5.view.read (Elt Ideal) X5 = r5
  generalize arg6.view.read (Elt Ideal) X6 = r6
  generalize arg7.view.read (Elt Ideal) X7 = r7
  generalize arg9.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).1 = sS
  generalize arg10.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.1 = sP
  generalize arg11.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.2.1 = sO
  generalize arg12.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.2.2.1 = sT
  generalize arg13.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.2.2.2.1 = sL
  generalize arg14.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.2.2.2.2 = sA
  generalize run.sl.v1 (F := Ideal) c arg2 X2 = v1
  have hn : (i 1).val < 128 := (i 1).isLt
  unfold_payloads
  simp only [ld_rows (off14 i) (by omega)]
  refine ⟨piece_row 7 _ (fun h q  => (Col.diag (colIn v1 r3 r4 r5 r6 r7 h q) (i 1).val q (colSt sS sP sO sT sL sA h q)).L) fun x => ?_, piece_row 6 _ (fun h q  => (Col.diag (colIn v1 r3 r4 r5 r6 r7 h q) (i 1).val q (colSt sS sP sO sT sL sA h q)).L) fun x => ?_, piece_row 5 _ (fun h q  => (Col.diag (colIn v1 r3 r4 r5 r6 r7 h q) (i 1).val q (colSt sS sP sO sT sL sA h q)).L) fun x => ?_, piece_row 4 _ (fun h q  => (Col.diag (colIn v1 r3 r4 r5 r6 r7 h q) (i 1).val q (colSt sS sP sO sT sL sA h q)).L) fun x => ?_, piece_row 3 _ (fun h q  => (Col.diag (colIn v1 r3 r4 r5 r6 r7 h q) (i 1).val q (colSt sS sP sO sT sL sA h q)).L) fun x => ?_, piece_row 2 _ (fun h q  => (Col.diag (colIn v1 r3 r4 r5 r6 r7 h q) (i 1).val q (colSt sS sP sO sT sL sA h q)).L) fun x => ?_, piece_row 1 _ (fun h q  => (Col.diag (colIn v1 r3 r4 r5 r6 r7 h q) (i 1).val q (colSt sS sP sO sT sL sA h q)).L) fun x => ?_, piece_row 0 _ (fun h q  => (Col.diag (colIn v1 r3 r4 r5 r6 r7 h q) (i 1).val q (colSt sS sP sO sT sL sA h q)).L) fun x => ?_, trivial⟩
  all_goals
    pointwise [Col.diag, Col.masked, Col.soft, Col.tmax, Col.alpha, Col.prob, Col.bounded, Col.acc, colIn, colSt]
    first | rfl | (simp only [hq, hr, Fin.val_zero, Nat.mul_zero, Nat.zero_add]; try rfl)

set_option maxHeartbeats 4000000 in
theorem diag_A : View.PiecesOf (fun y => (dCol c i arg2 harg2 arg3 harg3 arg4 harg4 arg5 harg5 arg6 harg6 arg7 harg7 arg8 harg8 arg9 harg9 arg10 harg10 arg11 harg11 arg12 harg12 arg13 harg13 arg14 harg14 X2 X3 X4 X5 X6 X7 (y 0) (y 1)).A)
    (run.sl.HA_8 (F := Ideal) c i arg2 harg2 arg3 harg3 arg4 harg4 arg5 harg5 arg6 harg6 arg7 harg7 arg8 harg8 arg9 harg9 arg10 harg10 arg11 harg11 arg12 harg12 arg13 harg13 arg14 harg14 X2 X3 X4 X5 X6 X7) := by
  unfold run.sl.HA_8 run.sl.v486 run.sl.v479 run.sl.HA_7 run.sl.v440 run.sl.v run.sl.HA_6 run.sl.v396 run.sl.v395 run.sl.v393 run.sl.v392 run.sl.v391
  unfold run.sl.v390 run.sl.v389 run.sl.v388 run.sl.v387 run.sl.v394 run.sl.HA_5 run.sl.v370 run.sl.r_13 run.sl.v348 run.sl.v341 run.sl.HA_4 run.sl.r_10
  unfold run.sl.v302 run.sl.v295 run.sl.HA_3 run.sl.v256 run.sl.v249 run.sl.HA_2 run.sl.v210 run.sl.r_6 run.sl.v203 run.sl.r_2 run.sl.cst_110 run.sl.HA_1
  unfold run.sl.r_5 run.sl.v164 run.sl.v157
  unfold dCol postCol colI
  have hS := pick_S c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hP := pick_P c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hO := pick_O c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hT := pick_T c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hL := pick_L c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hA := pick_A c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  unfold pick at hS hP hO hT hL hA
  unfold entry at hS hP hO hT hL hA
  dsimp only at hS hP hO hT hL hA
  simp only [hS, hT]
  unfold bufCol
  simp only [View.readAt_eq_ld]
  generalize arg3.view.read (Elt Ideal) X3 = r3
  generalize arg4.view.read (Elt Ideal) X4 = r4
  generalize arg5.view.read (Elt Ideal) X5 = r5
  generalize arg6.view.read (Elt Ideal) X6 = r6
  generalize arg7.view.read (Elt Ideal) X7 = r7
  generalize arg9.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).1 = sS
  generalize arg10.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.1 = sP
  generalize arg11.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.2.1 = sO
  generalize arg12.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.2.2.1 = sT
  generalize arg13.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.2.2.2.1 = sL
  generalize arg14.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.2.2.2.2 = sA
  generalize run.sl.v1 (F := Ideal) c arg2 X2 = v1
  have hn : (i 1).val < 128 := (i 1).isLt
  unfold_payloads
  simp only [ld_rows (off14 i) (by omega)]
  refine ⟨piece_row 7 _ (fun h q  => (Col.diag (colIn v1 r3 r4 r5 r6 r7 h q) (i 1).val q (colSt sS sP sO sT sL sA h q)).A) fun x => ?_, piece_row 6 _ (fun h q  => (Col.diag (colIn v1 r3 r4 r5 r6 r7 h q) (i 1).val q (colSt sS sP sO sT sL sA h q)).A) fun x => ?_, piece_row 5 _ (fun h q  => (Col.diag (colIn v1 r3 r4 r5 r6 r7 h q) (i 1).val q (colSt sS sP sO sT sL sA h q)).A) fun x => ?_, piece_row 4 _ (fun h q  => (Col.diag (colIn v1 r3 r4 r5 r6 r7 h q) (i 1).val q (colSt sS sP sO sT sL sA h q)).A) fun x => ?_, piece_row 3 _ (fun h q  => (Col.diag (colIn v1 r3 r4 r5 r6 r7 h q) (i 1).val q (colSt sS sP sO sT sL sA h q)).A) fun x => ?_, piece_row 2 _ (fun h q  => (Col.diag (colIn v1 r3 r4 r5 r6 r7 h q) (i 1).val q (colSt sS sP sO sT sL sA h q)).A) fun x => ?_, piece_row 1 _ (fun h q  => (Col.diag (colIn v1 r3 r4 r5 r6 r7 h q) (i 1).val q (colSt sS sP sO sT sL sA h q)).A) fun x => ?_, piece_row 0 _ (fun h q  => (Col.diag (colIn v1 r3 r4 r5 r6 r7 h q) (i 1).val q (colSt sS sP sO sT sL sA h q)).A) fun x => ?_, trivial⟩
  all_goals
    pointwise [Col.diag, Col.masked, Col.soft, Col.tmax, Col.alpha, Col.prob, Col.bounded, Col.acc, colIn, colSt]
    first | rfl | (simp only [hq, hr, Fin.val_zero, Nat.mul_zero, Nat.zero_add]; try rfl)

set_option maxHeartbeats 4000000 in
theorem diag_P : View.PiecesOf (fun y => (dCol c i arg2 harg2 arg3 harg3 arg4 harg4 arg5 harg5 arg6 harg6 arg7 harg7 arg8 harg8 arg9 harg9 arg10 harg10 arg11 harg11 arg12 harg12 arg13 harg13 arg14 harg14 X2 X3 X4 X5 X6 X7 (headOf (y 1)) (laneOf (y 1))).P (y 0))
    (run.sl.HP_8 (F := Ideal) c i arg2 harg2 arg3 harg3 arg4 harg4 arg5 harg5 arg6 harg6 arg7 harg7 arg8 harg8 arg9 harg9 arg10 harg10 arg11 harg11 arg12 harg12 arg13 harg13 arg14 harg14 X2 X3 X4 X5 X6 X7) := by
  unfold run.sl.HP_8 run.sl.v524 run.sl.v521 run.sl.v520 run.sl.v518 run.sl.r_17 run.sl.v486 run.sl.v479 run.sl.HP_7 run.sl.r_16 run.sl.v440 run.sl.v
  unfold run.sl.HP_6 run.sl.v396 run.sl.v395 run.sl.v394 run.sl.v393 run.sl.v392 run.sl.v391 run.sl.v390 run.sl.v389 run.sl.v388 run.sl.v387 run.sl.HP_5
  unfold run.sl.v386 run.sl.v383 run.sl.v382 run.sl.v381 run.sl.cst_197 run.sl.v380 run.sl.v379 run.sl.cst_196 run.sl.v364 run.sl.v363 run.sl.v362 run.sl.v361
  unfold run.sl.v360 run.sl.cst_186 run.sl.r_15 run.sl.v348 run.sl.r_14 run.sl.v341 run.sl.HP_4 run.sl.r_11 run.sl.v302 run.sl.v295 run.sl.HP_3 run.sl.r_8
  unfold run.sl.v256 run.sl.v249 run.sl.HP_2 run.sl.r_7 run.sl.v210 run.sl.r_6 run.sl.v203 run.sl.r_2 run.sl.cst_110 run.sl.HP_1_1 run.sl.r_4 run.sl.v164
  unfold run.sl.r_3 run.sl.v157
  unfold dCol postCol colI
  have hS := pick_S c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hP := pick_P c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hO := pick_O c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hT := pick_T c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hL := pick_L c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hA := pick_A c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  unfold pick at hS hP hO hT hL hA
  unfold entry at hS hP hO hT hL hA
  dsimp only at hS hP hO hT hL hA
  simp only [hS, hT]
  unfold bufCol
  simp only [View.readAt_eq_ld]
  generalize arg3.view.read (Elt Ideal) X3 = r3
  generalize arg4.view.read (Elt Ideal) X4 = r4
  generalize arg5.view.read (Elt Ideal) X5 = r5
  generalize arg6.view.read (Elt Ideal) X6 = r6
  generalize arg7.view.read (Elt Ideal) X7 = r7
  generalize arg9.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).1 = sS
  generalize arg10.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.1 = sP
  generalize arg11.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.2.1 = sO
  generalize arg12.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.2.2.1 = sT
  generalize arg13.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.2.2.2.1 = sL
  generalize arg14.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.2.2.2.2 = sA
  generalize run.sl.v1 (F := Ideal) c arg2 X2 = v1
  have hn : (i 1).val < 128 := (i 1).isLt
  unfold_payloads
  simp only [ld_rows (off14 i) (by omega)]
  refine ⟨piece_col 7 _ (fun h q z => (Col.diag (colIn v1 r3 r4 r5 r6 r7 h q) (i 1).val q (colSt sS sP sO sT sL sA h q)).P z) fun x => ?_, piece_col 6 _ (fun h q z => (Col.diag (colIn v1 r3 r4 r5 r6 r7 h q) (i 1).val q (colSt sS sP sO sT sL sA h q)).P z) fun x => ?_, piece_col 5 _ (fun h q z => (Col.diag (colIn v1 r3 r4 r5 r6 r7 h q) (i 1).val q (colSt sS sP sO sT sL sA h q)).P z) fun x => ?_, piece_col 4 _ (fun h q z => (Col.diag (colIn v1 r3 r4 r5 r6 r7 h q) (i 1).val q (colSt sS sP sO sT sL sA h q)).P z) fun x => ?_, piece_col 3 _ (fun h q z => (Col.diag (colIn v1 r3 r4 r5 r6 r7 h q) (i 1).val q (colSt sS sP sO sT sL sA h q)).P z) fun x => ?_, piece_col 2 _ (fun h q z => (Col.diag (colIn v1 r3 r4 r5 r6 r7 h q) (i 1).val q (colSt sS sP sO sT sL sA h q)).P z) fun x => ?_, piece_col 1 _ (fun h q z => (Col.diag (colIn v1 r3 r4 r5 r6 r7 h q) (i 1).val q (colSt sS sP sO sT sL sA h q)).P z) fun x => ?_, piece_col 0 _ (fun h q z => (Col.diag (colIn v1 r3 r4 r5 r6 r7 h q) (i 1).val q (colSt sS sP sO sT sL sA h q)).P z) fun x => ?_, trivial⟩
  all_goals
    pointwise [Col.diag, Col.masked, Col.soft, Col.tmax, Col.alpha, Col.prob, Col.bounded, Col.acc, colIn, colSt]
    first | rfl | (simp only [hq, hr, Fin.val_zero, Nat.mul_zero, Nat.zero_add]; try rfl)

set_option maxHeartbeats 4000000 in
theorem diag_O : View.PiecesOf (fun y => (dCol c i arg2 harg2 arg3 harg3 arg4 harg4 arg5 harg5 arg6 harg6 arg7 harg7 arg8 harg8 arg9 harg9 arg10 harg10 arg11 harg11 arg12 harg12 arg13 harg13 arg14 harg14 X2 X3 X4 X5 X6 X7 (headOfR (y 0)) (y 1)).O (rowOf (y 0)))
    (run.sl.HO_8 (F := Ideal) c i arg2 harg2 arg3 harg3 arg4 harg4 arg5 harg5 arg6 harg6 arg7 harg7 arg8 harg8 arg9 harg9 arg10 harg10 arg11 harg11 arg12 harg12 arg13 harg13 arg14 harg14 X2 X3 X4 X5 X6 X7) := by
  unfold run.sl.HO_8 run.sl.v135 run.sl.v134 run.sl.v133 run.sl.v130 run.sl.v129 run.sl.v128 run.sl.v127 run.sl.v126 run.sl.v125 run.sl.v124 run.sl.v123
  unfold run.sl.v122 run.sl.HO_6 run.sl.v121 run.sl.v118 run.sl.v117 run.sl.v116 run.sl.v115 run.sl.v114 run.sl.v113 run.sl.v112 run.sl.v111 run.sl.v110
  unfold run.sl.v109 run.sl.v106 run.sl.v105 run.sl.v104 run.sl.v103 run.sl.v102 run.sl.v97 run.sl.v96 run.sl.v95 run.sl.cst_60 run.sl.v101 run.sl.v98
  unfold run.sl.v100 run.sl.v99 run.sl.HO_4 run.sl.v92 run.sl.v89 run.sl.v88 run.sl.v87 run.sl.v86 run.sl.v85 run.sl.v84 run.sl.v83 run.sl.v82
  unfold run.sl.v81 run.sl.v80 run.sl.v77 run.sl.v76 run.sl.v75 run.sl.v74 run.sl.v73 run.sl.v72 run.sl.v71 run.sl.v70 run.sl.v69 run.sl.v68
  unfold run.sl.v65 run.sl.v64 run.sl.v63 run.sl.v62 run.sl.r run.sl.v61 run.sl.r_1 run.sl.v60 run.sl.v59 run.sl.v58 run.sl.v57 run.sl.HO_1_1
  unfold run.sl.v46 run.sl.v45 run.sl.v43
  unfold dCol postCol colI
  have hS := pick_S c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hP := pick_P c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hO := pick_O c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hT := pick_T c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hL := pick_L c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  have hA := pick_A c i arg2 harg2 arg3 harg3 arg4 harg4 arg5 harg5 arg6 harg6 arg7 harg7 arg8 harg8 arg9 harg9 arg10 harg10 arg11 harg11 arg12 harg12 arg13 harg13 arg14 harg14 X3 X4 X5 X6 X7 (BitVec.ofNat 32 ↑(i 1)) (run.sl.v1 (F := Ideal) c arg2 X2) (run.sl.v24 (F := Ideal) c arg2 arg3 X2 X3) (entry c arg2 arg3 arg9 arg10 arg11 arg12 arg13 arg14 X2 X3) (Scf.trips (k0_t1_loop i).lb (k0_t1_loop i).ub (k0_t1_loop i).st)
  unfold pick at hS hP hO hT hL hA
  unfold entry at hS hP hO hT hL hA
  dsimp only at hS hP hO hT hL hA
  simp only [hP, hO, hA]
  unfold bufCol
  simp only [View.readAt_eq_ld]
  generalize arg3.view.read (Elt Ideal) X3 = r3
  generalize arg4.view.read (Elt Ideal) X4 = r4
  generalize arg5.view.read (Elt Ideal) X5 = r5
  generalize arg6.view.read (Elt Ideal) X6 = r6
  generalize arg7.view.read (Elt Ideal) X7 = r7
  generalize arg9.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).1 = sS
  generalize arg10.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.1 = sP
  generalize arg11.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.2.1 = sO
  generalize arg12.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.2.2.1 = sT
  generalize arg13.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.2.2.2.1 = sL
  generalize arg14.view.read (Elt Ideal) (post c i arg2 harg2 arg3 harg3 arg4 harg4 arg5 harg5 arg6 harg6 arg7 harg7 arg8 harg8 arg9 harg9 arg10 harg10 arg11 harg11 arg12 harg12 arg13 harg13 arg14 harg14 X2 X3 X4 X5 X6 X7).2.2.2.2.2 = sA
  generalize run.sl.v1 (F := Ideal) c arg2 X2 = v1
  have hn : (i 1).val < 128 := (i 1).isLt
  unfold_payloads
  simp only [ld_rows (off11 i) (by omega), ld_lo (off12 i) (by omega), ld_hi (off13 i) (by omega)]
  refine ⟨piece_acc 7 _ (fun h q z => (Col.diag (colIn v1 r3 r4 r5 r6 r7 h q) (i 1).val q (colSt sS sP sO sT sL sA h q)).O z) fun x => ?_, piece_acc 6 _ (fun h q z => (Col.diag (colIn v1 r3 r4 r5 r6 r7 h q) (i 1).val q (colSt sS sP sO sT sL sA h q)).O z) fun x => ?_, piece_acc 5 _ (fun h q z => (Col.diag (colIn v1 r3 r4 r5 r6 r7 h q) (i 1).val q (colSt sS sP sO sT sL sA h q)).O z) fun x => ?_, piece_acc 4 _ (fun h q z => (Col.diag (colIn v1 r3 r4 r5 r6 r7 h q) (i 1).val q (colSt sS sP sO sT sL sA h q)).O z) fun x => ?_, piece_acc 3 _ (fun h q z => (Col.diag (colIn v1 r3 r4 r5 r6 r7 h q) (i 1).val q (colSt sS sP sO sT sL sA h q)).O z) fun x => ?_, piece_acc 2 _ (fun h q z => (Col.diag (colIn v1 r3 r4 r5 r6 r7 h q) (i 1).val q (colSt sS sP sO sT sL sA h q)).O z) fun x => ?_, piece_acc 1 _ (fun h q z => (Col.diag (colIn v1 r3 r4 r5 r6 r7 h q) (i 1).val q (colSt sS sP sO sT sL sA h q)).O z) fun x => ?_, piece_acc 0 _ (fun h q z => (Col.diag (colIn v1 r3 r4 r5 r6 r7 h q) (i 1).val q (colSt sS sP sO sT sL sA h q)).O z) fun x => ?_, trivial⟩
  all_goals
    pointwise [Col.diag, Col.masked, Col.soft, Col.tmax, Col.alpha, Col.prob, Col.bounded, Col.acc, colIn, colSt]
    try simp only [← Nat.add_assoc, Nat.reduceAdd]
    first | rfl | (simp only [hq, hr, Fin.val_zero, Nat.mul_zero, Nat.zero_add]; try rfl)

/-- A buffer filled at once reads as what fills it. -/
theorem read_fill {sg : RefSig} {κ' : Kind} {sp : Space} {S : Shape} {e : EltTy} (v : View sg κ' sp S e) (f : v.ty.Contents (Elt Ideal))
    {off : Fin S.rank → ℕ} (inb : ∀ a, off a + S.size a ≤ S.size a) (Z : S.Idx → Elt Ideal e) (h : ∀ a, off a = 0) (y : S.Idx) :
    v.read (Elt Ideal) (v.writes (Elt Ideal) f [⟨Rect.unit off S.size inb, Z⟩]) y = Z y :=
  View.read_writes_cons_unit_of_mem v f inb Z [] y y rfl fun a => by rw [h a, Nat.zero_add]

theorem fill_S (y : S128x1024.Idx) : arg9.view.read (Elt Ideal) (arg9.view.writes (Elt Ideal) arg9.view.junk (run.sl.HS_1 (F := Ideal) c arg2 arg3 X2 X3)) y = ∑ l : Fin 128, arg3.view.read (Elt Ideal) X3 (ix4 0 0 (y 0) l) * run.sl.v1 (F := Ideal) c arg2 X2 (ix2 (y 1) l) := by
  unfold run.sl.HS_1 run.sl.v24 run.sl.v23 run.sl.cst_21
  refine (read_fill arg9.view _ _ _ (by decide) y).trans ?_
  unfold_payloads
  simp only [View.readAt_eq_ld]
  pointwise

theorem fill_P (y : S128x1024.Idx) : arg10.view.read (Elt Ideal) (arg10.view.writes (Elt Ideal) arg10.view.junk (run.sl.HP_1 (F := Ideal))) y = (0 : EReal) := by
  unfold run.sl.HP_1 run.sl.v21 run.sl.v18 run.sl.cst_14
  refine (read_fill arg10.view _ _ _ (by decide) y).trans ?_
  pointwise
  exact Ideal.ofBits_zero .fp8e4m3

theorem fill_O (y : S512x128.Idx) : arg11.view.read (Elt Ideal) (arg11.view.writes (Elt Ideal) arg11.view.junk (run.sl.HO_1 (F := Ideal))) y = (0 : EReal) := by
  unfold run.sl.HO_1 run.sl.v17 run.sl.v14 run.sl.cst_5
  refine (read_fill arg11.view _ _ _ (by decide) y).trans ?_
  pointwise

theorem fill_T (y : S8x128.Idx) : arg12.view.read (Elt Ideal) (arg12.view.writes (Elt Ideal) arg12.view.junk (run.sl.HT_1 (F := Ideal))) y = Ideal.ofBits .f32 4286578688#32 := by
  unfold run.sl.HT_1 run.sl.v5 run.sl.v2 run.sl.cst
  refine (read_fill arg12.view _ _ _ (by decide) y).trans ?_
  pointwise

theorem fill_L (y : S8x128.Idx) : arg13.view.read (Elt Ideal) (arg13.view.writes (Elt Ideal) arg13.view.junk (run.sl.HL_1 (F := Ideal))) y = (0 : EReal) := by
  unfold run.sl.HL_1 run.sl.v9 run.sl.v6 run.sl.cst_5
  refine (read_fill arg13.view _ _ _ (by decide) y).trans ?_
  pointwise

theorem fill_A (y : S8x128.Idx) : arg14.view.read (Elt Ideal) (arg14.view.writes (Elt Ideal) arg14.view.junk (run.sl.HL_1 (F := Ideal))) y = (0 : EReal) := by
  unfold run.sl.HL_1 run.sl.v9 run.sl.v6 run.sl.cst_5
  refine (read_fill arg14.view _ _ _ (by decide) y).trans ?_
  pointwise

/-- The columns as the loop is entered. -/
theorem entry_col (h : Fin 8) (q : Fin 128) :
    bufCol c arg9 arg10 arg11 arg12 arg13 arg14 (entry c arg2 arg3 arg9 arg10 arg11 arg12 arg13 arg14 X2 X3) h q = Col.init (colI c arg2 arg3 arg4 arg5 arg6 arg7 X2 X3 X4 X5 X6 X7 h q) := by
  unfold bufCol entry colI Col.init colSt colIn
  dsimp only
  exact Col.St.ext (funext fun z => fill_S c arg2 arg3 arg9 X2 X3 (ix2 z (hq h q))) (funext fun z => fill_P arg10 (ix2 z (hq h q))) (funext fun z => fill_O arg11 (ix2 (hr h z) q)) (fill_T arg12 (ix2 h q)) (fill_L arg13 (ix2 h q)) (fill_A arg14 (ix2 h q))

/-- After the loop each column is where `i 1` steps take it. -/
theorem post_col (h : Fin 8) (q : Fin 128) :
    postCol c i arg2 harg2 arg3 harg3 arg4 harg4 arg5 harg5 arg6 harg6 arg7 harg7 arg8 harg8 arg9 harg9 arg10 harg10 arg11 harg11 arg12 harg12 arg13 harg13 arg14 harg14 X2 X3 X4 X5 X6 X7 h q = Col.st (colI c arg2 arg3 arg4 arg5 arg6 arg7 X2 X3 X4 X5 X6 X7 h q) (i 1).val := by
  have e : Scf.trips (k0_t1_loop i).lb (k0_t1_loop i).ub (k0_t1_loop i).st = (i 1).val := trips1 i
  unfold postCol post
  rw [e]
  exact st_col c i arg2 harg2 arg3 harg3 arg4 harg4 arg5 harg5 arg6 harg6 arg7 harg7 arg8 harg8 arg9 harg9 arg10 harg10 arg11 harg11 arg12 harg12 arg13 harg13 arg14 harg14 (BitVec.ofNat 32 ↑(i 1)) (run.sl.v1 (F := Ideal) c arg2 X2) (run.sl.v24 (F := Ideal) c arg2 arg3 X2 X3) X3 X4 X5 X6 X7 (entry c arg2 arg3 arg9 arg10 arg11 arg12 arg13 arg14 X2 X3) h q (entry_col c arg2 arg3 arg4 arg5 arg6 arg7 arg9 arg10 arg11 arg12 arg13 arg14 X2 X3 X4 X5 X6 X7 h q) _ le_rfl

end Epi

end Cert.KernelIdeal.Own

end
-- ==== Proof.KOut.lean ====
/-
  What the body stores, column by column.
-/
module

public import proofs.«01_k».proof.Proof.KEpi

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open Cert.KernelIdeal Cert.KernelIdeal.Gen

/-- A piece of the output: the rows of a head, transposed. -/
theorem out_inb (h : Fin 8) : ∀ a : Fin 3, (![0, 0, 64 * h.val] : Fin 3 → ℕ) a + S1x128x64.size a ≤ S1x128x512.size a := by
  decide +revert

theorem piece_out (h : Fin 8) (w : S1x128x64.Idx → EReal) (G : Fin 8 → Fin 128 → Fin 64 → EReal) (hw : ∀ x : S1x128x64.Idx, w x = G h (x 1) (x 2)) :
    ∀ x : S1x128x64.Idx, w x = (fun y : S1x128x512.Idx => G (headOfR (y 2)) (y 1) (rowOf (y 2))) ((Rect.unit (s := S1x128x512) ![0, 0, 64 * h.val] S1x128x64.size (out_inb h)).emb x) := by
  intro x
  rw [hw]
  have h2 : (x 2).val < 64 := (x 2).isLt
  have e1 : h = headOfR ((Rect.unit (s := S1x128x512) ![0, 0, 64 * h.val] S1x128x64.size (out_inb h)).emb x 2) := Fin.ext (by
    show h.val = (64 * h.val + 1 * (x 2).val) / 64; omega)
  have e2 : x 1 = (Rect.unit (s := S1x128x512) ![0, 0, 64 * h.val] S1x128x64.size (out_inb h)).emb x 1 := Fin.ext (by
    show (x 1).val = 0 + 1 * (x 1).val; omega)
  have e3 : x 2 = rowOf ((Rect.unit (s := S1x128x512) ![0, 0, 64 * h.val] S1x128x64.size (out_inb h)).emb x 2) := Fin.ext (by
    show (x 2).val = (64 * h.val + 1 * (x 2).val) % 64; omega)
  exact congr (congr (congrArg G e1) e2) e3

section Out

variable (c : Dev nD) (i : grid0.Coords)
  (arg2 : Memref sig .tc .vmem S1x1x1024x128 .fp8e4m3) (harg2 : arg2.IsWhole)
  (arg3 : Memref sig .tc .vmem S1x128x128x128 .fp8e4m3) (harg3 : arg3.IsWhole)
  (arg4 : Memref sig .tc .vmem S1x128x128x128 .fp8e4m3) (harg4 : arg4.IsWhole)
  (arg5 : Memref sig .tc .vmem S1x1x8x128 .f32) (harg5 : arg5.IsWhole)
  (arg6 : Memref sig .tc .vmem S1x128x8x128 .f32) (harg6 : arg6.IsWhole)
  (arg7 : Memref sig .tc .vmem S1x128x8x128 .f32) (harg7 : arg7.IsWhole)
  (arg8 : Memref sig .tc .vmem S1x128x512 .bf16) (harg8 : arg8.IsWhole)
  (arg9 : Memref sig .tc .vmem S128x1024 .f32) (harg9 : arg9.IsWhole)
  (arg10 : Memref sig .tc .vmem S128x1024 .fp8e4m3) (harg10 : arg10.IsWhole)
  (arg11 : Memref sig .tc .vmem S512x128 .f32) (harg11 : arg11.IsWhole)
  (arg12 : Memref sig .tc .vmem S8x128 .f32) (harg12 : arg12.IsWhole)
  (arg13 : Memref sig .tc .vmem S8x128 .f32) (harg13 : arg13.IsWhole)
  (arg14 : Memref sig .tc .vmem S8x128 .f32) (harg14 : arg14.IsWhole)
  (X2 : Buf (Elt Ideal) (arg2.view.loc (c : Thread nD τ))) (X3 : Buf (Elt Ideal) (arg3.view.loc (c : Thread nD τ))) (X4 : Buf (Elt Ideal) (arg4.view.loc (c : Thread nD τ))) (X5 : Buf (Elt Ideal) (arg5.view.loc (c : Thread nD τ))) (X6 : Buf (Elt Ideal) (arg6.view.loc (c : Thread nD τ))) (X7 : Buf (Elt Ideal) (arg7.view.loc (c : Thread nD τ)))

/-- The scratch after the diagonal block. -/
abbrev rP := arg10.view.read (Elt Ideal) (arg10.view.writes (Elt Ideal) arg10.view.junk (run.sl.HP_8 (F := Ideal) c i arg2 harg2 arg3 harg3 arg4 harg4 arg5 harg5 arg6 harg6 arg7 harg7 arg8 harg8 arg9 harg9 arg10 harg10 arg11 harg11 arg12 harg12 arg13 harg13 arg14 harg14 X2 X3 X4 X5 X6 X7))

/-- The scratch after the diagonal block. -/
abbrev rL := arg13.view.read (Elt Ideal) (arg13.view.writes (Elt Ideal) arg13.view.junk (run.sl.HL_8 (F := Ideal) c i arg2 harg2 arg3 harg3 arg4 harg4 arg5 harg5 arg6 harg6 arg7 harg7 arg8 harg8 arg9 harg9 arg10 harg10 arg11 harg11 arg12 harg12 arg13 harg13 arg14 harg14 X2 X3 X4 X5 X6 X7))

/-- The scratch after the diagonal block. -/
abbrev rA := arg14.view.read (Elt Ideal) (arg14.view.writes (Elt Ideal) arg14.view.junk (run.sl.HA_8 (F := Ideal) c i arg2 harg2 arg3 harg3 arg4 harg4 arg5 harg5 arg6 harg6 arg7 harg7 arg8 harg8 arg9 harg9 arg10 harg10 arg11 harg11 arg12 harg12 arg13 harg13 arg14 harg14 X2 X3 X4 X5 X6 X7))

/-- The scratch after the diagonal block. -/
abbrev rO := arg11.view.read (Elt Ideal) (arg11.view.writes (Elt Ideal) arg11.view.junk (run.sl.HO_8 (F := Ideal) c i arg2 harg2 arg3 harg3 arg4 harg4 arg5 harg5 arg6 harg6 arg7 harg7 arg8 harg8 arg9 harg9 arg10 harg10 arg11 harg11 arg12 harg12 arg13 harg13 arg14 harg14 X2 X3 X4 X5 X6 X7))

theorem rP_col (z : Fin 128) (h : Fin 8) (q : Fin 128) : rP c i arg2 harg2 arg3 harg3 arg4 harg4 arg5 harg5 arg6 harg6 arg7 harg7 arg8 harg8 arg9 harg9 arg10 harg10 arg11 harg11 arg12 harg12 arg13 harg13 arg14 harg14 X2 X3 X4 X5 X6 X7 (ix2 z (hq h q)) = (dCol c i arg2 harg2 arg3 harg3 arg4 harg4 arg5 harg5 arg6 harg6 arg7 harg7 arg8 harg8 arg9 harg9 arg10 harg10 arg11 harg11 arg12 harg12 arg13 harg13 arg14 harg14 X2 X3 X4 X5 X6 X7 h q).P z := by
  refine (read_pieces (diag_P c i arg2 harg2 arg3 harg3 arg4 harg4 arg5 harg5 arg6 harg6 arg7 harg7 arg8 harg8 arg9 harg9 arg10 harg10 arg11 harg11 arg12 harg12 arg13 harg13 arg14 harg14 X2 X3 X4 X5 X6 X7) _ (View.cover_of_tiled _ ![128, 128] ?_ _)).trans ?_
  · rfl
  · exact congrArg₂ (fun h q => (dCol c i arg2 harg2 arg3 harg3 arg4 harg4 arg5 harg5 arg6 harg6 arg7 harg7 arg8 harg8 arg9 harg9 arg10 harg10 arg11 harg11 arg12 harg12 arg13 harg13 arg14 harg14 X2 X3 X4 X5 X6 X7 h q).P z) (headOf_hq h q) (laneOf_hq h q)

theorem rL_col (h : Fin 8) (q : Fin 128) : rL c i arg2 harg2 arg3 harg3 arg4 harg4 arg5 harg5 arg6 harg6 arg7 harg7 arg8 harg8 arg9 harg9 arg10 harg10 arg11 harg11 arg12 harg12 arg13 harg13 arg14 harg14 X2 X3 X4 X5 X6 X7 (ix2 h q) = (dCol c i arg2 harg2 arg3 harg3 arg4 harg4 arg5 harg5 arg6 harg6 arg7 harg7 arg8 harg8 arg9 harg9 arg10 harg10 arg11 harg11 arg12 harg12 arg13 harg13 arg14 harg14 X2 X3 X4 X5 X6 X7 h q).L := by
  refine (read_pieces (diag_L c i arg2 harg2 arg3 harg3 arg4 harg4 arg5 harg5 arg6 harg6 arg7 harg7 arg8 harg8 arg9 harg9 arg10 harg10 arg11 harg11 arg12 harg12 arg13 harg13 arg14 harg14 X2 X3 X4 X5 X6 X7) _ (View.cover_of_tiled _ ![1, 128] ?_ _)).trans ?_
  · rfl
  · rfl

theorem rA_col (h : Fin 8) (q : Fin 128) : rA c i arg2 harg2 arg3 harg3 arg4 harg4 arg5 harg5 arg6 harg6 arg7 harg7 arg8 harg8 arg9 harg9 arg10 harg10 arg11 harg11 arg12 harg12 arg13 harg13 arg14 harg14 X2 X3 X4 X5 X6 X7 (ix2 h q) = (dCol c i arg2 harg2 arg3 harg3 arg4 harg4 arg5 harg5 arg6 harg6 arg7 harg7 arg8 harg8 arg9 harg9 arg10 harg10 arg11 harg11 arg12 harg12 arg13 harg13 arg14 harg14 X2 X3 X4 X5 X6 X7 h q).A := by
  refine (read_pieces (diag_A c i arg2 harg2 arg3 harg3 arg4 harg4 arg5 harg5 arg6 harg6 arg7 harg7 arg8 harg8 arg9 harg9 arg10 harg10 arg11 harg11 arg12 harg12 arg13 harg13 arg14 harg14 X2 X3 X4 X5 X6 X7) _ (View.cover_of_tiled _ ![1, 128] ?_ _)).trans ?_
  · rfl
  · rfl

theorem rO_col (z : Fin 64) (h : Fin 8) (q : Fin 128) : rO c i arg2 harg2 arg3 harg3 arg4 harg4 arg5 harg5 arg6 harg6 arg7 harg7 arg8 harg8 arg9 harg9 arg10 harg10 arg11 harg11 arg12 harg12 arg13 harg13 arg14 harg14 X2 X3 X4 X5 X6 X7 (ix2 (hr h z) q) = (dCol c i arg2 harg2 arg3 harg3 arg4 harg4 arg5 harg5 arg6 harg6 arg7 harg7 arg8 harg8 arg9 harg9 arg10 harg10 arg11 harg11 arg12 harg12 arg13 harg13 arg14 harg14 X2 X3 X4 X5 X6 X7 h q).O z := by
  refine (read_pieces (diag_O c i arg2 harg2 arg3 harg3 arg4 harg4 arg5 harg5 arg6 harg6 arg7 harg7 arg8 harg8 arg9 harg9 arg10 harg10 arg11 harg11 arg12 harg12 arg13 harg13 arg14 harg14 X2 X3 X4 X5 X6 X7) _ (View.cover_of_tiled _ ![64, 128] ?_ _)).trans ?_
  · rfl
  · exact congrArg₂ (fun h r => (dCol c i arg2 harg2 arg3 harg3 arg4 harg4 arg5 harg5 arg6 harg6 arg7 harg7 arg8 harg8 arg9 harg9 arg10 harg10 arg11 harg11 arg12 harg12 arg13 harg13 arg14 harg14 X2 X3 X4 X5 X6 X7 h q).O r) (headOfR_hr h z) (rowOf_hr h z)

set_option maxHeartbeats 8000000 in
theorem out_pieces : View.PiecesOf (fun y => Col.fin (colI c arg2 arg3 arg4 arg5 arg6 arg7 X2 X3 X4 X5 X6 X7 (headOfR (y 2)) (y 1)) (i 1).val (colSt (rP c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rP c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rO c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rL c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rL c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rA c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (headOfR (y 2)) (y 1)) (rowOf (y 2)))
    (run (F := Ideal) c i arg2 harg2 arg3 harg3 arg4 harg4 arg5 harg5 arg6 harg6 arg7 harg7 arg8 harg8 arg9 harg9 arg10 harg10 arg11 harg11 arg12 harg12 arg13 harg13 arg14 harg14 X2 X3 X4 X5 X6 X7).1 := by
  unfold run colI
  dsimp only
  unfold run.sl.v723 run.sl.v720 run.sl.v719 run.sl.v718 run.sl.v717 run.sl.v715 run.sl.v713 run.sl.v716 run.sl.v712 run.sl.v709 run.sl.v708 run.sl.v707
  unfold run.sl.v706 run.sl.v704 run.sl.v702 run.sl.v705 run.sl.v701 run.sl.v698 run.sl.v697 run.sl.v696 run.sl.v695 run.sl.v693 run.sl.v691 run.sl.v694
  unfold run.sl.v690 run.sl.v687 run.sl.v686 run.sl.v685 run.sl.v684 run.sl.v682 run.sl.v680 run.sl.v683 run.sl.H8_4 run.sl.v679 run.sl.v676 run.sl.v675
  unfold run.sl.v674 run.sl.v673 run.sl.v671 run.sl.v669 run.sl.v672 run.sl.v668 run.sl.v665 run.sl.v664 run.sl.v663 run.sl.v662 run.sl.v660 run.sl.v658
  unfold run.sl.v661 run.sl.v657 run.sl.v654 run.sl.v653 run.sl.v652 run.sl.v651 run.sl.v649 run.sl.v647 run.sl.v650 run.sl.H8_1 run.sl.v646 run.sl.v643
  unfold run.sl.v642 run.sl.v641 run.sl.v640 run.sl.v638 run.sl.v637 run.sl.v636 run.sl.v639 run.sl.HO_16 run.sl.v635 run.sl.v632 run.sl.v631 run.sl.v630
  unfold run.sl.v629 run.sl.v628 run.sl.v627 run.sl.v626 run.sl.v625 run.sl.v624 run.sl.HO_15 run.sl.v623 run.sl.v620 run.sl.v619 run.sl.v618 run.sl.v617
  unfold run.sl.v616 run.sl.v615 run.sl.v614 run.sl.v613 run.sl.v612 run.sl.HO_14 run.sl.v611 run.sl.v608 run.sl.v607 run.sl.v606 run.sl.v605 run.sl.v604
  unfold run.sl.v603 run.sl.v602 run.sl.v601 run.sl.v600 run.sl.HO_13 run.sl.v599 run.sl.v596 run.sl.v595 run.sl.v594 run.sl.v593 run.sl.v592 run.sl.v587
  unfold run.sl.v586 run.sl.v585 run.sl.v591 run.sl.v590 run.sl.v589 run.sl.v588 run.sl.HO_12 run.sl.v582 run.sl.v579 run.sl.v578 run.sl.v577 run.sl.v576
  unfold run.sl.v575 run.sl.v574 run.sl.v573 run.sl.v572 run.sl.v571 run.sl.HO_11 run.sl.v570 run.sl.v567 run.sl.v566 run.sl.v565 run.sl.v564 run.sl.v563
  unfold run.sl.v562 run.sl.v561 run.sl.v560 run.sl.v559 run.sl.HO_10 run.sl.v558 run.sl.v555 run.sl.v554 run.sl.v553 run.sl.v552 run.sl.v551 run.sl.v550
  unfold run.sl.v549 run.sl.v548 run.sl.v547 run.sl.HO_9 run.sl.v546 run.sl.v543 run.sl.v542 run.sl.v541 run.sl.v540 run.sl.v529 run.sl.v528 run.sl.cst_269
  unfold run.sl.v527 run.sl.v539 run.sl.v534 run.sl.v533 run.sl.v532 run.sl.cst_60 run.sl.v538 run.sl.v537 run.sl.v536 run.sl.v535
  simp (disch := decide) only [↓ View.readCov_skip, ↓ View.readCov_cons_toLoadRect]
  unfold rP rO rL rA
  simp only [View.readCov, View.readAt_eq_ld]
  generalize arg3.view.read (Elt Ideal) X3 = r3
  generalize arg4.view.read (Elt Ideal) X4 = r4
  generalize arg5.view.read (Elt Ideal) X5 = r5
  generalize arg6.view.read (Elt Ideal) X6 = r6
  generalize arg7.view.read (Elt Ideal) X7 = r7
  generalize run.sl.v1 (F := Ideal) c arg2 X2 = v1
  generalize arg10.view.read (Elt Ideal) (arg10.view.writes (Elt Ideal) arg10.view.junk (run.sl.HP_8 (F := Ideal) c i arg2 harg2 arg3 harg3 arg4 harg4 arg5 harg5 arg6 harg6 arg7 harg7 arg8 harg8 arg9 harg9 arg10 harg10 arg11 harg11 arg12 harg12 arg13 harg13 arg14 harg14 X2 X3 X4 X5 X6 X7)) = rP
  generalize arg11.view.read (Elt Ideal) (arg11.view.writes (Elt Ideal) arg11.view.junk (run.sl.HO_8 (F := Ideal) c i arg2 harg2 arg3 harg3 arg4 harg4 arg5 harg5 arg6 harg6 arg7 harg7 arg8 harg8 arg9 harg9 arg10 harg10 arg11 harg11 arg12 harg12 arg13 harg13 arg14 harg14 X2 X3 X4 X5 X6 X7)) = rO
  generalize arg13.view.read (Elt Ideal) (arg13.view.writes (Elt Ideal) arg13.view.junk (run.sl.HL_8 (F := Ideal) c i arg2 harg2 arg3 harg3 arg4 harg4 arg5 harg5 arg6 harg6 arg7 harg7 arg8 harg8 arg9 harg9 arg10 harg10 arg11 harg11 arg12 harg12 arg13 harg13 arg14 harg14 X2 X3 X4 X5 X6 X7)) = rL
  generalize arg14.view.read (Elt Ideal) (arg14.view.writes (Elt Ideal) arg14.view.junk (run.sl.HA_8 (F := Ideal) c i arg2 harg2 arg3 harg3 arg4 harg4 arg5 harg5 arg6 harg6 arg7 harg7 arg8 harg8 arg9 harg9 arg10 harg10 arg11 harg11 arg12 harg12 arg13 harg13 arg14 harg14 X2 X3 X4 X5 X6 X7)) = rA
  have hn : (i 1).val < 128 := (i 1).isLt
  unfold_payloads
  simp only [ld_rows (off14 i) (by omega), ld_lo (off15 i) (by omega), ld_hi (off16 i) (by omega)]
  refine ⟨piece_out 7 _ (fun h q z => Col.fin (colIn v1 r3 r4 r5 r6 r7 h q) (i 1).val (colSt rP rP rO rL rL rA h q) z) fun x => ?_, piece_out 6 _ (fun h q z => Col.fin (colIn v1 r3 r4 r5 r6 r7 h q) (i 1).val (colSt rP rP rO rL rL rA h q) z) fun x => ?_, piece_out 5 _ (fun h q z => Col.fin (colIn v1 r3 r4 r5 r6 r7 h q) (i 1).val (colSt rP rP rO rL rL rA h q) z) fun x => ?_, piece_out 4 _ (fun h q z => Col.fin (colIn v1 r3 r4 r5 r6 r7 h q) (i 1).val (colSt rP rP rO rL rL rA h q) z) fun x => ?_, piece_out 3 _ (fun h q z => Col.fin (colIn v1 r3 r4 r5 r6 r7 h q) (i 1).val (colSt rP rP rO rL rL rA h q) z) fun x => ?_, piece_out 2 _ (fun h q z => Col.fin (colIn v1 r3 r4 r5 r6 r7 h q) (i 1).val (colSt rP rP rO rL rL rA h q) z) fun x => ?_, piece_out 1 _ (fun h q z => Col.fin (colIn v1 r3 r4 r5 r6 r7 h q) (i 1).val (colSt rP rP rO rL rL rA h q) z) fun x => ?_, piece_out 0 _ (fun h q z => Col.fin (colIn v1 r3 r4 r5 r6 r7 h q) (i 1).val (colSt rP rP rO rL rL rA h q) z) fun x => ?_, trivial⟩
  all_goals
    pointwise [Col.fin, Col.acc, colIn, colSt]
    try simp only [← Nat.add_assoc, Nat.reduceAdd]
    first | rfl | (simp only [hq, hr, Fin.val_zero, Nat.mul_zero, Nat.zero_add]; try rfl)

/-- What the body leaves in the output's block. -/
theorem out_col (f8 : Buf (Elt Ideal) (arg8.view.loc (c : Thread nD τ))) (y : S1x128x512.Idx) :
    arg8.view.read (Elt Ideal) (arg8.view.writes (Elt Ideal) f8 (run (F := Ideal) c i arg2 harg2 arg3 harg3 arg4 harg4 arg5 harg5 arg6 harg6 arg7 harg7 arg8 harg8 arg9 harg9 arg10 harg10 arg11 harg11 arg12 harg12 arg13 harg13 arg14 harg14 X2 X3 X4 X5 X6 X7).1) y
      = Col.out (colI c arg2 arg3 arg4 arg5 arg6 arg7 X2 X3 X4 X5 X6 X7 (headOfR (y 2)) (y 1)) (i 1).val (y 1) (rowOf (y 2)) := by
  refine (read_pieces (out_pieces c i arg2 harg2 arg3 harg3 arg4 harg4 arg5 harg5 arg6 harg6 arg7 harg7 arg8 harg8 arg9 harg9 arg10 harg10 arg11 harg11 arg12 harg12 arg13 harg13 arg14 harg14 X2 X3 X4 X5 X6 X7) y (View.cover_of_tiled _ ![1, 128, 64] ?_ _)).trans ?_
  · unfold run; rfl
  · have hd : dCol c i arg2 harg2 arg3 harg3 arg4 harg4 arg5 harg5 arg6 harg6 arg7 harg7 arg8 harg8 arg9 harg9 arg10 harg10 arg11 harg11 arg12 harg12 arg13 harg13 arg14 harg14 X2 X3 X4 X5 X6 X7 (headOfR (y 2)) (y 1) = Col.diag (colI c arg2 arg3 arg4 arg5 arg6 arg7 X2 X3 X4 X5 X6 X7 (headOfR (y 2)) (y 1)) (i 1).val (y 1) (Col.st (colI c arg2 arg3 arg4 arg5 arg6 arg7 X2 X3 X4 X5 X6 X7 (headOfR (y 2)) (y 1)) (i 1).val) :=
      congrArg (Col.diag (colI c arg2 arg3 arg4 arg5 arg6 arg7 X2 X3 X4 X5 X6 X7 (headOfR (y 2)) (y 1)) (i 1).val (y 1)) (post_col c i arg2 harg2 arg3 harg3 arg4 harg4 arg5 harg5 arg6 harg6 arg7 harg7 arg8 harg8 arg9 harg9 arg10 harg10 arg11 harg11 arg12 harg12 arg13 harg13 arg14 harg14 X2 X3 X4 X5 X6 X7 (headOfR (y 2)) (y 1))
    show Col.fin _ _ _ _ = Col.fin _ _ (Col.diag _ _ _ _) _
    rw [← hd]
    have eP : (colSt (rP c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rP c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rO c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rL c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rL c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rA c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (headOfR (y 2)) (y 1)).P = (dCol c i arg2 harg2 arg3 harg3 arg4 harg4 arg5 harg5 arg6 harg6 arg7 harg7 arg8 harg8 arg9 harg9 arg10 harg10 arg11 harg11 arg12 harg12 arg13 harg13 arg14 harg14 X2 X3 X4 X5 X6 X7 (headOfR (y 2)) (y 1)).P := funext fun z => rP_col c i arg2 harg2 arg3 harg3 arg4 harg4 arg5 harg5 arg6 harg6 arg7 harg7 arg8 harg8 arg9 harg9 arg10 harg10 arg11 harg11 arg12 harg12 arg13 harg13 arg14 harg14 X2 X3 X4 X5 X6 X7 z _ _
    have eO : (colSt (rP c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rP c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rO c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rL c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rL c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rA c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (headOfR (y 2)) (y 1)).O = (dCol c i arg2 harg2 arg3 harg3 arg4 harg4 arg5 harg5 arg6 harg6 arg7 harg7 arg8 harg8 arg9 harg9 arg10 harg10 arg11 harg11 arg12 harg12 arg13 harg13 arg14 harg14 X2 X3 X4 X5 X6 X7 (headOfR (y 2)) (y 1)).O := funext fun z => rO_col c i arg2 harg2 arg3 harg3 arg4 harg4 arg5 harg5 arg6 harg6 arg7 harg7 arg8 harg8 arg9 harg9 arg10 harg10 arg11 harg11 arg12 harg12 arg13 harg13 arg14 harg14 X2 X3 X4 X5 X6 X7 z _ _
    have eL : (colSt (rP c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rP c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rO c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rL c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rL c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rA c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (headOfR (y 2)) (y 1)).L = (dCol c i arg2 harg2 arg3 harg3 arg4 harg4 arg5 harg5 arg6 harg6 arg7 harg7 arg8 harg8 arg9 harg9 arg10 harg10 arg11 harg11 arg12 harg12 arg13 harg13 arg14 harg14 X2 X3 X4 X5 X6 X7 (headOfR (y 2)) (y 1)).L := rL_col c i arg2 harg2 arg3 harg3 arg4 harg4 arg5 harg5 arg6 harg6 arg7 harg7 arg8 harg8 arg9 harg9 arg10 harg10 arg11 harg11 arg12 harg12 arg13 harg13 arg14 harg14 X2 X3 X4 X5 X6 X7 _ _
    have eA : (colSt (rP c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rP c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rO c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rL c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rL c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (rA c i arg2 harg2 arg3 harg3 arg4 harg4 arg5 harg5 arg6 harg6 arg7 harg7 arg8 harg8 arg9 harg9 arg10 harg10 arg11 harg11 arg12 harg12 arg13 harg13 arg14 harg14 X2 X3 X4 X5 X6 X7) (headOfR (y 2)) (y 1)).A = (dCol c i arg2 harg2 arg3 harg3 arg4 harg4 arg5 harg5 arg6 harg6 arg7 harg7 arg8 harg8 arg9 harg9 arg10 harg10 arg11 harg11 arg12 harg12 arg13 harg13 arg14 harg14 X2 X3 X4 X5 X6 X7 (headOfR (y 2)) (y 1)).A := rA_col c i arg2 harg2 arg3 harg3 arg4 harg4 arg5 harg5 arg6 harg6 arg7 harg7 arg8 harg8 arg9 harg9 arg10 harg10 arg11 harg11 arg12 harg12 arg13 harg13 arg14 harg14 X2 X3 X4 X5 X6 X7 _ _
    unfold Col.fin
    rw [eP, eO, eL, eA]

end Out

end Cert.KernelIdeal.Own

end
-- ==== Proof.KVal.lean ====
/-
  The run of the kernel in namespace `KernelIdeal`: the body leaves every input block as it finds it, the scratches at
  something, and in the result's block, at each row of each query, what the query's column gives.
-/
module

public import proofs.«01_k».proof.Proof.KOut
public import Idealize.ShloMosaic.Lib.Claim

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The class's invariant: the six scratches owned at something, and the generator's register. -/
theorem PhiA_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA
  rw [scopedRest0_eq]; simp only [owns_whole]; try rfl

/-- The queries of a block, one under the other. -/
def queries (x2 : Vec Ideal S1x1x1024x128 .fp8e4m3) : Vec Ideal S1024x128 .fp8e4m3 := fun x => x2 (ix4 0 0 (x 0) (x 1))

/-- What the body stores in the result's block. -/
def outBlk (i : grid0.Coords) (x2 : Vec Ideal S1x1x1024x128 .fp8e4m3) (x3 : Vec Ideal S1x128x128x128 .fp8e4m3) (x4 : Vec Ideal S1x128x128x128 .fp8e4m3) (x5 : Vec Ideal S1x1x8x128 .f32) (x6 : Vec Ideal S1x128x8x128 .f32) (x7 : Vec Ideal S1x128x8x128 .f32) : Vec Ideal S1x128x512 .bf16 :=
  fun y => Col.out (colIn (queries x2) x3 x4 x5 x6 x7 (headOfR (y 2)) (y 1)) (i 1).val (y 1) (rowOf (y 2))

theorem queries_eq (c : Dev nD) (arg2 : Memref sig .tc .vmem S1x1x1024x128 .fp8e4m3) (X2) :
    run.sl.v1 (F := Ideal) c arg2 X2 = queries (arg2.view.read (Elt Ideal) X2) := by
  unfold run.sl.v1 queries
  simp only [View.readAt_eq_ld]
  generalize arg2.view.read (Elt Ideal) X2 = r
  funext x
  pointwise

/-- What the run asks of the body, for any continuation. -/
theorem sound_kernel (c : Dev nD) (i : grid0.Coords) (arg2 : Memref sig .tc .vmem S1x1x1024x128 .fp8e4m3) (harg2 : arg2.IsWhole)
  (arg3 : Memref sig .tc .vmem S1x128x128x128 .fp8e4m3) (harg3 : arg3.IsWhole)
  (arg4 : Memref sig .tc .vmem S1x128x128x128 .fp8e4m3) (harg4 : arg4.IsWhole)
  (arg5 : Memref sig .tc .vmem S1x1x8x128 .f32) (harg5 : arg5.IsWhole)
  (arg6 : Memref sig .tc .vmem S1x128x8x128 .f32) (harg6 : arg6.IsWhole)
  (arg7 : Memref sig .tc .vmem S1x128x8x128 .f32) (harg7 : arg7.IsWhole)
  (arg8 : Memref sig .tc .vmem S1x128x512 .bf16) (harg8 : arg8.IsWhole)
  (arg9 : Memref sig .tc .vmem S128x1024 .f32) (harg9 : arg9.IsWhole)
  (arg10 : Memref sig .tc .vmem S128x1024 .fp8e4m3) (harg10 : arg10.IsWhole)
  (arg11 : Memref sig .tc .vmem S512x128 .f32) (harg11 : arg11.IsWhole)
  (arg12 : Memref sig .tc .vmem S8x128 .f32) (harg12 : arg12.IsWhole)
  (arg13 : Memref sig .tc .vmem S8x128 .f32) (harg13 : arg13.IsWhole)
  (arg14 : Memref sig .tc .vmem S8x128 .f32) (harg14 : arg14.IsWhole)
    (x2 : Vec Ideal S1x1x1024x128 .fp8e4m3) (x3 : Vec Ideal S1x128x128x128 .fp8e4m3) (x4 : Vec Ideal S1x128x128x128 .fp8e4m3) (x5 : Vec Ideal S1x1x8x128 .f32) (x6 : Vec Ideal S1x128x8x128 .f32) (x7 : Vec Ideal S1x128x8x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outBlk i x2 x3 x4 x5 x6 x7) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := Ideal)) Variants.none (c : Thread nD τ) none) Set.univ
          (cc0_softcap_attention (F := Ideal) i arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  iapply (wp_wand_r Idealize.ShloMosaic.frame (wpE (defs₀ (F := Ideal)) Variants.none (c : Thread nD τ) none) Set.univ)
  isplitr [Hk]
  · iapply ((run c i arg2 harg2 arg3 harg3 arg4 harg4 arg5 harg5 arg6 harg6 arg7 harg7 arg8 harg8 arg9 harg9 arg10 harg10 arg11 harg11 arg12 harg12 arg13 harg13 arg14 harg14 f2 f3 f4 f5 f6 f7).2 f8 f9 f10 f11 f12 f13 f14)
    unfold RunPre
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro %u
  unfold RunPost
  iintro ⟨H2, H3, H4, H5, H6, H7, H8, ⟨%g9, H9⟩, ⟨%g10, H10⟩, ⟨%g11, H11⟩, ⟨%g12, H12⟩, ⟨%g13, H13⟩, ⟨%g14, H14⟩⟩
  iapply Hk
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists _; isplitr; swap; · iexact H8
    ipureintro
    subst h2 h3 h4 h5 h6 h7
    funext y
    refine (out_col c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 y).trans ?_
    unfold colI
    rw [queries_eq]
    rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

/-- The proof data: the arrays as the region finds them, each input's buffer left at its block, the result's at the columns. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (grid0.coords t) (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outBlk (grid0.coords t) (iblk m c 0 t) (iblk m c 1 t) (iblk m c 2 t) (iblk m c 3 t) (iblk m c 4 t) (iblk m c 5 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3, after0_4, after0_5, after0_6]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, S0, S1, S2, S3, S4, S5⟩
  isplitl [S0 S1 S2 S3 S4 S5 Hg]
  · isplitr [Hg]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

/-- Every run ends, with the arguments as they were and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Own

end
-- ==== Proof.KArr.lean ====
/-
  The result of the kernel as an array: at each index, the column of its query and head.
-/
module

public import proofs.«01_k».proof.Proof.KVal
public import Idealize.ShloMosaic.Lib.Pipeline.ValueKit
public import Idealize.ShloMosaic.Lib.Pointwise

@[expose] public section

set_option maxRecDepth 16384

noncomputable section

namespace Cert.KernelIdeal.Own

open Idealize.ShloMosaic Idealize.ShloMosaic.TcCoe Idealize.ShloMosaic.Tactic
open Cert.KernelIdeal Cert.KernelIdeal.Gen

/-- What the arguments give the column of lane `q` of head `h`, of block `i` of batch `b`. -/
def argIn (a0 : S4x128x1024x128.Idx → EReal) (a1 : S4x16384x128.Idx → EReal) (a2 : S4x128x128x128.Idx → EReal) (a3 : S4x128x8.Idx → EReal) (a4 a5 : S4x128x2.Idx → EReal)
    (b : Fin 4) (i : Fin 128) (h : Fin 8) (q : Fin 128) : Col.In where
  sc j c := ∑ l : Fin 128, a1 (ix3 b ⟨128 * (blk j).val + c.val, by omega⟩ l) * a0 (ix4 b i (hq h q) l)
  cf j := a3 (ix3 b i h) * a4 (ix3 b (blk j) ⟨h.val / 4, by omega⟩) * Ideal.ofBits .f32 0x3B23D70A#32
  v j d c := a2 (ix4 b (blk j) (kvr h d) c)
  w j := a5 (ix3 b (blk j) ⟨h.val / 4, by omega⟩) * Col.down

variable (m : (ℓ : Loc nD τ sig) → Buf (Elt Ideal) ℓ) (ρ : Dev nD → PrngReg)

/-- The block and the batch of a grid point. -/
abbrev tb (t : Fin cfg0.N) : Fin 4 := ⟨t.val / 128, by have : t.val < 512 := t.isLt; omega⟩
abbrev ti (t : Fin cfg0.N) : Fin 128 := ⟨t.val % 128, by omega⟩

theorem idx0 : ∀ t : Fin cfg0.N, (cfg0.win 0).index t = ![t.val / 128, t.val % 128, 0, 0] := (by decide +kernel : ∀ t : Fin grid0.N, _)
theorem idx1 : ∀ t : Fin cfg0.N, (cfg0.win 1).index t = ![t.val / 128, 0, 0, 0] := (by decide +kernel : ∀ t : Fin grid0.N, _)
theorem idx2 : ∀ t : Fin cfg0.N, (cfg0.win 2).index t = ![t.val / 128, 0, 0, 0] := (by decide +kernel : ∀ t : Fin grid0.N, _)
theorem idx3 : ∀ t : Fin cfg0.N, (cfg0.win 3).index t = ![t.val / 128, t.val % 128, 0, 0] := (by decide +kernel : ∀ t : Fin grid0.N, _)
theorem idx4 : ∀ t : Fin cfg0.N, (cfg0.win 4).index t = ![t.val / 128, 0, 0, 0] := (by decide +kernel : ∀ t : Fin grid0.N, _)
theorem idx5 : ∀ t : Fin cfg0.N, (cfg0.win 5).index t = ![t.val / 128, 0, 0, 0] := (by decide +kernel : ∀ t : Fin grid0.N, _)
theorem idx6 : ∀ t : Fin cfg0.N, (cfg0.win 6).index t = ![t.val / 128, t.val % 128, 0] := (by decide +kernel : ∀ t : Fin grid0.N, _)
theorem coords1 : ∀ t : Fin cfg0.N, ((grid0.coords t) 1).val = t.val % 128 := (by decide +kernel : ∀ t : Fin grid0.N, _)

/-! The operands the kernel is given that are not arguments: the keys in blocks, the factors repeated. -/

theorem V0_at (c : Dev nD) (b : Fin 4) (j k l : Fin 128) :
    V m c main_v0 (ix4 b j k l) = m ((c : Thread nD τ).loc main_arg1) (ix3 b ⟨128 * j.val + k.val, by omega⟩ l) := by
  entry_read
  pointwise
  exact congrArg (fun a => m ((c : Thread nD τ).loc main_arg1) (ix3 b a l)) (Fin.ext (by show j.val * 128 + k.val = 128 * j.val + k.val; omega))

theorem V4_at (c : Dev nD) (b : Fin 4) (j : Fin 128) (h : Fin 8) (l : Fin 128) :
    V m c main_v4 (ix4 b j h l) = m ((c : Thread nD τ).loc main_arg3) (ix3 b j h) := by
  entry_read
  pointwise

theorem V8_at (c : Dev nD) (b : Fin 4) (j : Fin 128) (h : Fin 8) (l : Fin 128) :
    V m c main_v8 (ix4 b j h l) = m ((c : Thread nD τ).loc main_arg4) (ix3 b j ⟨h.val / 4, by omega⟩) := by
  entry_read
  pointwise

theorem V12_at (c : Dev nD) (b : Fin 4) (j : Fin 128) (h : Fin 8) (l : Fin 128) :
    V m c main_v12 (ix4 b j h l) = m ((c : Thread nD τ).loc main_arg5) (ix3 b j ⟨h.val / 4, by omega⟩) := by
  entry_read
  pointwise

/-! The blocks, at an index. -/

theorem blk0_at (c : Dev nD) (t : Fin cfg0.N) (r : Fin 1024) (l : Fin 128) :
    iblk m c 0 t (ix4 0 0 r l) = m ((c : Thread nD τ).loc main_arg0) (ix4 (tb t) (ti t) r l) := by
  blk_ext [iblk, V_main_arg0, idx0 t]

theorem blk1_at (c : Dev nD) (t : Fin cfg0.N) (j k l : Fin 128) :
    iblk m c 1 t (ix4 0 j k l) = m ((c : Thread nD τ).loc main_arg1) (ix3 (tb t) ⟨128 * j.val + k.val, by omega⟩ l) := by
  refine Eq.trans ?_ (V0_at m c (tb t) j k l)
  blk_ext [iblk, idx1 t]

theorem blk2_at (c : Dev nD) (t : Fin cfg0.N) (j k l : Fin 128) :
    iblk m c 2 t (ix4 0 j k l) = m ((c : Thread nD τ).loc main_arg2) (ix4 (tb t) j k l) := by
  blk_ext [iblk, V_main_arg2, idx2 t]

theorem blk3_at (c : Dev nD) (t : Fin cfg0.N) (h : Fin 8) (l : Fin 128) :
    iblk m c 3 t (ix4 0 0 h l) = m ((c : Thread nD τ).loc main_arg3) (ix3 (tb t) (ti t) h) := by
  refine Eq.trans ?_ (V4_at m c (tb t) (ti t) h l)
  blk_ext [iblk, idx3 t]

theorem blk4_at (c : Dev nD) (t : Fin cfg0.N) (j : Fin 128) (h : Fin 8) (l : Fin 128) :
    iblk m c 4 t (ix4 0 j h l) = m ((c : Thread nD τ).loc main_arg4) (ix3 (tb t) j ⟨h.val / 4, by omega⟩) := by
  refine Eq.trans ?_ (V8_at m c (tb t) j h l)
  blk_ext [iblk, idx4 t]

theorem blk5_at (c : Dev nD) (t : Fin cfg0.N) (j : Fin 128) (h : Fin 8) (l : Fin 128) :
    iblk m c 5 t (ix4 0 j h l) = m ((c : Thread nD τ).loc main_arg5) (ix3 (tb t) j ⟨h.val / 4, by omega⟩) := by
  refine Eq.trans ?_ (V12_at m c (tb t) j h l)
  blk_ext [iblk, idx5 t]

/-- The columns of a grid point are the arguments'. -/
theorem colIn_eq (c : Dev nD) (t : Fin cfg0.N) (h : Fin 8) (q : Fin 128) :
    colIn (queries (iblk m c 0 t)) (iblk m c 1 t) (iblk m c 2 t) (iblk m c 3 t) (iblk m c 4 t) (iblk m c 5 t) h q
      = argIn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (tb t) (ti t) h q := by
  unfold colIn argIn
  congr 1
  · funext j k
    refine Finset.sum_congr rfl fun l _ => congrArg₂ (· * ·) (blk1_at m c t (blk j) k l) ?_
    exact blk0_at m c t (hq h q) l
  · funext j
    exact congrArg₂ (fun a b => a * b * _) (blk3_at m c t h q) (blk4_at m c t (blk j) h q)
  · funext j d k
    exact blk2_at m c t (blk j) (kvr h d) k
  · funext j
    exact congrArg (· * _) (blk5_at m c t (blk j) h q)

/-- The result, as a function of the arguments. -/
def resultOf (a0 : S4x128x1024x128.Idx → EReal) (a1 : S4x16384x128.Idx → EReal) (a2 : S4x128x128x128.Idx → EReal) (a3 : S4x128x8.Idx → EReal) (a4 a5 : S4x128x2.Idx → EReal) : S4x16384x512.Idx → EReal :=
  fun y => Col.out (argIn a0 a1 a2 a3 a4 a5 (y 0) ⟨(y 1).val / 128, by have : (y 1).val < 16384 := (y 1).isLt; omega⟩ (headOfR (y 2)) ⟨(y 1).val % 128, by omega⟩)
    ((y 1).val / 128) ⟨(y 1).val % 128, by omega⟩ (rowOf (y 2))

theorem resultOf_at (a0 : S4x128x1024x128.Idx → EReal) (a1 : S4x16384x128.Idx → EReal) (a2 : S4x128x128x128.Idx → EReal) (a3 : S4x128x8.Idx → EReal) (a4 a5 : S4x128x2.Idx → EReal)
    (b : Fin 4) (i q : Fin 128) (d : Fin 512) (k : Fin 16384) (hk : k.val = 128 * i.val + q.val) :
    resultOf a0 a1 a2 a3 a4 a5 (ix3 b k d) = Col.out (argIn a0 a1 a2 a3 a4 a5 b i (headOfR d) q) i.val q (rowOf d) := by
  have e1 : (⟨k.val / 128, by omega⟩ : Fin 128) = i := Fin.ext (by show k.val / 128 = i.val; omega)
  have e2 : (⟨k.val % 128, by omega⟩ : Fin 128) = q := Fin.ext (by show k.val % 128 = q.val; omega)
  show Col.out (argIn a0 a1 a2 a3 a4 a5 b ⟨k.val / 128, _⟩ (headOfR d) ⟨k.val % 128, _⟩) (⟨k.val / 128, by omega⟩ : Fin 128).val ⟨k.val % 128, _⟩ (rowOf d) = _
  rw [e1, e2]

theorem covers6 : (cfg0.win 6).Covers := by decide +kernel

/-- The array the kernel leaves. -/
theorem final (c : Dev nD) : (dats m 0 c).arrAt 6 cfg0.N = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ covers6 fun t hf y => ?_
  have h0 : (y 0).val < 1 := (y 0).isLt
  have h1 : (y 1).val < 128 := (y 1).isLt
  have h2 : (y 2).val < 512 := (y 2).isLt
  have e : ix3 (tb t) (⟨128 * (ti t).val + (y 1).val, by have := (ti t).isLt; omega⟩ : Fin 16384) (⟨(y 2).val, h2⟩ : Fin 512) = (win0_6.blk t).view.emb y := by
    blk_ext [idx6 t]
  blk_simp
  rw [after0_6, ← e, resultOf_at _ _ _ _ _ _ (tb t) (ti t) ⟨(y 1).val, h1⟩ _ _ rfl]
  unfold outBlk
  rw [coords1]
  exact congrArg (fun e => Col.out e (t.val % 128) ⟨(y 1).val, h1⟩ (rowOf ⟨(y 2).val, h2⟩)) (colIn_eq m c t (headOfR ⟨(y 2).val, h2⟩) ⟨(y 1).val, h1⟩)

/-- Every run ends with the result at the columns, the arguments as they were. -/
theorem value : θ_run defs (onTc (τ := τ) (main (F := Ideal))) ⟨m, fun _ => 0, ρ⟩ (fun r => ∀ c : Dev nD,
      r.2.mem ((c : Thread nD τ).loc main_v13) = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c => ⟨((h.1 c).1 6).trans (final m c), h.2 c⟩)
    (θ_run_and (run_main m ρ) (frame_of m ρ (dats m) (A_eq m) (run_main m ρ)))

end Cert.KernelIdeal.Own

end
-- ==== Proof.MCol.lean ====
/-
  The column in real numbers: block after block, rescaled at each new maximum, it comes to the softmax over all keys at once.
-/
module

public import proofs.«01_k».proof.Proof.Col

@[expose] public section

noncomputable section

namespace Cert.Col

open Idealize.ShloMosaic

/-! ## The constants -/

theorem c_bot : Ideal.ofBits .f32 4286578688#32 = ⊥ := by
  simp [Ideal.ofBits, Ideal.ieee]

theorem c_down : down = ((1 / 256 : ℝ) : EReal) := by
  unfold down
  simp [Ideal.ofBits, Ideal.ieee, -EReal.coe_mul]; norm_num

theorem c_eight : eight = ((8 : ℝ) : EReal) := by
  unfold eight
  simp [Ideal.ofBits, Ideal.ieee, -EReal.coe_mul]; norm_num

theorem c_448 : Ideal.ofBits .f32 1138753536#32 = ((448 : ℝ) : EReal) := by
  simp [Ideal.ofBits, Ideal.ieee, -EReal.coe_mul]; norm_num

theorem c_n448 : Ideal.ofBits .f32 3286237184#32 = ((-448 : ℝ) : EReal) := by
  simp [Ideal.ofBits, Ideal.ieee, -EReal.coe_mul, -EReal.coe_neg]; norm_num

theorem c_256 : Ideal.ofBits .f32 1132462080#32 = ((256 : ℝ) : EReal) := by
  simp [Ideal.ofBits, Ideal.ieee, -EReal.coe_mul]; norm_num

theorem c_50 : Ideal.ofBits .f32 1112014848#32 = ((50 : ℝ) : EReal) := by
  simp [Ideal.ofBits, Ideal.ieee, -EReal.coe_mul]; norm_num

/-- The two scale constants, and their product as the kernel has it. -/
theorem c_scale : Ideal.ofBits .f32 1040187392#32 * Ideal.ofBits .f32 1017370378#32 = Ideal.ofBits .f32 0x3B23D70A#32 := by
  simp [Ideal.ofBits, Ideal.ieee, -EReal.coe_mul]
  rw [← EReal.coe_mul]
  norm_num

/-! ## Sums of extended reals, times a real that is not negative -/

theorem sum_mul_coe {ι : Type*} (s : Finset ι) (f : ι → EReal) {a : ℝ} (ha : 0 ≤ a) : (∑ i ∈ s, f i) * (a : EReal) = ∑ i ∈ s, f i * (a : EReal) := by
  classical
  induction s using Finset.induction_on with
  | empty => simp
  | insert i s hi ih =>
    rw [Finset.sum_insert hi, Finset.sum_insert hi,
      EReal.right_distrib_of_nonneg_of_ne_top (EReal.coe_nonneg.mpr ha) (EReal.coe_ne_top a), ih]

theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-! ## Weights -/

/-- A bounded score, or nothing at a key that is left out. -/
def Ok (x : EReal) : Prop := x = ⊥ ∨ ∃ r : ℝ, x = r

/-- A key's weight against a maximum. -/
def wt (τ : ℝ) (x : EReal) : ℝ := if x = ⊥ then 0 else Real.exp (50 * (x.toReal - τ))

theorem wt_nonneg (τ : ℝ) (x : EReal) : 0 ≤ wt τ x := by
  unfold wt; split_ifs
  · exact le_rfl
  · exact (Real.exp_pos _).le

theorem wt_le_one {τ : ℝ} {x : EReal} (hx : Ok x) (h : x ≤ τ) : wt τ x ≤ 1 := by
  rcases hx with rfl | ⟨r, rfl⟩
  · simp [wt]
  · rw [wt, if_neg (EReal.coe_ne_bot r), EReal.toReal_coe, Real.exp_le_one_iff]
    have := EReal.coe_le_coe_iff.mp h
    linarith

theorem wt_mul (τ τ' : ℝ) (x : EReal) : wt τ x * Real.exp (50 * (τ - τ')) = wt τ' x := by
  unfold wt; split_ifs
  · simp
  · rw [← Real.exp_add]; congr 1; ring

theorem log2_ne : Real.log 2 ≠ 0 := (Real.log_pos (by norm_num)).ne'

theorem exp2_kap (x : ℝ) : Real.rpow 2 (x * (50 * (Real.log 2)⁻¹)) = Real.exp (50 * x) := by
  show (2 : ℝ) ^ (x * (50 * (Real.log 2)⁻¹)) = _
  rw [Real.rpow_def_of_pos (by norm_num)]
  congr 1
  field_simp [log2_ne]

theorem alpha_coe (τ τ' : ℝ) : alpha τ τ' = ((Real.exp (50 * (τ - τ')) : ℝ) : EReal) := by
  unfold alpha kap
  rw [← EReal.coe_sub, ← EReal.coe_mul, Ideal.exp2_coe, exp2_kap]

theorem alpha_bot (τ : ℝ) : alpha ⊥ τ = 0 := by
  unfold alpha kap
  rw [EReal.bot_sub, EReal.bot_mul_coe_of_pos (mul_pos (by norm_num) (inv_pos.mpr (Real.log_pos (by norm_num))))]
  rfl

theorem prob_coe (τ : ℝ) {x : EReal} (hx : Ok x) : prob τ x = ((256 * wt τ x : ℝ) : EReal) := by
  unfold prob
  rw [c_eight]
  rcases hx with rfl | ⟨r, rfl⟩
  · unfold kap
    rw [EReal.bot_mul_coe_of_pos (mul_pos (by norm_num) (inv_pos.mpr (Real.log_pos (by norm_num)))), EReal.bot_sub]
    simp [wt]
  · unfold kap wt
    rw [if_neg (EReal.coe_ne_bot r), EReal.toReal_coe, ← EReal.coe_mul, ← EReal.coe_mul, ← EReal.coe_sub, ← EReal.coe_sub, Ideal.exp2_coe]
    congr 1
    rw [show r * (50 * (Real.log 2)⁻¹) - (τ * (50 * (Real.log 2)⁻¹) - 8) = (r - τ) * (50 * (Real.log 2)⁻¹) + 8 by ring]
    show (2 : ℝ) ^ ((r - τ) * (50 * (Real.log 2)⁻¹) + 8) = _
    rw [Real.rpow_add (by norm_num)]
    rw [show (2 : ℝ) ^ ((r - τ) * (50 * (Real.log 2)⁻¹)) = Real.exp (50 * (r - τ)) from exp2_kap (r - τ),
      show (2 : ℝ) ^ (8 : ℝ) = 256 by norm_num]
    ring

theorem exp_coe' (τ : ℝ) {x : EReal} (hx : Ok x) : Ideal.exp (((50 : ℝ) : EReal) * x - ((50 * τ : ℝ) : EReal)) = ((wt τ x : ℝ) : EReal) := by
  rcases hx with rfl | ⟨r, rfl⟩
  · rw [EReal.coe_mul_bot_of_pos (by norm_num), EReal.bot_sub]
    simp [wt]
  · unfold wt
    rw [if_neg (EReal.coe_ne_bot r), EReal.toReal_coe, ← EReal.coe_mul, ← EReal.coe_sub, Ideal.exp_coe]
    congr 2; ring

theorem clip_coe {p : ℝ} (h0 : 0 ≤ p) (h1 : p ≤ 256) : clip (p : EReal) = (p : EReal) := by
  unfold clip
  rw [c_448, c_n448, max_eq_right (EReal.coe_le_coe_iff.mpr (by linarith)), min_eq_right (EReal.coe_le_coe_iff.mpr (by linarith))]

theorem tanh_ok (x : EReal) : ∃ r : ℝ, Ideal.tanh x = r := by
  induction x with
  | bot => exact ⟨-1, rfl⟩
  | top => exact ⟨1, rfl⟩
  | coe r => exact ⟨_, rfl⟩

/-! ## The running maximum -/

theorem fold_max_le {ι : Type*} (s : Finset ι) (f : ι → EReal) (z : EReal) : s.fold max ⊥ f ≤ z ↔ ∀ i ∈ s, f i ≤ z := by
  rw [Finset.fold_max_le]; simp

/-- The largest score of the first `k` blocks. -/
def top (t : ℕ → Fin 128 → EReal) : ℕ → EReal
  | 0 => ⊥
  | k + 1 => tmax (top t k) (t k)

theorem top_le (t : ℕ → Fin 128 → EReal) (k : ℕ) (z : EReal) : top t k ≤ z ↔ ∀ j < k, ∀ c, t j c ≤ z := by
  induction k with
  | zero => simp [top]
  | succ k ih =>
    unfold top tmax
    rw [c_bot, max_le_iff, ih, fold_max_le]
    constructor
    · rintro ⟨h, h'⟩ j hj c
      rcases Nat.lt_succ_iff_lt_or_eq.mp hj with hj | rfl
      · exact h j hj c
      · exact h' c (Finset.mem_univ c)
    · intro h
      exact ⟨fun j hj => h j (Nat.lt_succ_of_lt hj), fun c _ => h k (Nat.lt_succ_self k) c⟩

/-- The scores of the blocks: each real or left out, the first of each block not left out. -/
structure Oks (t : ℕ → Fin 128 → EReal) : Prop where
  ok : ∀ k c, Ok (t k c)
  first : ∀ k, ∃ r : ℝ, t k 0 = r

theorem ok_of_le {x z : EReal} {r : ℝ} (hz : z = r) (hx : x ≤ z) (h0 : ∃ r : ℝ, (r : EReal) ≤ x) : ∃ r : ℝ, x = r := by
  obtain ⟨r0, h0⟩ := h0
  subst hz
  induction x with
  | bot => exact absurd h0 (by simp)
  | top => exact absurd hx (by simp)
  | coe x => exact ⟨x, rfl⟩

theorem top_coe {t : ℕ → Fin 128 → EReal} (h : Oks t) (k : ℕ) : ∃ τ : ℝ, top t (k + 1) = τ := by
  have hne : top t (k + 1) ≠ ⊤ := by
    intro e
    have : ∀ k, top t k < ⊤ := by
      intro k
      induction k with
      | zero => exact bot_lt_top
      | succ k ih =>
        unfold top tmax
        rw [c_bot]
        refine max_lt ih ((Finset.fold_max_lt _).mpr ⟨bot_lt_top, fun c _ => ?_⟩)
        rcases h.ok k c with e | ⟨r, e⟩ <;> rw [e]
        · exact bot_lt_top
        · exact EReal.coe_lt_top r
    exact (this (k + 1)).ne e
  have hb : top t (k + 1) ≠ ⊥ := by
    intro e
    obtain ⟨r, hr⟩ := h.first k
    have := (top_le t (k + 1) ⊥).mp e.le k (Nat.lt_succ_self k) 0
    rw [hr] at this
    exact absurd this (by simp)
  exact ⟨(top t (k + 1)).toReal, (EReal.coe_toReal hne hb).symm⟩

theorem le_top (t : ℕ → Fin 128 → EReal) {k j : ℕ} (hj : j < k) (c : Fin 128) : t j c ≤ top t k :=
  (top_le t k _).mp le_rfl j hj c

/-! ## Block after block -/

/-- The values of the first `k` blocks, weighed against `τ`. -/
def num (t : ℕ → Fin 128 → EReal) (v : ℕ → Fin 64 → Fin 128 → EReal) (w : ℕ → EReal) (τ : ℝ) (k : ℕ) (d : Fin 64) : EReal :=
  ∑ j ∈ Finset.range k, (∑ c, v j d c * ((256 * wt τ (t j c) : ℝ) : EReal)) * w j

/-- The weights of the first `k` blocks. -/
def den (t : ℕ → Fin 128 → EReal) (τ : ℝ) (k : ℕ) : ℝ := ∑ j ∈ Finset.range k, ∑ c, 256 * wt τ (t j c)

theorem num_mul (t v w) (τ τ' : ℝ) (k : ℕ) (d : Fin 64) : num t v w τ k d * ((Real.exp (50 * (τ - τ')) : ℝ) : EReal) = num t v w τ' k d := by
  unfold num
  rw [sum_mul_coe _ _ (Real.exp_pos _).le]
  refine Finset.sum_congr rfl fun j _ => ?_
  rw [mul_right_comm, sum_mul_coe _ _ (Real.exp_pos _).le]
  refine congrArg (· * w j) (Finset.sum_congr rfl fun c _ => ?_)
  rw [mul_assoc, ← EReal.coe_mul, mul_assoc, wt_mul]

theorem den_mul (t) (τ τ' : ℝ) (k : ℕ) : den t τ k * Real.exp (50 * (τ - τ')) = den t τ' k := by
  unfold den
  rw [Finset.sum_mul]
  refine Finset.sum_congr rfl fun j _ => ?_
  rw [Finset.sum_mul]
  refine Finset.sum_congr rfl fun c _ => ?_
  rw [mul_assoc, wt_mul]

/-- What the scratches hold after `k` blocks of scores `t`. -/
structure Inv (t : ℕ → Fin 128 → EReal) (v : ℕ → Fin 64 → Fin 128 → EReal) (w : ℕ → EReal) (k : ℕ) (s : St) : Prop where
  T : s.T = top t k
  L : k = 0 ∧ s.L = 0 ∨ ∃ τ : ℝ, top t k = τ ∧ s.L = ((den t τ k : ℝ) : EReal)
  N : k = 0 ∧ acc (v (k - 1)) (w (k - 1)) s.P s.O s.A = 0 ∨ ∃ τ : ℝ, top t k = τ ∧ acc (v (k - 1)) (w (k - 1)) s.P s.O s.A = num t v w τ k

theorem inv_init (t v w) (d : In) : Inv t v w 0 (init d) where
  T := c_bot
  L := .inl ⟨rfl, rfl⟩
  N := .inl ⟨rfl, by funext r; simp [init, acc]⟩

theorem inv_soft {t : ℕ → Fin 128 → EReal} (ht : Oks t) {v w k s} (h : Inv t v w k s) (S' : Fin 128 → EReal) :
    Inv t v w (k + 1) (soft (t k) S' (acc (v (k - 1)) (w (k - 1)) s.P s.O s.A) s.T s.L) := by
  obtain ⟨τ', hτ'⟩ := top_coe ht k
  have hT : tmax s.T (t k) = τ' := by rw [h.T]; exact hτ'
  have hp : ∀ c, prob τ' (t k c) = ((256 * wt τ' (t k c) : ℝ) : EReal) := fun c => prob_coe τ' (ht.ok k c)
  have hc : ∀ c, clip (prob τ' (t k c)) = ((256 * wt τ' (t k c) : ℝ) : EReal) := fun c => by
    rw [hp]
    have h1 : wt τ' (t k c) ≤ 1 := wt_le_one (ht.ok k c) (hτ' ▸ le_top t (Nat.lt_succ_self k) c)
    exact clip_coe (mul_nonneg (by norm_num) (wt_nonneg _ _)) (by linarith)
  refine ⟨?_, .inr ⟨τ', hτ', ?_⟩, .inr ⟨τ', hτ', ?_⟩⟩
  · show tmax s.T (t k) = _
    rw [hT, hτ']
  · show s.L * alpha s.T (tmax s.T (t k)) + ∑ c, prob (tmax s.T (t k)) (t k c) = _
    have hL := h.L
    rw [hT, h.T]
    simp only [hp]
    rw [← coe_sum]
    have e : den t τ' (k + 1) = den t τ' k + ∑ c, 256 * wt τ' (t k c) := by unfold den; rw [Finset.sum_range_succ]
    rw [e, EReal.coe_add]
    rcases hL with ⟨hk, e0⟩ | ⟨τ, hτ, e0⟩
    · subst hk; rw [e0, zero_mul]; simp [den]
    · rw [e0, hτ, alpha_coe, ← EReal.coe_mul, den_mul]
  · funext d
    show acc (v (k - 1)) (w (k - 1)) s.P s.O s.A d * alpha s.T (tmax s.T (t k)) + (∑ c, v k d c * clip (prob (tmax s.T (t k)) (t k c))) * w k = _
    rw [hT, h.T]
    simp only [hc]
    have e : num t v w τ' (k + 1) d = num t v w τ' k d + (∑ c, v k d c * ((256 * wt τ' (t k c) : ℝ) : EReal)) * w k := by unfold num; rw [Finset.sum_range_succ]
    rw [e]
    rcases h.N with ⟨hk, e0⟩ | ⟨τ, hτ, e0⟩
    · subst hk; rw [e0, Pi.zero_apply, zero_mul]; simp [num]
    · rw [e0, hτ, alpha_coe, num_mul]

theorem st_S (d : In) (k : ℕ) : (st d k).S = d.sc k := by
  cases k <;> rfl

/-- The scores the column meets: block after block, the last one masked. -/
def scores (d : In) (n : ℕ) (q : Fin 128) (k : ℕ) : Fin 128 → EReal :=
  if k = n then masked q (bounded (d.sc k) (d.cf k)) else bounded (d.sc k) (d.cf k)

theorem sle_iff (a b : Fin 128) : IntOp.cmpi .sle (BitVec.ofNat 32 a.val) (BitVec.ofNat 32 b.val) = BitVec.ofBool (decide (a ≤ b)) := by
  revert a b; decide +kernel

theorem masked_eq (q : Fin 128) (t : Fin 128 → EReal) (c : Fin 128) : masked q t c = if c ≤ q then t c else ⊥ := by
  unfold masked
  rw [sle_iff, c_bot]
  by_cases h : c ≤ q <;> simp [h, Scalar.select]

theorem bounded_ok (S : Fin 128 → EReal) (cf : EReal) (c : Fin 128) : ∃ r : ℝ, bounded S cf c = r := tanh_ok _

theorem scores_oks (d : In) (n : ℕ) (q : Fin 128) : Oks (scores d n q) where
  ok k c := by
    unfold scores
    split_ifs
    · rw [masked_eq]; split_ifs
      · exact .inr (bounded_ok _ _ _)
      · exact .inl rfl
    · exact .inr (bounded_ok _ _ _)
  first k := by
    unfold scores
    split_ifs
    · rw [masked_eq, if_pos (Fin.zero_le q)]; exact bounded_ok _ _ _
    · exact bounded_ok _ _ _

theorem inv_st (d : In) (n : ℕ) (q : Fin 128) (k : ℕ) (hk : k ≤ n) : Inv (scores d n q) d.v d.w k (st d k) := by
  induction k with
  | zero => exact inv_init _ _ _ d
  | succ k ih =>
    have := inv_soft (scores_oks d n q) (ih (Nat.le_of_succ_le hk)) (d.sc (k + 1))
    rw [show scores d n q k = bounded (st d k).S (d.cf k) by rw [st_S]; exact if_neg (Nat.ne_of_lt hk)] at this
    exact this

theorem inv_diag (d : In) (n : ℕ) (q : Fin 128) : Inv (scores d n q) d.v d.w (n + 1) (diag d n q (st d n)) := by
  have := inv_soft (scores_oks d n q) (inv_st d n q n le_rfl) (d.sc (n + 1))
  rw [show scores d n q n = masked q (bounded (st d n).S (d.cf n)) by rw [st_S]; exact if_pos rfl] at this
  exact this

/-! ## All keys at once -/

/-- Softmax over 128 blocks of 128 keys with scores `x`, and the mean of the values under it. -/
def whole (x v : Fin 128 → Fin 128 → EReal) (w : Fin 128 → EReal) : EReal :=
  Ideal.div
    (∑ j, (∑ c, clip (Ideal.exp (x j c - (Finset.univ : Finset (Fin 128 × Fin 128)).fold max (Ideal.ofBits .f32 4286578688#32) (fun k => x k.1 k.2)) * Ideal.ofBits .f32 1132462080#32) * v j c) * w j)
    (∑ j, ∑ c, Ideal.exp (x j c - (Finset.univ : Finset (Fin 128 × Fin 128)).fold max (Ideal.ofBits .f32 4286578688#32) (fun k => x k.1 k.2)))

/-- The keys before a query of block `n`, at `q` in its block. -/
def before (n : ℕ) (q : Fin 128) (j c : Fin 128) : Prop := j.val < n ∨ j.val = n ∧ c ≤ q

theorem fifty_max (f : Fin 128 × Fin 128 → EReal) (hf : ∀ k, Ok (f k)) (τ : ℝ) (hτ : ∀ z, (τ : EReal) ≤ z ↔ ∀ k, f k ≤ z) :
    Finset.univ.fold max ⊥ (fun k => ((50 : ℝ) : EReal) * f k) = ((50 * τ : ℝ) : EReal) := by
  have hmul : ∀ (x : EReal) (z : ℝ), Ok x → (((50 : ℝ) : EReal) * x ≤ (z : EReal) ↔ x ≤ ((z / 50 : ℝ) : EReal)) := by
    rintro x z (rfl | ⟨r, rfl⟩)
    · rw [EReal.coe_mul_bot_of_pos (by norm_num)]; simp
    · rw [← EReal.coe_mul, EReal.coe_le_coe_iff, EReal.coe_le_coe_iff, le_div_iff₀ (by norm_num), mul_comm]
  have key : ∀ z : ℝ, Finset.univ.fold max ⊥ (fun k => ((50 : ℝ) : EReal) * f k) ≤ (z : EReal) ↔ ((50 * τ : ℝ) : EReal) ≤ (z : EReal) := by
    intro z
    rw [fold_max_le, EReal.coe_le_coe_iff, mul_comm, ← le_div_iff₀ (by norm_num), ← EReal.coe_le_coe_iff, hτ]
    simp only [Finset.mem_univ, true_imp_iff, fun k => hmul (f k) z (hf k)]
  refine le_antisymm ((key _).mpr le_rfl) ?_
  refine EReal.le_of_forall_lt_iff_le.mp fun z hz => ?_
  exact (key z).mp hz.le

/-- The column's result is the softmax over all keys at once. -/
theorem out_eq (d : In) (n : Fin 128) (q : Fin 128) (r : Fin 64) (x v : Fin 128 → Fin 128 → EReal) (w : Fin 128 → EReal)
    (hx : ∀ j c, before n.val q j c → x j c = ((50 : ℝ) : EReal) * bounded (d.sc j.val) (d.cf j.val) c)
    (hx' : ∀ j c, ¬ before n.val q j c → x j c = ⊥)
    (hv : ∀ j c, v j c = d.v j.val r c) (hw : ∀ j, w j = d.w j.val) : out d n.val q r = whole x v w := by
  have ht := scores_oks d n.val q
  obtain ⟨τ, hτ⟩ := top_coe ht n.val
  set t := scores d n.val q with htdef
  -- the scores, left out past the query's block
  let t' : Fin 128 × Fin 128 → EReal := fun k => if k.1.val < n.val + 1 then t k.1.val k.2 else ⊥
  have ht' : ∀ k, Ok (t' k) := fun k => by
    show Ok (if _ then _ else _); split_ifs
    · exact ht.ok _ _
    · exact .inl rfl
  have hxt : ∀ j c, x j c = ((50 : ℝ) : EReal) * t' (j, c) := fun j c => by
    have h50 : ((50 : ℝ) : EReal) * ⊥ = ⊥ := EReal.coe_mul_bot_of_pos (by norm_num)
    show _ = _ * (if j.val < n.val + 1 then t j.val c else ⊥)
    rcases lt_trichotomy j.val n.val with h | h | h
    · rw [if_pos (by omega), hx j c (.inl h), htdef, scores, if_neg (by omega)]
    · rw [if_pos (by omega), htdef, scores, if_pos h, masked_eq]
      by_cases hc : c ≤ q
      · rw [if_pos hc, hx j c (.inr ⟨h, hc⟩)]
      · rw [if_neg hc, h50, hx' j c (by rintro (h' | h'); · omega
                                        exact hc h'.2)]
    · rw [if_neg (by omega), h50, hx' j c (by rintro (h' | h') <;> omega)]
  have hmax : (Finset.univ : Finset (Fin 128 × Fin 128)).fold max (Ideal.ofBits .f32 4286578688#32) (fun k => x k.1 k.2) = ((50 * τ : ℝ) : EReal) := by
    rw [c_bot, ← fifty_max t' ht' τ]
    · simp only [hxt]
    · intro z
      rw [← hτ, top_le]
      constructor
      · intro h k
        show (if _ then _ else _) ≤ z
        split_ifs with hk
        · exact h _ hk _
        · exact bot_le
      · intro h j hj c
        have := h (⟨j, by omega⟩, c)
        rwa [show t' (⟨j, by omega⟩, c) = t j c from if_pos hj] at this
  have hle : ∀ k, t' k ≤ τ := fun k => by
    show (if _ then _ else _) ≤ _
    split_ifs with hk
    · exact hτ ▸ le_top t hk _
    · exact bot_le
  have hexp : ∀ j c, Ideal.exp (x j c - ((50 * τ : ℝ) : EReal)) = ((wt τ (t' (j, c)) : ℝ) : EReal) := fun j c => by
    rw [hxt, exp_coe' τ (ht' _)]
  have hclip : ∀ j c, clip (((wt τ (t' (j, c)) : ℝ) : EReal) * Ideal.ofBits .f32 1132462080#32) = ((256 * wt τ (t' (j, c)) : ℝ) : EReal) := fun j c => by
    rw [c_256, ← EReal.coe_mul, mul_comm]
    have h1 := wt_le_one (ht' (j, c)) (hle (j, c))
    exact clip_coe (mul_nonneg (by norm_num) (wt_nonneg _ _)) (by linarith)
  have hz : wt τ ⊥ = 0 := by simp [wt]
  have hi := inv_diag d n.val q
  have hN : acc (d.v n.val) (d.w n.val) (diag d n.val q (st d n.val)).P (diag d n.val q (st d n.val)).O (diag d n.val q (st d n.val)).A = num t d.v d.w τ (n.val + 1) := by
    rcases hi.N with ⟨h, -⟩ | ⟨τ', hτ', h⟩
    · exact absurd h (Nat.succ_ne_zero _)
    · have : τ' = τ := EReal.coe_injective (hτ'.symm.trans hτ)
      rw [← this]; exact h
  have hL : (diag d n.val q (st d n.val)).L = ((den t τ (n.val + 1) : ℝ) : EReal) := by
    rcases hi.L with ⟨h, -⟩ | ⟨τ', hτ', h⟩
    · exact absurd h (Nat.succ_ne_zero _)
    · have : τ' = τ := EReal.coe_injective (hτ'.symm.trans hτ)
      rw [← this]; exact h
  unfold out fin whole
  rw [hmax, hN, hL]
  simp only [hexp, hclip]
  -- a sum over the blocks up to the query's is a sum over all of them
  have hsub : ∀ {M : Type} [AddCommMonoid M] (f g : ℕ → M), (∀ j < n.val + 1, f j = g j) → (∀ j < 128, ¬ j < n.val + 1 → g j = 0) →
      ∑ j ∈ Finset.range (n.val + 1), f j = ∑ j : Fin 128, g j.val := by
    intro M _ f g h h'
    rw [Fin.sum_univ_eq_sum_range (fun j => g j) 128]
    refine (Finset.sum_congr rfl fun j hj => h j (Finset.mem_range.mp hj)).trans
      (Finset.sum_subset (fun j hj => Finset.mem_range.mpr ?_) fun j hj hj' => h' j (Finset.mem_range.mp hj) (fun e => hj' (Finset.mem_range.mpr e)))
    have := Finset.mem_range.mp hj
    omega
  let tt : ℕ → Fin 128 → EReal := fun j c => if j < n.val + 1 then t j c else ⊥
  refine congrArg₂ Ideal.div ?_ ?_
  · unfold num
    refine (hsub _ (fun j => (∑ c, ((256 * wt τ (tt j c) : ℝ) : EReal) * d.v j r c) * d.w j) (fun j hj => ?_) fun j _ hj => ?_).trans
      (Finset.sum_congr rfl fun j _ => ?_)
    · refine congrArg (· * d.w j) (Finset.sum_congr rfl fun c _ => ?_)
      rw [show tt j c = t j c from if_pos hj, mul_comm]
    · show (∑ c, ((256 * wt τ (tt j c) : ℝ) : EReal) * d.v j r c) * d.w j = 0
      rw [Finset.sum_eq_zero, zero_mul]
      intro c _
      rw [show tt j c = ⊥ from if_neg hj, hz, mul_zero, EReal.coe_zero, zero_mul]
    · rw [hw]
      refine congrArg (· * d.w j.val) (Finset.sum_congr rfl fun c _ => ?_)
      rw [hv]
  · rw [c_down, ← EReal.coe_mul]
    have e : den t τ (n.val + 1) * (1 / 256) = ∑ j : Fin 128, ∑ c, wt τ (t' (j, c)) := by
      unfold den
      rw [Finset.sum_mul]
      refine (hsub _ (fun j => ∑ c, wt τ (tt j c)) (fun j hj => ?_) fun j _ hj => ?_).trans rfl
      · rw [Finset.sum_mul]
        refine Finset.sum_congr rfl fun c _ => ?_
        rw [show tt j c = t j c from if_pos hj]; ring
      · refine Finset.sum_eq_zero fun c _ => ?_
        rw [show tt j c = ⊥ from if_neg hj, hz]
    rw [e, coe_sum]
    exact Finset.sum_congr rfl fun j _ => coe_sum _ _

end Cert.Col

end
-- ==== Proof.RVal.lean ====
/-
  The reference's result, read at an index: the softmax over all keys of a query and a head.
-/
module

public import proofs.«01_k».proof.Proof.Gen.ReferenceIdeal.Value
public import proofs.«01_k».proof.Proof.MCol
public import Idealize.ShloMosaic.Lib.Pointwise

@[expose] public section

set_option synthInstance.maxHeartbeats 200000
set_option maxRecDepth 16384

noncomputable section

namespace Cert.ReferenceIdeal.Own

open Idealize.ShloMosaic Idealize.ShloMosaic.TcCoe
open Cert.ReferenceIdeal Cert.ReferenceIdeal.Gen

/-! ## Reductions over the keys, and over the blocks -/

/-- The keys of a query: the scores that reduce to it. -/
theorem fiber_keys (h : S4x128x2x4x128x128x128.Reduces [5, 6] S4x128x2x4x128) (j : S4x128x2x4x128.Idx) (i : S4x128x2x4x128x128x128.Idx) :
    h.drop i = j ↔ ∃ k : Fin 128 × Fin 128, ix7 (j 0) (j 1) (j 2) (j 3) (j 4) k.1 k.2 = i := by
  constructor
  · intro e
    refine ⟨(i 5, i 6), ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
    | ⟨6, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

theorem sum_keys (h : S4x128x2x4x128x128x128.Reduces [5, 6] S4x128x2x4x128) (x : S4x128x2x4x128x128x128.Idx → EReal) (j : S4x128x2x4x128.Idx) :
    Ideal.reduceAdd h x j = ∑ a : Fin 128, ∑ b : Fin 128, x (ix7 (j 0) (j 1) (j 2) (j 3) (j 4) a b) :=
  (Finset.sum_filter_eq_sum_of_fiber (fun i => h.drop i = j) (fun k : Fin 128 × Fin 128 => ix7 (j 0) (j 1) (j 2) (j 3) (j 4) k.1 k.2)
    (fun _ _ e => Prod.ext (congrFun e 5) (congrFun e 6)) (fiber_keys h j) x).trans (Fintype.sum_prod_type _)

theorem max_keys (h : S4x128x2x4x128x128x128.Reduces [5, 6] S4x128x2x4x128) (z : EReal) (x : S4x128x2x4x128x128x128.Idx → EReal) (j : S4x128x2x4x128.Idx) :
    (Finset.univ.filter (fun i => h.drop i = j)).fold max z x = (Finset.univ : Finset (Fin 128 × Fin 128)).fold max z (fun k => x (ix7 (j 0) (j 1) (j 2) (j 3) (j 4) k.1 k.2)) :=
  Finset.fold_filter_eq_fold_of_fiber max (fun i => h.drop i = j) (fun k : Fin 128 × Fin 128 => ix7 (j 0) (j 1) (j 2) (j 3) (j 4) k.1 k.2)
    (fun _ _ e => Prod.ext (congrFun e 5) (congrFun e 6)) (fiber_keys h j) z x

theorem sum_blocks (h : S4x2x128x128x4x128x64.Reduces [2] S4x2x128x4x128x64) (x : S4x2x128x128x4x128x64.Idx → EReal) (j : S4x2x128x4x128x64.Idx) :
    Ideal.reduceAdd h x j = ∑ a : Fin 128, x (ix7 (j 0) (j 1) a (j 2) (j 3) (j 4) (j 5)) := by
  refine Finset.sum_filter_eq_sum_of_fiber (fun i => h.drop i = j) (fun a : Fin 128 => ix7 (j 0) (j 1) a (j 2) (j 3) (j 4) (j 5))
    (fun _ _ e => congrFun e 2) (fun i => ⟨fun e => ⟨i 2, ?_⟩, ?_⟩) x
  · funext a; apply Fin.ext
    match a with
    | ⟨0, _⟩ => exact (congrArg Fin.val (congrFun e 0)).symm
    | ⟨1, _⟩ => exact (congrArg Fin.val (congrFun e 1)).symm
    | ⟨2, _⟩ => rfl
    | ⟨3, _⟩ => exact (congrArg Fin.val (congrFun e 2)).symm
    | ⟨4, _⟩ => exact (congrArg Fin.val (congrFun e 3)).symm
    | ⟨5, _⟩ => exact (congrArg Fin.val (congrFun e 4)).symm
    | ⟨6, _⟩ => exact (congrArg Fin.val (congrFun e 5)).symm
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl
    | ⟨5, _⟩ => rfl

/-- The masked scores of a query and a head. -/
def sc (v29 : S4x128x2x4x128x128x128.Idx → EReal) (v34 : S4x128x2x4x128x128x128.Idx → BitVec 32) (b : Fin 4) (i : Fin 128) (kv : Fin 2) (g : Fin 4) (q : Fin 128) (j c : Fin 128) : EReal :=
  Scalar.select (IntOp.cmpi .sle (IntOp.addi (IntOp.muli (BitVec.ofNat 32 j.val) 128#32) (BitVec.ofNat 32 c.val)) (v34 (ix7 b i kv g q j c)))
    (v29 (ix7 b i kv g q j c)) (Ideal.ofBits .f32 4286578688#32)

theorem max_sc (v29 : S4x128x2x4x128x128x128.Idx → EReal) (v34 : S4x128x2x4x128x128x128.Idx → BitVec 32) (h : S4x128x2x4x128x128x128.Reduces [5, 6] S4x128x2x4x128)
    (b : Fin 4) (i : Fin 128) (kv : Fin 2) (g : Fin 4) (q : Fin 128) :
    (Finset.univ.filter (fun i' => h.drop i' = ix5 b i kv g q)).fold max (Ideal.ofBits .f32 4286578688#32) (fun x =>
      Scalar.select (IntOp.cmpi .sle (IntOp.addi (IntOp.muli (BitVec.ofNat 32 (x 5).val) 128#32) (BitVec.ofNat 32 (x 6).val)) (v34 x)) (v29 x) (Ideal.ofBits .f32 4286578688#32))
      = (Finset.univ : Finset (Fin 128 × Fin 128)).fold max (Ideal.ofBits .f32 4286578688#32) (fun k => sc v29 v34 b i kv g q k.1 k.2) :=
  max_keys h _ _ (ix5 b i kv g q)

theorem pay1_at (v8 : FVec Ideal S4x128x2x64x128 .f32) (v16 : FVec Ideal S4x2x128x1x1x1x1 .f32) (v29 : FVec Ideal S4x128x2x4x128x128x128 .f32) (v34 : IVec S4x128x2x4x128x128x128 32)
    (b : Fin 4) (s : Fin 16384) (y : Fin 512) :
    k0_pay1 v8 v16 v29 v34 (ix3 b s y) = Col.whole (sc v29 v34 b ⟨s.val / 128, by omega⟩ ⟨y.val / 256, by omega⟩ ⟨y.val / 64 % 4, by omega⟩ ⟨s.val % 128, by omega⟩)
      (fun j c => v8 (ix5 b j ⟨y.val / 256, by omega⟩ ⟨y.val % 64, by omega⟩ c))
      (fun j => Ideal.ofBits .f32 998244352#32 * v16 (ix7 b ⟨y.val / 256, by omega⟩ j 0 0 0 0)) := by
  unfold_payloads
  pointwise
  unfold Col.whole
  refine congrArg₂ Ideal.div ((sum_blocks _ _ _).trans (Finset.sum_congr rfl fun a _ => ?_)) ((sum_keys _ _ _).trans (Finset.sum_congr rfl fun a _ => Finset.sum_congr rfl fun b _ => ?_))
  · pointwise
    simp only [max_sc]
    rfl
  · pointwise
    simp only [max_sc]
    rfl

theorem pay4_at (a0 : Vec Ideal S4x128x1024x128 .fp8e4m3) (a1 : Vec Ideal S4x16384x128 .fp8e4m3) (a3 : Vec Ideal S4x128x8 .f32) (a4 : Vec Ideal S4x128x2 .f32) (b : Fin 4) (i : Fin 128) (kv : Fin 2) (g : Fin 4) (q j c : Fin 128) :
    k0_pay4 a0 a1 a3 a4 (ix7 b i kv g q j c) = Ideal.ofBits .f32 1112014848#32 * Ideal.tanh
        ((∑ l : Fin 128, a0 (ix4 b i ⟨kv.val * 512 + g.val * 128 + q.val, by omega⟩ l) * a1 (ix3 b ⟨j.val * 128 + c.val, by omega⟩ l)) *
            (a3 (ix3 b i ⟨kv.val * 4 + g.val, by omega⟩) * a4 (ix3 b j kv) * Ideal.ofBits .f32 1040187392#32) * Ideal.ofBits .f32 1017370378#32) := by
  unfold_payloads
  pointwise

theorem pay2_at (a2 : Vec Ideal S4x128x128x128 .fp8e4m3) (b : Fin 4) (i : Fin 128) (kv : Fin 2) (r : Fin 64) (c : Fin 128) :
    k0_pay2 a2 (ix5 b i kv r c) = a2 (ix4 b i ⟨kv.val * 64 + r.val, by omega⟩ c) := by
  unfold_payloads
  pointwise

theorem pay3_at (a5 : Vec Ideal S4x128x2 .f32) (b : Fin 4) (i : Fin 128) (kv : Fin 2) : k0_pay3 a5 (ix7 b kv i 0 0 0 0) = a5 (ix3 b i kv) := by
  unfold_payloads
  pointwise

theorem pay5_at (b : Fin 4) (i : Fin 128) (kv : Fin 2) (g : Fin 4) (q j c : Fin 128) :
    k0_pay5 (ix7 b i kv g q j c) = IntOp.addi (IntOp.muli (BitVec.ofNat 32 i.val) 128#32) (BitVec.ofNat 32 q.val) := by
  unfold_payloads
  pointwise

/-- The comparison of a key's place with the query's. -/
theorem mask_eq (j c i q : Fin 128) :
    IntOp.cmpi .sle (IntOp.addi (IntOp.muli (BitVec.ofNat 32 j.val) 128#32) (BitVec.ofNat 32 c.val)) (IntOp.addi (IntOp.muli (BitVec.ofNat 32 i.val) 128#32) (BitVec.ofNat 32 q.val))
      = BitVec.ofBool (decide (j.val * 128 + c.val ≤ i.val * 128 + q.val)) := by
  have key : ∀ j c : Fin 128, IntOp.addi (IntOp.muli (BitVec.ofNat 32 j.val) 128#32) (BitVec.ofNat 32 c.val) = BitVec.ofNat 32 (j.val * 128 + c.val) := fun j c => by
    simp [IntOp.addi, IntOp.muli, BitVec.ofNat_add, BitVec.ofNat_mul]
  rw [key, key]
  unfold IntOp.cmpi
  have h : ∀ n, n < 16384 → (BitVec.ofNat 32 n).toInt = n := fun n hn => by
    rw [BitVec.toInt_ofNat', Int.bmod_eq_of_le] <;> omega
  simp only [BitVec.sle, h _ (show j.val * 128 + c.val < 16384 by omega), h _ (show i.val * 128 + q.val < 16384 by omega)]
  congr 1
  simp only [decide_eq_decide]
  omega

end Cert.ReferenceIdeal.Own

end
-- ==== Proof.Join.lean ====
/-
  The kernel's columns are the reference's softmax.
-/
module

public import proofs.«01_k».proof.Proof.KArr
public import proofs.«01_k».proof.Proof.RVal

@[expose] public section

set_option maxRecDepth 16384

noncomputable section

namespace Cert.Own

open Idealize.ShloMosaic Idealize.ShloMosaic.TcCoe
open Cert.KernelIdeal Cert.KernelIdeal.Own

/-- A column of blocks `j` read at `j` of 128. -/
theorem blk_val (j : Fin 128) : blk j.val = j := Fin.ext (Nat.mod_eq_of_lt j.isLt)

theorem sel_true (a b : EReal) {p : Prop} [Decidable p] (h : p) : Scalar.select (BitVec.ofBool (decide p)) a b = a := by
  simp [Scalar.select, h]

theorem sel_false (a b : EReal) {p : Prop} [Decidable p] (h : ¬ p) : Scalar.select (BitVec.ofBool (decide p)) a b = b := by
  simp [Scalar.select, h]

theorem eq_at (a0 : S4x128x1024x128.Idx → EReal) (a1 : S4x16384x128.Idx → EReal) (a2 : S4x128x128x128.Idx → EReal) (a3 : S4x128x8.Idx → EReal) (a4 a5 : S4x128x2.Idx → EReal)
    (b : Fin 4) (k : Fin 16384) (d : Fin 512) :
    resultOf a0 a1 a2 a3 a4 a5 (ix3 b k d) = Cert.ReferenceIdeal.Value.G6 (F := Ideal) a0 a1 a2 a3 a4 a5 (ix3 b k d) := by
  rw [resultOf_at a0 a1 a2 a3 a4 a5 b ⟨k.val / 128, by omega⟩ ⟨k.val % 128, by omega⟩ d k (by show k.val = 128 * (k.val / 128) + k.val % 128; omega)]
  unfold Cert.ReferenceIdeal.Value.G6
  rw [Cert.ReferenceIdeal.Own.pay1_at]
  have hsc : ∀ j c : Fin 128, Cert.ReferenceIdeal.Own.sc (Cert.ReferenceIdeal.Gen.k0_pay4 (F := Ideal) a0 a1 a3 a4) Cert.ReferenceIdeal.Gen.k0_pay5 b ⟨k.val / 128, by omega⟩ ⟨d.val / 256, by omega⟩ ⟨d.val / 64 % 4, by omega⟩ ⟨k.val % 128, by omega⟩ j c
      = Scalar.select (BitVec.ofBool (decide (j.val * 128 + c.val ≤ k.val / 128 * 128 + k.val % 128)))
        (((50 : ℝ) : EReal) * Col.bounded ((argIn a0 a1 a2 a3 a4 a5 b ⟨k.val / 128, by omega⟩ (headOfR d) ⟨k.val % 128, by omega⟩).sc j.val) ((argIn a0 a1 a2 a3 a4 a5 b ⟨k.val / 128, by omega⟩ (headOfR d) ⟨k.val % 128, by omega⟩).cf j.val) c) ⊥ := by
    intro j c
    unfold Cert.ReferenceIdeal.Own.sc
    rw [Cert.ReferenceIdeal.Own.pay5_at, Cert.ReferenceIdeal.Own.mask_eq, Cert.ReferenceIdeal.Own.pay4_at, Col.c_50, Col.c_bot]
    refine congrArg (fun e => Scalar.select _ (((50 : ℝ) : EReal) * Ideal.tanh e) ⊥) ?_
    unfold argIn
    dsimp only
    simp only [blk_val]
    rw [← Col.c_scale, mul_assoc]
    refine congrArg₂ (· * ·) (Finset.sum_congr rfl fun l _ => ?_) ?_
    · rw [mul_comm]
      refine congrArg₂ (· * ·) (congrArg (fun e => a1 (ix3 b e l)) (Fin.ext ?_)) (congrArg (fun e => a0 (ix4 b _ e l)) (Fin.ext ?_))
      · show j.val * 128 + c.val = 128 * j.val + c.val; omega
      · show d.val / 256 * 512 + d.val / 64 % 4 * 128 + k.val % 128 = 128 * (d.val / 64) + k.val % 128; omega
    · rw [mul_assoc]
      refine congrArg₂ (fun e f => a3 (ix3 b _ e) * a4 (ix3 b j f) * _) (Fin.ext ?_) (Fin.ext ?_)
      · show d.val / 256 * 4 + d.val / 64 % 4 = d.val / 64; omega
      · show d.val / 256 = d.val / 64 / 4; omega
  refine Col.out_eq _ ⟨k.val / 128, by omega⟩ _ _ _ _ _ (fun j c h => ?_) (fun j c h => ?_) (fun j c => ?_) fun j => ?_
  · rw [hsc, sel_true]
    rcases h with h | ⟨h, h'⟩
    · have : j.val < k.val / 128 := h
      omega
    · have : j.val = k.val / 128 := h
      have : c.val ≤ k.val % 128 := h'
      omega
  · rw [hsc, sel_false]
    intro e
    refine h ?_
    rcases Nat.lt_or_ge j.val (k.val / 128) with h1 | h1
    · exact .inl h1
    · exact .inr ⟨by show j.val = k.val / 128; omega, by show c.val ≤ k.val % 128; omega⟩
  · rw [Cert.ReferenceIdeal.Own.pay2_at]
    unfold argIn
    dsimp only
    rw [blk_val]
    refine congrArg (fun e => a2 (ix4 b j e c)) (Fin.ext ?_)
    show d.val / 256 * 64 + d.val % 64 = 64 * (d.val / 64 / 4) + d.val % 64; omega
  · rw [Cert.ReferenceIdeal.Own.pay3_at]
    unfold argIn
    dsimp only
    rw [blk_val, mul_comm]
    refine congrArg (fun e => a5 (ix3 b j e) * Col.down) (Fin.ext ?_)
    show d.val / 256 = d.val / 64 / 4; omega

/-- The kernel's result is the reference's. -/
theorem result_eq (a0 : S4x128x1024x128.Idx → EReal) (a1 : S4x16384x128.Idx → EReal) (a2 : S4x128x128x128.Idx → EReal) (a3 : S4x128x8.Idx → EReal) (a4 a5 : S4x128x2.Idx → EReal) :
    resultOf a0 a1 a2 a3 a4 a5 = Cert.ReferenceIdeal.Value.G6 (F := Ideal) a0 a1 a2 a3 a4 a5 := by
  funext y
  rw [eq_ix3 y]
  exact eq_at a0 a1 a2 a3 a4 a5 (y 0) (y 1) (y 2)

end Cert.Own

end
-- ==== Proof.Amax.lean ====
/-
  The exponent, the scale and the codes a block's largest magnitude gives, and that magnitude
  taken lane by lane.
-/
module

public import proofs.«01_k».proof.Proof.Col

@[expose] public section

noncomputable section

namespace Cert.Amax

open Idealize.ShloMosaic

/-- The start of a maximum. -/
abbrev least : EReal := Ideal.ofBits .f32 0xFF800000#32

theorem least_eq : least = ⊥ := by
  simp [Ideal.ofBits, Ideal.ieee]

/-- The exponent of a block whose largest magnitude is `a`. -/
def expo (a : EReal) : BitVec 32 :=
  if a = 0 then 0#32
  else IntOp.addi (FloatOps.fptosi (F := Ideal) (φ := .f32) 32
    (Ideal.liftRound Int.floor (Ideal.div (Ideal.log (a * Ideal.ofBits .f32 0x3B124925#32)) (Ideal.log (Ideal.ofBits .f32 0x40000000#32))))) 1#32

/-- Its scale. -/
def scl (a : EReal) : EReal := FloatOps.exp2 (F := Ideal) (φ := .f32) (FloatOps.sitofp (F := Ideal) .f32 (expo a))

/-- The inverse of its scale. -/
def inv (a : EReal) : EReal := FloatOps.exp2 (F := Ideal) (φ := .f32) (FloatOps.sitofp (F := Ideal) .f32 (IntOp.subi 0#32 (expo a)))

/-- The code of `x` in it. -/
def code (a x : EReal) : EReal := min (Ideal.ofBits .f32 0x43E00000#32) (max (Ideal.ofBits .f32 0xC3E00000#32) (x * inv a))

/-- A magnitude. -/
def mag (x : EReal) : EReal := FloatOps.absf (F := Ideal) (φ := .f32) x

theorem mag_nonneg (x : EReal) : 0 ≤ mag x := by
  show 0 ≤ max x (-x)
  rcases le_total 0 x with h | h
  · exact le_max_of_le_left h
  · exact le_max_of_le_right (by simpa using EReal.neg_le_neg_iff.mpr h)

/-- The largest magnitude in a block of 128 rows, over the 64 lanes of the head that lane `l` is in. -/
def amax {W : ℕ} (hW : W % 64 = 0) (t : Fin 128 → Fin W → EReal) (l : Fin W) : EReal :=
  (Finset.univ : Finset (Fin 128 × Fin 64)).fold max least fun p => mag (t p.1 ⟨l.val / 64 * 64 + p.2.val, by omega⟩)

/-- The largest of the lanes' values in head `s`, the others taken as nothing. -/
def headMax {W : ℕ} (c : Fin W → EReal) (s : BitVec 32) : EReal :=
  Finset.univ.fold max least fun x : Fin W => Scalar.select (IntOp.cmpi .eq (BitVec.ofNat 32 (x.val / 64)) s) (c x) 0

theorem select_eq {α : Type} (k n : ℕ) (hk : k < 4294967296) (hn : n < 4294967296) (a b : α) :
    Scalar.select (IntOp.cmpi .eq (BitVec.ofNat 32 k) (BitVec.ofNat 32 n)) a b = if k = n then a else b := by
  have : BitVec.ofNat 32 k = BitVec.ofNat 32 n ↔ k = n := by
    rw [← BitVec.toNat_inj, BitVec.toNat_ofNat, BitVec.toNat_ofNat, Nat.mod_eq_of_lt hk, Nat.mod_eq_of_lt hn]
  by_cases h : k = n
  · simp [Scalar.select, IntOp.cmpi, h]
  · have hb : (BitVec.ofNat 32 k == BitVec.ofNat 32 n) = false := by simpa using (not_congr this).mpr h
    simp [Scalar.select, IntOp.cmpi, hb, h]

/-- Lane by lane and then over the head's lanes is over all of them: the lanes of the other heads
    bring a zero, and no magnitude is below it. -/
theorem headMax_eq {W : ℕ} (hW : W % 64 = 0) (hW' : W < 4294967296) (t : Fin 128 → Fin W → EReal) (l : Fin W) :
    headMax (fun x => Finset.univ.fold max least fun r : Fin 128 => mag (t r x)) (BitVec.ofNat 32 (l.val / 64)) = amax hW t l := by
  unfold headMax amax
  rw [least_eq]
  have s : ∀ {ι : Type} [Fintype ι] (f : ι → EReal), Finset.univ.fold max ⊥ f = Finset.univ.sup f := fun f => rfl
  rw [s, s]
  apply le_antisymm
  · refine Finset.sup_le fun x _ => ?_
    rw [select_eq _ _ (by omega) (by omega)]
    split_ifs with h
    · show Finset.univ.fold max ⊥ (fun r : Fin 128 => mag (t r x)) ≤ _
      rw [s]
      refine Finset.sup_le fun r _ => ?_
      refine le_trans (le_of_eq ?_) (Finset.le_sup (f := fun p : Fin 128 × Fin 64 => mag (t p.1 ⟨l.val / 64 * 64 + p.2.val, by omega⟩)) (Finset.mem_univ (r, ⟨x.val % 64, by omega⟩)))
      exact congrArg (fun e => mag (t r e)) (Fin.ext (by show x.val = l.val / 64 * 64 + x.val % 64; omega))
    · exact le_trans (mag_nonneg _) (Finset.le_sup (f := fun p : Fin 128 × Fin 64 => mag (t p.1 ⟨l.val / 64 * 64 + p.2.val, by omega⟩)) (Finset.mem_univ (0, 0)))
  · refine Finset.sup_le fun p _ => ?_
    refine le_trans ?_ (Finset.le_sup (Finset.mem_univ (⟨l.val / 64 * 64 + p.2.val, by omega⟩ : Fin W)))
    rw [select_eq _ _ (by show (l.val / 64 * 64 + p.2.val) / 64 < _; omega) (by omega), if_pos (by show (l.val / 64 * 64 + p.2.val) / 64 = _; omega)]
    show _ ≤ Finset.univ.fold max ⊥ (fun r : Fin 128 => mag (t r ⟨l.val / 64 * 64 + p.2.val, _⟩))
    rw [s]
    exact Finset.le_sup (f := fun r : Fin 128 => mag (t r ⟨l.val / 64 * 64 + p.2.val, by omega⟩)) (Finset.mem_univ p.1)

/-- A value for each of eight heads, laid into their lanes one after another. -/
theorem chain8 (M : BitVec 32 → EReal) (k : ℕ) (hk : k < 8) (z : EReal) :
    (Scalar.select (IntOp.cmpi .eq (BitVec.ofNat 32 k) 7#32) (M 7#32) <| Scalar.select (IntOp.cmpi .eq (BitVec.ofNat 32 k) 6#32) (M 6#32) <|
     Scalar.select (IntOp.cmpi .eq (BitVec.ofNat 32 k) 5#32) (M 5#32) <| Scalar.select (IntOp.cmpi .eq (BitVec.ofNat 32 k) 4#32) (M 4#32) <|
     Scalar.select (IntOp.cmpi .eq (BitVec.ofNat 32 k) 3#32) (M 3#32) <| Scalar.select (IntOp.cmpi .eq (BitVec.ofNat 32 k) 2#32) (M 2#32) <|
     Scalar.select (IntOp.cmpi .eq (BitVec.ofNat 32 k) 1#32) (M 1#32) <| Scalar.select (IntOp.cmpi .eq (BitVec.ofNat 32 k) 0#32) (M 0#32) z)
      = M (BitVec.ofNat 32 k) := by
  interval_cases k <;> rfl

/-- The same for two. -/
theorem chain2 (M : BitVec 32 → EReal) (k : ℕ) (hk : k < 2) (z : EReal) :
    (Scalar.select (IntOp.cmpi .eq (BitVec.ofNat 32 k) 1#32) (M 1#32) <| Scalar.select (IntOp.cmpi .eq (BitVec.ofNat 32 k) 0#32) (M 0#32) z)
      = M (BitVec.ofNat 32 k) := by
  interval_cases k <;> rfl

end Cert.Amax

end
-- ==== Proof.QKer.lean ====
/-
  The quantising kernel's results of a grid point, at an index.
-/
module

public import proofs.«01_k».proof.Proof.Gen.QuantIdeal.Frame
public import proofs.«01_k».proof.Proof.Amax
public import Idealize.ShloMosaic.Lib.Pipeline.ValueKit
public import Idealize.ShloMosaic.Lib.Pointwise

@[expose] public section

set_option maxRecDepth 16384

noncomputable section

namespace Cert.QuantIdeal.Own

open Idealize.ShloMosaic Idealize.ShloMosaic.TcCoe
open Cert.QuantIdeal Cert.QuantIdeal.Gen

/-! ## The queries' input -/

/-- The head a lane is in. -/
theorem pay3_at (i : Fin 8) (l : Fin 512) : k0_pay3 (ix2 i l) = BitVec.ofNat 32 (l.val / 64) := by
  unfold_payloads
  pointwise
  revert l
  decide +kernel

theorem pay1_at (v0 : Vec Ideal S1x1024x512 .bf16) (i : Fin 8) (r : Fin 128) (l : Fin 512) :
    k0_pay1 v0 (ix3 i r l) = v0 (ix3 0 ⟨i.val * 128 + r.val, by omega⟩ l) := by
  unfold k0_pay1
  pointwise

theorem pay2_at (v0 : Vec Ideal S1x1024x512 .bf16) (i : Fin 8) (l : Fin 512) :
    k0_pay2 v0 (ix2 i l) = Finset.univ.fold max Amax.least fun r : Fin 128 => Amax.mag (v0 (ix3 0 ⟨i.val * 128 + r.val, by omega⟩ l)) := by
  unfold k0_pay2
  pointwise
  simp only [pay1_at]
  rfl

/-- The exponent of a lane is its head's. -/
theorem pay8_at (v0 : Vec Ideal S1x1024x512 .bf16) (i : Fin 8) (l : Fin 512) :
    k0_pay8 (k0_pay2 v0) k0_pay3 (k0_pay6 (k0_pay2 v0) k0_pay3 (k0_pay4 v0) k0_pay5) k0_pay7 (ix2 i l)
      = Amax.expo (Amax.amax rfl (fun r x => v0 (ix3 0 ⟨i.val * 128 + r.val, by omega⟩ x)) l) := by
  rw [← Amax.headMax_eq rfl (by omega), ← Amax.chain8 (Amax.headMax _) _ (by omega) 0]
  unfold k0_pay8 k0_pay6 k0_pay4 k0_pay5 k0_pay7
  pointwise
  simp only [pay3_at, pay2_at]
  rfl

/-- The codes. -/
theorem pay12_at (v0 : Vec Ideal S1x1024x512 .bf16) (s : Fin 1024) (l : Fin 512) :
    k0_pay12 (k0_pay11 (k0_pay1 v0) (k0_pay2 v0) k0_pay3 (k0_pay6 (k0_pay2 v0) k0_pay3 (k0_pay4 v0) k0_pay5) k0_pay7) (ix3 0 s l)
      = Amax.code (Amax.amax rfl (fun r x => v0 (ix3 0 ⟨s.val / 128 * 128 + r.val, by omega⟩ x)) l) (v0 (ix3 0 s l)) := by
  unfold k0_pay12 k0_pay11 k0_pay10
  pointwise
  rw [pay8_at, pay1_at]
  refine congrArg (fun e => min _ (max _ (e * Amax.inv _))) (congrArg (fun e => v0 (ix3 0 e l)) (Fin.ext ?_))
  show s.val / 128 * 128 + s.val % 128 = s.val; omega

/-- The scales. -/
theorem pay13_at (v0 : Vec Ideal S1x1024x512 .bf16) (i : Fin 8) (l : Fin 512) :
    k0_pay13 (k0_pay9 (k0_pay2 v0) k0_pay3 (k0_pay6 (k0_pay2 v0) k0_pay3 (k0_pay4 v0) k0_pay5) k0_pay7) (ix3 0 i l)
      = Amax.scl (Amax.amax rfl (fun r x => v0 (ix3 0 ⟨i.val * 128 + r.val, by omega⟩ x)) l) := by
  unfold k0_pay13 k0_pay9
  pointwise
  rw [pay8_at]
  rfl

/-! ## The keys and the values -/

theorem head2 (i : Fin 8) (l : Fin 128) :
    Scalar.select (IntOp.andi (k0_pay29 (ix2 i l)) (IntOp.cmpi CmpIPredicate.ne (k0_pay30 (ix2 i l)) 0#32))
      (IntOp.subi (k0_pay28 (ix2 i l)) 1#32) (k0_pay28 (ix2 i l)) = BitVec.ofNat 32 (l.val / 64) := by
  unfold_payloads
  pointwise
  revert l
  decide +kernel

theorem pay26_at (v0 : Vec Ideal S1x1024x128 .bf16) (i : Fin 8) (r : Fin 128) (l : Fin 128) :
    k0_pay26 v0 (ix3 i r l) = v0 (ix3 0 ⟨i.val * 128 + r.val, by omega⟩ l) := by
  unfold k0_pay26
  pointwise

theorem pay27_at (v0 : Vec Ideal S1x1024x128 .bf16) (i : Fin 8) (l : Fin 128) :
    k0_pay27 v0 (ix2 i l) = Finset.univ.fold max Amax.least fun r : Fin 128 => Amax.mag (v0 (ix3 0 ⟨i.val * 128 + r.val, by omega⟩ l)) := by
  unfold k0_pay27
  pointwise
  simp only [pay26_at]
  rfl

theorem pay31_at (v0 : Vec Ideal S1x1024x128 .bf16) (i : Fin 8) (l : Fin 128) :
    k0_pay31 (k0_pay27 v0) k0_pay28 k0_pay29 k0_pay30 0#32 (ix2 i l)
      = Amax.expo (Amax.amax rfl (fun r x => v0 (ix3 0 ⟨i.val * 128 + r.val, by omega⟩ x)) l) := by
  rw [← Amax.headMax_eq rfl (by omega), ← Amax.chain2 (Amax.headMax _) _ (by omega) 0]
  unfold k0_pay31
  pointwise
  simp only [head2, pay27_at]
  rfl

/-- The codes. -/
theorem pay34_at (v0 : Vec Ideal S1x1024x128 .bf16) (s : Fin 1024) (l : Fin 128) :
    k0_pay34 (k0_pay26 v0) (k0_pay33 (k0_pay27 v0) k0_pay28 k0_pay29 k0_pay30 0#32) (ix3 0 s l)
      = Amax.code (Amax.amax rfl (fun r x => v0 (ix3 0 ⟨s.val / 128 * 128 + r.val, by omega⟩ x)) l) (v0 (ix3 0 s l)) := by
  unfold k0_pay34 k0_pay33
  pointwise
  rw [pay31_at, pay26_at]
  refine congrArg (fun e => min _ (max _ (e * Amax.inv _))) (congrArg (fun e => v0 (ix3 0 e l)) (Fin.ext ?_))
  show s.val / 128 * 128 + s.val % 128 = s.val; omega

/-- The scales. -/
theorem pay35_at (v0 : Vec Ideal S1x1024x128 .bf16) (i : Fin 8) (l : Fin 128) :
    k0_pay35 (k0_pay32 (k0_pay27 v0) k0_pay28 k0_pay29 k0_pay30 0#32) (ix3 0 i l)
      = Amax.scl (Amax.amax rfl (fun r x => v0 (ix3 0 ⟨i.val * 128 + r.val, by omega⟩ x)) l) := by
  unfold k0_pay35 k0_pay32
  pointwise
  rw [pay31_at]
  rfl

/-! The values are treated as the keys are. -/

theorem codes_v (v0 : Vec Ideal S1x1024x128 .bf16) :
    k0_pay46 (k0_pay36 v0) (k0_pay44 (k0_pay37 v0) k0_pay38 k0_pay39 k0_pay40 k0_pay41)
      = k0_pay34 (k0_pay26 v0) (k0_pay33 (k0_pay27 v0) k0_pay28 k0_pay29 k0_pay30 0#32) := rfl

theorem scales_v (v0 : Vec Ideal S1x1024x128 .bf16) :
    k0_pay47 (k0_pay43 (k0_pay37 v0) k0_pay38 k0_pay39 k0_pay40 k0_pay41)
      = k0_pay35 (k0_pay32 (k0_pay27 v0) k0_pay28 k0_pay29 k0_pay30 0#32) := rfl

/-! The codes before they are cast. -/

theorem pay10_at (v0 : Vec Ideal S1x1024x512 .bf16) (s : Fin 1024) (l : Fin 512) :
    k0_pay10 (k0_pay1 v0) (k0_pay2 v0) k0_pay3 (k0_pay6 (k0_pay2 v0) k0_pay3 (k0_pay4 v0) k0_pay5) k0_pay7 (ix2 s l)
      = Amax.code (Amax.amax rfl (fun r x => v0 (ix3 0 ⟨s.val / 128 * 128 + r.val, by omega⟩ x)) l) (v0 (ix3 0 s l)) := by
  rw [← pay12_at]
  unfold k0_pay12 k0_pay11
  pointwise

theorem pay45_at (v0 : Vec Ideal S1x1024x128 .bf16) (s : Fin 1024) (l : Fin 128) :
    k0_pay45 (k0_pay36 v0) (k0_pay44 (k0_pay37 v0) k0_pay38 k0_pay39 k0_pay40 k0_pay41) (ix2 s l)
      = Amax.code (Amax.amax rfl (fun r x => v0 (ix3 0 ⟨s.val / 128 * 128 + r.val, by omega⟩ x)) l) (v0 (ix3 0 s l)) := by
  rw [← pay34_at, ← codes_v]
  unfold k0_pay46
  pointwise

end Cert.QuantIdeal.Own

end
-- ==== Proof.QTile.lean ====
/-
  The quantising kernel's two results in the attention call's layouts: the query codes spread by heads, the value codes
  transposed block by block. Each is stored in eight pieces of one function of the block's index.
-/
module

public import proofs.«01_k».proof.Proof.QKer

@[expose] public section

set_option maxRecDepth 16384

noncomputable section

namespace Cert.QuantIdeal.Own

open Idealize.ShloMosaic Idealize.ShloMosaic.TcCoe
open Cert.QuantIdeal Cert.QuantIdeal.Gen

/-! ## The query codes by heads -/

theorem sel_hi (l : Fin 128) (a b : EReal) :
    Scalar.select (IntOp.cmpi CmpIPredicate.sge (BitVec.ofNat 32 l.val) 64#32) a b = if l.val / 64 = 1 then a else b := by
  have h : IntOp.cmpi CmpIPredicate.sge (BitVec.ofNat 32 l.val) 64#32 = if l.val / 64 = 1 then 1#1 else 0#1 := by
    revert l; decide +kernel
  rw [h]; split <;> rfl

theorem sel_lo (l : Fin 128) (a b : EReal) :
    Scalar.select (IntOp.xori (IntOp.cmpi CmpIPredicate.sge (BitVec.ofNat 32 l.val) 64#32) 1#1) a b = if l.val / 64 = 0 then a else b := by
  have h : IntOp.xori (IntOp.cmpi CmpIPredicate.sge (BitVec.ofNat 32 l.val) 64#32) 1#1 = if l.val / 64 = 0 then 1#1 else 0#1 := by
    revert l; decide +kernel
  rw [h]; split <;> rfl

/-- Row 128h + r of block n holds head h of row r, in the half of the lanes its group has; the other half is zero. -/
def byHeads (C : S1024x512.Idx → EReal) (y : S1x8x1024x128.Idx) : EReal :=
  if (y 2).val / 512 = (y 3).val / 64 then
    C (ix2 ⟨(y 1).val * 128 + (y 2).val % 128, by have : (y 1).val < 8 := (y 1).isLt; omega⟩
      ⟨(y 2).val / 128 * 64 + (y 3).val % 64, by have : (y 2).val < 1024 := (y 2).isLt; omega⟩)
  else 0

/-- A choice by the half of the lane is such a row, where the lane taken is the head's. -/
theorem byHeads_of (C : S1024x512.Idx → EReal) (h g : ℕ) (hh : h < 8) (hg : h / 4 = g) (i : Fin 8) (r l : Fin 128) (s : Fin 1024) (hs : s.val = 128 * h + r.val)
    (k : ℕ) (hk : k < 512) (e : l.val / 64 = g → k = h * 64 + l.val % 64) :
    (if l.val / 64 = g then C (ix2 ⟨i.val * 128 + r.val, by omega⟩ ⟨k, hk⟩) else 0) = byHeads C (ix4 0 i s l) := by
  rw [show s = ⟨128 * h + r.val, by omega⟩ from Fin.ext hs]
  show _ = if (128 * h + r.val) / 512 = l.val / 64 then
    C (ix2 ⟨i.val * 128 + (128 * h + r.val) % 128, by omega⟩ ⟨(128 * h + r.val) / 128 * 64 + l.val % 64, by omega⟩) else 0
  by_cases c : l.val / 64 = g
  · rw [if_pos c, if_pos (by omega)]
    have e1 : (128 * h + r.val) % 128 = r.val := by omega
    have e2 : (128 * h + r.val) / 128 = h := by omega
    simp only [e1, e2, e c]
  · rw [if_neg c, if_neg (by omega)]

theorem head0_at (C : FVec Ideal S1024x512 .f32) (i : Fin 8) (r l : Fin 128) :
    k0_pay15 C (ix4 0 i r l) = byHeads C (r0_2.emb (ix4 0 i r l : S1x8x128x128.Idx)) := by
  have e : r0_2.emb (ix4 0 i r l : S1x8x128x128.Idx) = (ix4 0 i ⟨0 + r.val, by omega⟩ l : S1x8x1024x128.Idx) := by
    funext b; apply Fin.ext
    match b with
    | ⟨0, _⟩ => rfl
    | ⟨1, _⟩ => show 0 + 1 * i.val = i.val; omega
    | ⟨2, _⟩ => show 0 + 1 * r.val = 0 + r.val; omega
    | ⟨3, _⟩ => show 0 + 1 * l.val = l.val; omega
  rw [e]
  unfold k0_pay15 k0_pay14
  pointwise
  refine (sel_lo l _ _).trans (byHeads_of C 0 0 (by decide) rfl i r l _ (Nat.zero_add _).symm _ _ ?_)
  omega

theorem head1_at (C : FVec Ideal S1024x512 .f32) (i : Fin 8) (r l : Fin 128) :
    k0_pay16 C (ix4 0 i r l) = byHeads C (r0_3.emb (ix4 0 i r l : S1x8x128x128.Idx)) := by
  have e : r0_3.emb (ix4 0 i r l : S1x8x128x128.Idx) = (ix4 0 i ⟨128 + r.val, by omega⟩ l : S1x8x1024x128.Idx) := by
    funext b; apply Fin.ext
    match b with
    | ⟨0, _⟩ => rfl
    | ⟨1, _⟩ => show 0 + 1 * i.val = i.val; omega
    | ⟨2, _⟩ => show 128 + 1 * r.val = 128 + r.val; omega
    | ⟨3, _⟩ => show 0 + 1 * l.val = l.val; omega
  rw [e]
  unfold k0_pay16 k0_pay14
  pointwise
  refine (sel_lo l _ _).trans (byHeads_of C 1 0 (by decide) rfl i r l _ rfl _ _ ?_)
  omega

theorem head2_at (C : FVec Ideal S1024x512 .f32) (i : Fin 8) (r l : Fin 128) :
    k0_pay18 (k0_pay17 C) (ix4 0 i r l) = byHeads C (r0_4.emb (ix4 0 i r l : S1x8x128x128.Idx)) := by
  have e : r0_4.emb (ix4 0 i r l : S1x8x128x128.Idx) = (ix4 0 i ⟨256 + r.val, by omega⟩ l : S1x8x1024x128.Idx) := by
    funext b; apply Fin.ext
    match b with
    | ⟨0, _⟩ => rfl
    | ⟨1, _⟩ => show 0 + 1 * i.val = i.val; omega
    | ⟨2, _⟩ => show 256 + 1 * r.val = 256 + r.val; omega
    | ⟨3, _⟩ => show 0 + 1 * l.val = l.val; omega
  rw [e]
  unfold k0_pay18 k0_pay17 k0_pay14
  pointwise
  refine (sel_lo l _ _).trans (byHeads_of C 2 0 (by decide) rfl i r l _ rfl _ _ ?_)
  omega

theorem head3_at (C : FVec Ideal S1024x512 .f32) (i : Fin 8) (r l : Fin 128) :
    k0_pay19 C k0_pay14 (ix4 0 i r l) = byHeads C (r0_5.emb (ix4 0 i r l : S1x8x128x128.Idx)) := by
  have e : r0_5.emb (ix4 0 i r l : S1x8x128x128.Idx) = (ix4 0 i ⟨384 + r.val, by omega⟩ l : S1x8x1024x128.Idx) := by
    funext b; apply Fin.ext
    match b with
    | ⟨0, _⟩ => rfl
    | ⟨1, _⟩ => show 0 + 1 * i.val = i.val; omega
    | ⟨2, _⟩ => show 384 + 1 * r.val = 384 + r.val; omega
    | ⟨3, _⟩ => show 0 + 1 * l.val = l.val; omega
  rw [e]
  unfold k0_pay19 k0_pay14
  pointwise
  refine (sel_lo l _ _).trans (byHeads_of C 3 0 (by decide) rfl i r l _ rfl _ _ ?_)
  omega

theorem head4_at (C : FVec Ideal S1024x512 .f32) (i : Fin 8) (r l : Fin 128) :
    k0_pay20 C k0_pay14 (ix4 0 i r l) = byHeads C (r0_6.emb (ix4 0 i r l : S1x8x128x128.Idx)) := by
  have e : r0_6.emb (ix4 0 i r l : S1x8x128x128.Idx) = (ix4 0 i ⟨512 + r.val, by omega⟩ l : S1x8x1024x128.Idx) := by
    funext b; apply Fin.ext
    match b with
    | ⟨0, _⟩ => rfl
    | ⟨1, _⟩ => show 0 + 1 * i.val = i.val; omega
    | ⟨2, _⟩ => show 512 + 1 * r.val = 512 + r.val; omega
    | ⟨3, _⟩ => show 0 + 1 * l.val = l.val; omega
  rw [e]
  unfold k0_pay20 k0_pay14
  pointwise
  refine (sel_hi l _ _).trans (byHeads_of C 4 1 (by decide) rfl i r l _ rfl _ _ ?_)
  omega

theorem head5_at (C : FVec Ideal S1024x512 .f32) (i : Fin 8) (r l : Fin 128) :
    k0_pay21 C k0_pay14 (ix4 0 i r l) = byHeads C (r0_7.emb (ix4 0 i r l : S1x8x128x128.Idx)) := by
  have e : r0_7.emb (ix4 0 i r l : S1x8x128x128.Idx) = (ix4 0 i ⟨640 + r.val, by omega⟩ l : S1x8x1024x128.Idx) := by
    funext b; apply Fin.ext
    match b with
    | ⟨0, _⟩ => rfl
    | ⟨1, _⟩ => show 0 + 1 * i.val = i.val; omega
    | ⟨2, _⟩ => show 640 + 1 * r.val = 640 + r.val; omega
    | ⟨3, _⟩ => show 0 + 1 * l.val = l.val; omega
  rw [e]
  unfold k0_pay21 k0_pay14
  pointwise
  refine (sel_hi l _ _).trans (byHeads_of C 5 1 (by decide) rfl i r l _ rfl _ _ ?_)
  omega

theorem head6_at (C : FVec Ideal S1024x512 .f32) (i : Fin 8) (r l : Fin 128) :
    k0_pay24 k0_pay14 (k0_pay22 C) k0_pay23 (ix4 0 i r l) = byHeads C (r0_8.emb (ix4 0 i r l : S1x8x128x128.Idx)) := by
  have e : r0_8.emb (ix4 0 i r l : S1x8x128x128.Idx) = (ix4 0 i ⟨768 + r.val, by omega⟩ l : S1x8x1024x128.Idx) := by
    funext b; apply Fin.ext
    match b with
    | ⟨0, _⟩ => rfl
    | ⟨1, _⟩ => show 0 + 1 * i.val = i.val; omega
    | ⟨2, _⟩ => show 768 + 1 * r.val = 768 + r.val; omega
    | ⟨3, _⟩ => show 0 + 1 * l.val = l.val; omega
  rw [e]
  unfold k0_pay24 k0_pay14 k0_pay22 k0_pay23
  pointwise
  refine (sel_hi l _ _).trans (byHeads_of C 6 1 (by decide) rfl i r l _ rfl _ _ ?_)
  omega

theorem head7_at (C : FVec Ideal S1024x512 .f32) (i : Fin 8) (r l : Fin 128) :
    k0_pay25 C k0_pay14 (ix4 0 i r l) = byHeads C (r0_9.emb (ix4 0 i r l : S1x8x128x128.Idx)) := by
  have e : r0_9.emb (ix4 0 i r l : S1x8x128x128.Idx) = (ix4 0 i ⟨896 + r.val, by omega⟩ l : S1x8x1024x128.Idx) := by
    funext b; apply Fin.ext
    match b with
    | ⟨0, _⟩ => rfl
    | ⟨1, _⟩ => show 0 + 1 * i.val = i.val; omega
    | ⟨2, _⟩ => show 896 + 1 * r.val = 896 + r.val; omega
    | ⟨3, _⟩ => show 0 + 1 * l.val = l.val; omega
  rw [e]
  unfold k0_pay25 k0_pay14
  pointwise
  refine (sel_hi l _ _).trans (byHeads_of C 7 1 (by decide) rfl i r l _ rfl _ _ ?_)
  omega

/-- The index of a piece. -/
theorem idx_heads (x : S1x8x128x128.Idx) : x = ix4 0 (x 1) (x 2) (x 3) := by
  funext b
  match b with
  | ⟨0, _⟩ => exact Fin.ext (Nat.lt_one_iff.mp (x 0).isLt)
  | ⟨1, _⟩ => rfl
  | ⟨2, _⟩ => rfl
  | ⟨3, _⟩ => rfl

theorem out4_eq (x0 : Vec Ideal S1x1024x512 .bf16) (x1 x2 : Vec Ideal S1x1024x128 .bf16) (y : S1x8x1024x128.Idx) :
    out0_4 x0 x1 x2 y = byHeads (k0_pay62 x0 x1 x2) y := by
  unfold out0_4 k0_pay63
  generalize k0_pay62 x0 x1 x2 = C
  refine View.canon_apply_of_pieces (Val := Elt Ideal) (byHeads C) _ (fun p hp x => ?_) y (cover0_4 _ _ _ _ _ _ _ _ y)
  simp only [List.mem_cons, List.mem_nil_iff, or_false] at hp
  rcases hp with rfl | rfl | rfl | rfl | rfl | rfl | rfl | rfl
  · rw [idx_heads x]; exact head7_at C _ _ _
  · rw [idx_heads x]; exact head6_at C _ _ _
  · rw [idx_heads x]; exact head5_at C _ _ _
  · rw [idx_heads x]; exact head4_at C _ _ _
  · rw [idx_heads x]; exact head3_at C _ _ _
  · rw [idx_heads x]; exact head2_at C _ _ _
  · rw [idx_heads x]; exact head1_at C _ _ _
  · rw [idx_heads x]; exact head0_at C _ _ _

/-! ## The value codes, transposed -/

/-- Block k's rows become its lanes. -/
def turnedBy (C : S1024x128.Idx → EReal) (y : S1x8x128x128.Idx) : EReal :=
  C (ix2 ⟨(y 1).val * 128 + (y 3).val, by have : (y 1).val < 8 := (y 1).isLt; have : (y 3).val < 128 := (y 3).isLt; omega⟩ (y 2))

theorem block0_at (A B : FVec Ideal S8x128x128 .f32) (l r : Fin 128) :
    k0_pay48 A B (ix4 0 0 l r) = turnedBy (k0_pay45 A B) (r0_12.emb (ix4 0 0 l r : S1x1x128x128.Idx)) := by
  have e : r0_12.emb (ix4 0 0 l r : S1x1x128x128.Idx) = (ix4 0 0 l r : S1x8x128x128.Idx) := by
    funext b; apply Fin.ext
    match b with
    | ⟨0, _⟩ => rfl
    | ⟨1, _⟩ => rfl
    | ⟨2, _⟩ => show 0 + 1 * l.val = l.val; omega
    | ⟨3, _⟩ => show 0 + 1 * r.val = r.val; omega
  rw [e]
  show _ = k0_pay45 A B (ix2 ⟨0 * 128 + r.val, by omega⟩ l)
  unfold k0_pay48 k0_pay45
  pointwise

theorem block1_at (A B : FVec Ideal S8x128x128 .f32) (l r : Fin 128) :
    k0_pay49 A B (ix4 0 0 l r) = turnedBy (k0_pay45 A B) (r0_13.emb (ix4 0 0 l r : S1x1x128x128.Idx)) := by
  have e : r0_13.emb (ix4 0 0 l r : S1x1x128x128.Idx) = (ix4 0 1 l r : S1x8x128x128.Idx) := by
    funext b; apply Fin.ext
    match b with
    | ⟨0, _⟩ => rfl
    | ⟨1, _⟩ => rfl
    | ⟨2, _⟩ => show 0 + 1 * l.val = l.val; omega
    | ⟨3, _⟩ => show 0 + 1 * r.val = r.val; omega
  rw [e]
  show _ = k0_pay45 A B (ix2 ⟨1 * 128 + r.val, by omega⟩ l)
  unfold k0_pay49 k0_pay45
  pointwise

theorem block2_at (A B : FVec Ideal S8x128x128 .f32) (l r : Fin 128) :
    k0_pay50 A B (ix4 0 0 l r) = turnedBy (k0_pay45 A B) (r0_14.emb (ix4 0 0 l r : S1x1x128x128.Idx)) := by
  have e : r0_14.emb (ix4 0 0 l r : S1x1x128x128.Idx) = (ix4 0 2 l r : S1x8x128x128.Idx) := by
    funext b; apply Fin.ext
    match b with
    | ⟨0, _⟩ => rfl
    | ⟨1, _⟩ => rfl
    | ⟨2, _⟩ => show 0 + 1 * l.val = l.val; omega
    | ⟨3, _⟩ => show 0 + 1 * r.val = r.val; omega
  rw [e]
  show _ = k0_pay45 A B (ix2 ⟨2 * 128 + r.val, by omega⟩ l)
  unfold k0_pay50 k0_pay45
  pointwise

theorem block3_at (A B : FVec Ideal S8x128x128 .f32) (l r : Fin 128) :
    k0_pay52 (k0_pay51 A B) (ix4 0 0 l r) = turnedBy (k0_pay45 A B) (r0_15.emb (ix4 0 0 l r : S1x1x128x128.Idx)) := by
  have e : r0_15.emb (ix4 0 0 l r : S1x1x128x128.Idx) = (ix4 0 3 l r : S1x8x128x128.Idx) := by
    funext b; apply Fin.ext
    match b with
    | ⟨0, _⟩ => rfl
    | ⟨1, _⟩ => rfl
    | ⟨2, _⟩ => show 0 + 1 * l.val = l.val; omega
    | ⟨3, _⟩ => show 0 + 1 * r.val = r.val; omega
  rw [e]
  show _ = k0_pay45 A B (ix2 ⟨3 * 128 + r.val, by omega⟩ l)
  unfold k0_pay52 k0_pay51 k0_pay45
  pointwise

theorem block4_at (A B : FVec Ideal S8x128x128 .f32) (l r : Fin 128) :
    k0_pay53 (k0_pay45 A B) (ix4 0 0 l r) = turnedBy (k0_pay45 A B) (r0_16.emb (ix4 0 0 l r : S1x1x128x128.Idx)) := by
  have e : r0_16.emb (ix4 0 0 l r : S1x1x128x128.Idx) = (ix4 0 4 l r : S1x8x128x128.Idx) := by
    funext b; apply Fin.ext
    match b with
    | ⟨0, _⟩ => rfl
    | ⟨1, _⟩ => rfl
    | ⟨2, _⟩ => show 0 + 1 * l.val = l.val; omega
    | ⟨3, _⟩ => show 0 + 1 * r.val = r.val; omega
  rw [e]
  show _ = k0_pay45 A B (ix2 ⟨4 * 128 + r.val, by omega⟩ l)
  unfold k0_pay53 k0_pay45
  pointwise

theorem block5_at (A B : FVec Ideal S8x128x128 .f32) (l r : Fin 128) :
    k0_pay54 (k0_pay45 A B) (ix4 0 0 l r) = turnedBy (k0_pay45 A B) (r0_17.emb (ix4 0 0 l r : S1x1x128x128.Idx)) := by
  have e : r0_17.emb (ix4 0 0 l r : S1x1x128x128.Idx) = (ix4 0 5 l r : S1x8x128x128.Idx) := by
    funext b; apply Fin.ext
    match b with
    | ⟨0, _⟩ => rfl
    | ⟨1, _⟩ => rfl
    | ⟨2, _⟩ => show 0 + 1 * l.val = l.val; omega
    | ⟨3, _⟩ => show 0 + 1 * r.val = r.val; omega
  rw [e]
  show _ = k0_pay45 A B (ix2 ⟨5 * 128 + r.val, by omega⟩ l)
  unfold k0_pay54 k0_pay45
  pointwise

theorem block6_at (A B : FVec Ideal S8x128x128 .f32) (l r : Fin 128) :
    k0_pay55 (k0_pay45 A B) (ix4 0 0 l r) = turnedBy (k0_pay45 A B) (r0_18.emb (ix4 0 0 l r : S1x1x128x128.Idx)) := by
  have e : r0_18.emb (ix4 0 0 l r : S1x1x128x128.Idx) = (ix4 0 6 l r : S1x8x128x128.Idx) := by
    funext b; apply Fin.ext
    match b with
    | ⟨0, _⟩ => rfl
    | ⟨1, _⟩ => rfl
    | ⟨2, _⟩ => show 0 + 1 * l.val = l.val; omega
    | ⟨3, _⟩ => show 0 + 1 * r.val = r.val; omega
  rw [e]
  show _ = k0_pay45 A B (ix2 ⟨6 * 128 + r.val, by omega⟩ l)
  unfold k0_pay55 k0_pay45
  pointwise

theorem block7_at (A B : FVec Ideal S8x128x128 .f32) (l r : Fin 128) :
    k0_pay56 (k0_pay45 A B) (ix4 0 0 l r) = turnedBy (k0_pay45 A B) (r0_19.emb (ix4 0 0 l r : S1x1x128x128.Idx)) := by
  have e : r0_19.emb (ix4 0 0 l r : S1x1x128x128.Idx) = (ix4 0 7 l r : S1x8x128x128.Idx) := by
    funext b; apply Fin.ext
    match b with
    | ⟨0, _⟩ => rfl
    | ⟨1, _⟩ => rfl
    | ⟨2, _⟩ => show 0 + 1 * l.val = l.val; omega
    | ⟨3, _⟩ => show 0 + 1 * r.val = r.val; omega
  rw [e]
  show _ = k0_pay45 A B (ix2 ⟨7 * 128 + r.val, by omega⟩ l)
  unfold k0_pay56 k0_pay45
  pointwise

theorem idx_blocks (x : S1x1x128x128.Idx) : x = ix4 0 0 (x 2) (x 3) := by
  funext b
  match b with
  | ⟨0, _⟩ => exact Fin.ext (Nat.lt_one_iff.mp (x 0).isLt)
  | ⟨1, _⟩ => exact Fin.ext (Nat.lt_one_iff.mp (x 1).isLt)
  | ⟨2, _⟩ => rfl
  | ⟨3, _⟩ => rfl

theorem out9_eq (x0 : Vec Ideal S1x1024x512 .bf16) (x1 x2 : Vec Ideal S1x1024x128 .bf16) (y : S1x8x128x128.Idx) :
    out0_9 x0 x1 x2 y = turnedBy (k0_pay75 x0 x1 x2) y := by
  unfold out0_9 k0_pay75
  generalize k0_pay68 x0 x1 x2 = A, k0_pay74 x0 x1 x2 = B
  refine View.canon_apply_of_pieces (Val := Elt Ideal) (turnedBy (k0_pay45 A B)) _ (fun p hp x => ?_) y (cover0_9 _ _ _ _ _ _ _ _ y)
  simp only [List.mem_cons, List.mem_nil_iff, or_false] at hp
  rcases hp with rfl | rfl | rfl | rfl | rfl | rfl | rfl | rfl
  · rw [idx_blocks x]; exact block7_at A B _ _
  · rw [idx_blocks x]; exact block6_at A B _ _
  · rw [idx_blocks x]; exact block5_at A B _ _
  · rw [idx_blocks x]; exact block4_at A B _ _
  · rw [idx_blocks x]; exact block3_at A B _ _
  · rw [idx_blocks x]; exact block2_at A B _ _
  · rw [idx_blocks x]; exact block1_at A B _ _
  · rw [idx_blocks x]; exact block0_at A B _ _

end Cert.QuantIdeal.Own

end
-- ==== Proof.QRef.lean ====
/-
  The quantising reference at an index.
-/
module

public import proofs.«01_k».proof.Proof.Gen.QuantReferenceIdeal.Value
public import proofs.«01_k».proof.Proof.Amax
public import Idealize.ShloMosaic.Lib.Pointwise

@[expose] public section

set_option maxRecDepth 16384

noncomputable section

namespace Cert.QuantReferenceIdeal.Own

open Idealize.ShloMosaic Idealize.ShloMosaic.TcCoe
open Cert.QuantReferenceIdeal Cert.QuantReferenceIdeal.Gen

theorem fiber2 (h : S4x128x128x2x64.Reduces [2, 4] S4x128x2) (j : S4x128x2.Idx) (i : S4x128x128x2x64.Idx) :
    h.drop i = j ↔ ∃ k : Fin 128 × Fin 64, ix5 (j 0) (j 1) k.1 (j 2) k.2 = i := by
  refine ⟨fun e => ⟨(i 2, i 4), ?_⟩, ?_⟩
  · funext a; apply Fin.ext
    match a with
    | ⟨0, _⟩ => exact (congrArg Fin.val (congrFun e 0)).symm
    | ⟨1, _⟩ => exact (congrArg Fin.val (congrFun e 1)).symm
    | ⟨2, _⟩ => rfl
    | ⟨3, _⟩ => exact (congrArg Fin.val (congrFun e 2)).symm
    | ⟨4, _⟩ => rfl
  · rintro ⟨k, rfl⟩
    funext b
    apply Fin.ext
    match b with
    | ⟨0, _⟩ => rfl
    | ⟨1, _⟩ => rfl
    | ⟨2, _⟩ => rfl

theorem fiber8 (h : S4x128x128x8x64.Reduces [2, 4] S4x128x8) (j : S4x128x8.Idx) (i : S4x128x128x8x64.Idx) :
    h.drop i = j ↔ ∃ k : Fin 128 × Fin 64, ix5 (j 0) (j 1) k.1 (j 2) k.2 = i := by
  refine ⟨fun e => ⟨(i 2, i 4), ?_⟩, ?_⟩
  · funext a; apply Fin.ext
    match a with
    | ⟨0, _⟩ => exact (congrArg Fin.val (congrFun e 0)).symm
    | ⟨1, _⟩ => exact (congrArg Fin.val (congrFun e 1)).symm
    | ⟨2, _⟩ => rfl
    | ⟨3, _⟩ => exact (congrArg Fin.val (congrFun e 2)).symm
    | ⟨4, _⟩ => rfl
  · rintro ⟨k, rfl⟩
    funext b
    apply Fin.ext
    match b with
    | ⟨0, _⟩ => rfl
    | ⟨1, _⟩ => rfl
    | ⟨2, _⟩ => rfl

theorem max2 (h : S4x128x128x2x64.Reduces [2, 4] S4x128x2) (z : EReal) (x : S4x128x128x2x64.Idx → EReal) (j : S4x128x2.Idx) :
    (Finset.univ.filter (fun i => h.drop i = j)).fold max z x = (Finset.univ : Finset (Fin 128 × Fin 64)).fold max z (fun k => x (ix5 (j 0) (j 1) k.1 (j 2) k.2)) :=
  Finset.fold_filter_eq_fold_of_fiber max (fun i => h.drop i = j) (fun k : Fin 128 × Fin 64 => ix5 (j 0) (j 1) k.1 (j 2) k.2)
    (fun _ _ e => Prod.ext (congrFun e 2) (congrFun e 4)) (fiber2 h j) z x

theorem max8 (h : S4x128x128x8x64.Reduces [2, 4] S4x128x8) (z : EReal) (x : S4x128x128x8x64.Idx → EReal) (j : S4x128x8.Idx) :
    (Finset.univ.filter (fun i => h.drop i = j)).fold max z x = (Finset.univ : Finset (Fin 128 × Fin 64)).fold max z (fun k => x (ix5 (j 0) (j 1) k.1 (j 2) k.2)) :=
  Finset.fold_filter_eq_fold_of_fiber max (fun i => h.drop i = j) (fun k : Fin 128 × Fin 64 => ix5 (j 0) (j 1) k.1 (j 2) k.2)
    (fun _ _ e => Prod.ext (congrFun e 2) (congrFun e 4)) (fiber8 h j) z x

theorem pay6_at (v : Vec Ideal S4x16384x128 .bf16) (b : Fin 4) (n r : Fin 128) (h : Fin 2) (l : Fin 64) :
    k0_pay6 v (ix5 b n r h l) = v (ix3 b ⟨n.val * 128 + r.val, by omega⟩ ⟨h.val * 64 + l.val, by omega⟩) := by
  unfold k0_pay6
  pointwise

theorem pay2_at (v : Vec Ideal S4x16384x512 .bf16) (b : Fin 4) (n r : Fin 128) (h : Fin 8) (l : Fin 64) :
    k0_pay2 v (ix5 b n r h l) = v (ix3 b ⟨n.val * 128 + r.val, by omega⟩ ⟨h.val * 64 + l.val, by omega⟩) := by
  unfold k0_pay2
  pointwise

/-- The largest magnitudes of the heads of the blocks. -/
def top2 (x : FVec Ideal S4x128x128x2x64 .f32) : FVec Ideal S4x128x2 .f32 :=
  multiReduction .maximumf [2, 4] S4x128x2 (absf x) 0xFF800000#32 reduces_S4x128x128x2x64_S4x128x2 (.inl rfl) rfl

theorem top2_at (x : FVec Ideal S4x128x128x2x64 .f32) (b : Fin 4) (n : Fin 128) (h : Fin 2) :
    top2 x (ix3 b n h) = (Finset.univ : Finset (Fin 128 × Fin 64)).fold max Amax.least (fun k => Amax.mag (x (ix5 b n k.1 h k.2))) := by
  unfold top2
  pointwise
  exact max2 _ _ _ (ix3 b n h)

/-- The exponents they give. -/
def expos2 (M : FVec Ideal S4x128x2 .f32) : IVec S4x128x1x2x1 32 :=
  have v83 : FVec Ideal S4x128x1x2x1 .f32 := shapeCast S4x128x1x2x1 M shapeCasts_S4x128x2_S4x128x1x2x1
  select (cmpf .oeq v83 (broadcast S4x128x1x2x1 (Scalar.ofBits .f32 0x00000000#32))) (broadcast S4x128x1x2x1 0#32)
    (addi (fptosi 32 (floor (divf (log (mulf v83 (broadcast S4x128x1x2x1 (Scalar.ofBits .f32 0x3B124925#32)))) (log (broadcast S4x128x1x2x1 (Scalar.ofBits .f32 0x40000000#32))))))
      (broadcast S4x128x1x2x1 1#32))

theorem expos2_at (M : FVec Ideal S4x128x2 .f32) (b : Fin 4) (n : Fin 128) (h : Fin 2) : expos2 M (ix5 b n 0 h 0) = Amax.expo (M (ix3 b n h)) := by
  unfold expos2 Amax.expo
  pointwise

theorem pay7_eq (v : Vec Ideal S4x16384x128 .bf16) : k0_pay7 v = expos2 (top2 (k0_pay6 v)) := rfl

theorem pay7_at (v : Vec Ideal S4x16384x128 .bf16) (b : Fin 4) (n : Fin 128) (h : Fin 2) : k0_pay7 v (ix5 b n 0 h 0)
    = Amax.expo ((Finset.univ : Finset (Fin 128 × Fin 64)).fold max Amax.least (fun k => Amax.mag (v (ix3 b ⟨n.val * 128 + k.1.val, by omega⟩ ⟨h.val * 64 + k.2.val, by omega⟩)))) := by
  rw [pay7_eq, expos2_at, top2_at]
  simp only [pay6_at]

/-- The codes. -/
theorem pay8_at (v : Vec Ideal S4x16384x128 .bf16) (b : Fin 4) (s : Fin 16384) (l : Fin 128) :
    k0_pay8 v (ix3 b s l) = Amax.code (Amax.amax rfl (fun r x => v (ix3 b ⟨s.val / 128 * 128 + r.val, by omega⟩ x)) l) (v (ix3 b s l)) := by
  unfold k0_pay8
  pointwise
  rw [pay7_at, pay6_at]
  refine congrArg (fun e => min _ (max _ (e * Amax.inv _))) (congrArg₂ (fun e f => v (ix3 b e f)) (Fin.ext ?_) (Fin.ext ?_))
  · show s.val / 128 * 128 + s.val % 128 = s.val; omega
  · show l.val / 64 * 64 + l.val % 64 = l.val; omega

/-- The scales, at every lane of the head. -/
theorem pay9_at (v : Vec Ideal S4x16384x128 .bf16) (b : Fin 4) (n : Fin 128) (l : Fin 128) :
    k0_pay9 v (ix3 b n l) = Amax.scl (Amax.amax rfl (fun r x => v (ix3 b ⟨n.val * 128 + r.val, by omega⟩ x)) l) := by
  unfold k0_pay9
  pointwise
  rw [pay7_at]
  rfl

/-- The largest magnitudes of the heads of the blocks. -/
def top8 (x : FVec Ideal S4x128x128x8x64 .f32) : FVec Ideal S4x128x8 .f32 :=
  multiReduction .maximumf [2, 4] S4x128x8 (absf x) 0xFF800000#32 reduces_S4x128x128x8x64_S4x128x8 (.inl rfl) rfl

theorem top8_at (x : FVec Ideal S4x128x128x8x64 .f32) (b : Fin 4) (n : Fin 128) (h : Fin 8) :
    top8 x (ix3 b n h) = (Finset.univ : Finset (Fin 128 × Fin 64)).fold max Amax.least (fun k => Amax.mag (x (ix5 b n k.1 h k.2))) := by
  unfold top8
  pointwise
  exact max8 _ _ _ (ix3 b n h)

/-- The exponents they give. -/
def expos8 (M : FVec Ideal S4x128x8 .f32) : IVec S4x128x1x8x1 32 :=
  have v83 : FVec Ideal S4x128x1x8x1 .f32 := shapeCast S4x128x1x8x1 M shapeCasts_S4x128x8_S4x128x1x8x1
  select (cmpf .oeq v83 (broadcast S4x128x1x8x1 (Scalar.ofBits .f32 0x00000000#32))) (broadcast S4x128x1x8x1 0#32)
    (addi (fptosi 32 (floor (divf (log (mulf v83 (broadcast S4x128x1x8x1 (Scalar.ofBits .f32 0x3B124925#32)))) (log (broadcast S4x128x1x8x1 (Scalar.ofBits .f32 0x40000000#32))))))
      (broadcast S4x128x1x8x1 1#32))

theorem expos8_at (M : FVec Ideal S4x128x8 .f32) (b : Fin 4) (n : Fin 128) (h : Fin 8) : expos8 M (ix5 b n 0 h 0) = Amax.expo (M (ix3 b n h)) := by
  unfold expos8 Amax.expo
  pointwise

theorem pay3_eq (v : Vec Ideal S4x16384x512 .bf16) : k0_pay3 v = expos8 (top8 (k0_pay2 v)) := rfl

theorem pay3_at (v : Vec Ideal S4x16384x512 .bf16) (b : Fin 4) (n : Fin 128) (h : Fin 8) : k0_pay3 v (ix5 b n 0 h 0)
    = Amax.expo ((Finset.univ : Finset (Fin 128 × Fin 64)).fold max Amax.least (fun k => Amax.mag (v (ix3 b ⟨n.val * 128 + k.1.val, by omega⟩ ⟨h.val * 64 + k.2.val, by omega⟩)))) := by
  rw [pay3_eq, expos8_at, top8_at]
  simp only [pay2_at]

/-- The codes. -/
theorem pay4_at (v : Vec Ideal S4x16384x512 .bf16) (b : Fin 4) (s : Fin 16384) (l : Fin 512) :
    k0_pay4 v (ix3 b s l) = Amax.code (Amax.amax rfl (fun r x => v (ix3 b ⟨s.val / 128 * 128 + r.val, by omega⟩ x)) l) (v (ix3 b s l)) := by
  unfold k0_pay4
  pointwise
  rw [pay3_at, pay2_at]
  refine congrArg (fun e => min _ (max _ (e * Amax.inv _))) (congrArg₂ (fun e f => v (ix3 b e f)) (Fin.ext ?_) (Fin.ext ?_))
  · show s.val / 128 * 128 + s.val % 128 = s.val; omega
  · show l.val / 64 * 64 + l.val % 64 = l.val; omega

/-- The scales, at every lane of the head. -/
theorem pay5_at (v : Vec Ideal S4x16384x512 .bf16) (b : Fin 4) (n : Fin 128) (l : Fin 512) :
    k0_pay5 v (ix3 b n l) = Amax.scl (Amax.amax rfl (fun r x => v (ix3 b ⟨n.val * 128 + r.val, by omega⟩ x)) l) := by
  unfold k0_pay5
  pointwise
  rw [pay3_at]
  rfl

/-! ## The codes in the layouts the attention call reads -/

theorem pay10_eq : k0_pay10 (F := Ideal) = k0_pay6 := rfl
theorem pay12_eq : k0_pay12 (F := Ideal) = k0_pay8 := rfl
theorem pay13_eq : k0_pay13 (F := Ideal) = k0_pay9 := rfl

/-- The codes, block by block transposed, from the blocks and their exponents. -/
def turned (t : FVec Ideal S4x128x128x2x64 .f32) (e : IVec S4x128x1x2x1 32) : FVec Ideal S4x128x128x128 .fp8e4m3 :=
  have v139 : FVec Ideal S4x128x1x2x1 .f32 := sitofp .f32 (subi (broadcast S4x128x1x2x1 0#32) e)
  have v142 : FVec Ideal S4x128x128x2x64 .f32 := mulf t (broadcastTo S4x128x128x2x64 (exp2 v139) broadcasts_S4x128x1x2x1_S4x128x128x2x64)
  have v146 : FVec Ideal S4x128x128x2x64 .f32 := minimumf (broadcast S4x128x128x2x64 (Scalar.ofBits .f32 0x43E00000#32)) (maximumf (broadcast S4x128x128x2x64 (Scalar.ofBits .f32 0xC3E00000#32)) v142)
  have v147 : FVec Ideal S4x128x128x128 .f32 := shapeCast S4x128x128x128 v146 shapeCasts_S4x128x128x2x64_S4x128x128x128
  truncf .fp8e4m3 (transpose S4x128x128x128 [0, 1, 3, 2] v147 transposes_S4x128x128x128_p0_1_3_2_S4x128x128x128) bitsLt_fp8e4m3_f32

theorem pay14_eq (v : Vec Ideal S4x16384x128 .bf16) : k0_pay14 v = turned (k0_pay6 v) (k0_pay7 v) := rfl

theorem pay14_at (v : Vec Ideal S4x16384x128 .bf16) (b : Fin 4) (n l r : Fin 128) :
    k0_pay14 v (ix4 b n l r) = k0_pay8 v (ix3 b ⟨n.val * 128 + r.val, by omega⟩ l) := by
  rw [pay14_eq]
  unfold turned k0_pay8
  pointwise

/-- The codes laid out by heads, zeros in the lanes of the other half, from the blocks and their exponents. -/
def spread (t : FVec Ideal S4x128x128x8x64 .f32) (e : IVec S4x128x1x8x1 32) : FVec Ideal S4x128x1024x128 .fp8e4m3 :=
  have v173 : FVec Ideal S4x128x1x8x1 .f32 := sitofp .f32 (subi (broadcast S4x128x1x8x1 0#32) e)
  have v176 : FVec Ideal S4x128x128x8x64 .f32 := mulf t (broadcastTo S4x128x128x8x64 (exp2 v173) broadcasts_S4x128x1x8x1_S4x128x128x8x64)
  have v180 : FVec Ideal S4x128x128x8x64 .f32 := minimumf (broadcast S4x128x128x8x64 (Scalar.ofBits .f32 0x43E00000#32)) (maximumf (broadcast S4x128x128x8x64 (Scalar.ofBits .f32 0xC3E00000#32)) v176)
  have v181 : FVec Ideal S4x128x8x128x64 .f32 := transpose S4x128x8x128x64 [0, 1, 3, 2, 4] v180 transposes_S4x128x128x8x64_p0_1_3_2_4_S4x128x8x128x64
  have v182 : FVec Ideal S4x128x2x4x128x1x64 .f32 := shapeCast S4x128x2x4x128x1x64 v181 shapeCasts_S4x128x8x128x64_S4x128x2x4x128x1x64
  have v185 : IVec S4x128x2x4x128x2x64 1 := cmpi .eq (iota .tc S4x128x2x4x128x2x64 32 [2] iota_S4x128x2x4x128x2x64_d2_w32) (iota .tc S4x128x2x4x128x2x64 32 [5] iota_S4x128x2x4x128x2x64_d5_w32)
  have v186 : FVec Ideal S4x128x2x4x128x1x64 .f32 := shapeCast S4x128x2x4x128x1x64 v182 shapeCasts_S4x128x2x4x128x1x64_S4x128x2x4x128x1x64
  have v187 : FVec Ideal S4x128x2x4x128x2x64 .f32 := broadcastTo S4x128x2x4x128x2x64 v186 broadcasts_S4x128x2x4x128x1x64_S4x128x2x4x128x2x64
  have v189 : FVec Ideal S4x128x2x4x128x2x64 .f32 := select v185 v187 (broadcast S4x128x2x4x128x2x64 (Scalar.ofBits .f32 0x00000000#32))
  truncf .fp8e4m3 (shapeCast S4x128x1024x128 v189 shapeCasts_S4x128x2x4x128x2x64_S4x128x1024x128) bitsLt_fp8e4m3_f32

theorem pay1_eq (v : Vec Ideal S4x16384x512 .bf16) : k0_pay1 (k0_pay15 v) (k0_pay16 v) k0_pay17 = spread (k0_pay2 v) (k0_pay3 v) := rfl

theorem pay1_at (v : Vec Ideal S4x16384x512 .bf16) (b : Fin 4) (n : Fin 128) (p : Fin 1024) (l : Fin 128) :
    k0_pay1 (k0_pay15 v) (k0_pay16 v) k0_pay17 (ix4 b n p l) = if p.val / 512 = l.val / 64 then
      k0_pay4 v (ix3 b ⟨n.val * 128 + p.val % 128, by omega⟩ ⟨p.val / 128 * 64 + l.val % 64, by omega⟩) else 0 := by
  rw [pay1_eq, ← Amax.select_eq _ _ (by omega) (by omega)]
  unfold spread k0_pay4
  pointwise
  have e1 : p.val / 512 * 4 + p.val / 128 % 4 = p.val / 128 := by omega
  have e2 : (n.val * 128 + p.val % 128) % 128 = p.val % 128 := by omega
  have e3 : (p.val / 128 * 64 + l.val % 64) / 64 = p.val / 128 := by omega
  have e4 : (p.val / 128 * 64 + l.val % 64) % 64 = l.val % 64 := by omega
  simp only [e1, e2, e3, e4]

end Cert.QuantReferenceIdeal.Own

end
-- ==== Proof.QArr.lean ====
/-
  The quantising kernel's results as arrays, and that the reference's are the same.
-/
module

public import proofs.«01_k».proof.Proof.QTile
public import proofs.«01_k».proof.Proof.QRef

@[expose] public section

set_option maxRecDepth 16384

noncomputable section

namespace Cert.QuantIdeal.Own

open Idealize.ShloMosaic Idealize.ShloMosaic.TcCoe Idealize.ShloMosaic.Tactic
open Cert.QuantIdeal Cert.QuantIdeal.Gen

/-! ## The arrays, from an argument -/

/-- The codes of an argument of 512 lanes. -/
def codes512 (a : S4x16384x512.Idx → EReal) : S4x16384x512.Idx → EReal :=
  fun y => Amax.code (Amax.amax (W := 512) rfl (fun r x => a (ix3 (y 0) ⟨(y 1).val / 128 * 128 + r.val, by have : (y 1).val < 16384 := (y 1).isLt; omega⟩ x)) (y 2)) (a y)

/-- Its scales. -/
def scales512 (a : S4x16384x512.Idx → EReal) : S4x128x512.Idx → EReal :=
  fun y => Amax.scl (Amax.amax (W := 512) rfl (fun r x => a (ix3 (y 0) ⟨(y 1).val * 128 + r.val, by have : (y 1).val < 128 := (y 1).isLt; omega⟩ x)) (y 2))

theorem codes512_at (a : S4x16384x512.Idx → EReal) (b : Fin 4) (s : Fin 16384) (l : Fin 512) :
    codes512 a (ix3 b s l) = Amax.code (Amax.amax rfl (fun r x => a (ix3 b ⟨s.val / 128 * 128 + r.val, by omega⟩ x)) l) (a (ix3 b s l)) := rfl

theorem scales512_at (a : S4x16384x512.Idx → EReal) (b : Fin 4) (n : Fin 128) (l : Fin 512) :
    scales512 a (ix3 b n l) = Amax.scl (Amax.amax rfl (fun r x => a (ix3 b ⟨n.val * 128 + r.val, by omega⟩ x)) l) := rfl

/-- The codes of an argument of 128 lanes. -/
def codes128 (a : S4x16384x128.Idx → EReal) : S4x16384x128.Idx → EReal :=
  fun y => Amax.code (Amax.amax (W := 128) rfl (fun r x => a (ix3 (y 0) ⟨(y 1).val / 128 * 128 + r.val, by have : (y 1).val < 16384 := (y 1).isLt; omega⟩ x)) (y 2)) (a y)

/-- Its scales. -/
def scales128 (a : S4x16384x128.Idx → EReal) : S4x128x128.Idx → EReal :=
  fun y => Amax.scl (Amax.amax (W := 128) rfl (fun r x => a (ix3 (y 0) ⟨(y 1).val * 128 + r.val, by have : (y 1).val < 128 := (y 1).isLt; omega⟩ x)) (y 2))

theorem codes128_at (a : S4x16384x128.Idx → EReal) (b : Fin 4) (s : Fin 16384) (l : Fin 128) :
    codes128 a (ix3 b s l) = Amax.code (Amax.amax rfl (fun r x => a (ix3 b ⟨s.val / 128 * 128 + r.val, by omega⟩ x)) l) (a (ix3 b s l)) := rfl

theorem scales128_at (a : S4x16384x128.Idx → EReal) (b : Fin 4) (n : Fin 128) (l : Fin 128) :
    scales128 a (ix3 b n l) = Amax.scl (Amax.amax rfl (fun r x => a (ix3 b ⟨n.val * 128 + r.val, by omega⟩ x)) l) := rfl

/-- The codes of 512 lanes by heads: row 128h + r of block n holds head h of row r, in the half of the lanes its group has. -/
def heads512 (a : S4x16384x512.Idx → EReal) : S4x128x1024x128.Idx → EReal := fun y =>
  if (y 2).val / 512 = (y 3).val / 64 then
    codes512 a (ix3 (y 0) ⟨(y 1).val * 128 + (y 2).val % 128, by have : (y 1).val < 128 := (y 1).isLt; omega⟩
      ⟨(y 2).val / 128 * 64 + (y 3).val % 64, by have : (y 2).val < 1024 := (y 2).isLt; omega⟩)
  else 0

/-- The codes of 128 lanes, each block of 128 rows transposed. -/
def turned128 (a : S4x16384x128.Idx → EReal) : S4x128x128x128.Idx → EReal := fun y =>
  codes128 a (ix3 (y 0) ⟨(y 1).val * 128 + (y 3).val, by have : (y 1).val < 128 := (y 1).isLt; have : (y 3).val < 128 := (y 3).isLt; omega⟩ (y 2))

/-! ## The kernel's -/

theorem hz : (![0, 0, 0] : Fin 3 → ℕ) = fun _ => 0 := by decide

theorem ld512 (x : Vec Ideal S1x1024x512 .bf16) : View.ld x r0_0 = x := View.ld_unit_zero (S := S1x1024x512) hz _ x

theorem ld128 (x : Vec Ideal S1x1024x128 .bf16) : View.ld x r0_10 = x := View.ld_unit_zero (S := S1x1024x128) hz _ x

theorem out3_at (x0 : Vec Ideal S1x1024x512 .bf16) (x1 x2 : Vec Ideal S1x1024x128 .bf16) (s : Fin 1024) (l : Fin 512) :
    out0_3 x0 x1 x2 (ix3 0 s l) = Amax.code (Amax.amax rfl (fun r x => x0 (ix3 0 ⟨s.val / 128 * 128 + r.val, by omega⟩ x)) l) (x0 (ix3 0 s l)) := by
  unfold out0_3 k0_pay61 k0_pay60 k0_pay59 k0_pay58 k0_pay57
  rw [View.canon_unit_zero hz]
  simp only [ld512, ld128]
  exact pay12_at x0 s l

theorem out5_at (x0 : Vec Ideal S1x1024x512 .bf16) (x1 x2 : Vec Ideal S1x1024x128 .bf16) (s : Fin 8) (l : Fin 512) :
    out0_5 x0 x1 x2 (ix3 0 s l) = Amax.scl (Amax.amax rfl (fun r x => x0 (ix3 0 ⟨s.val * 128 + r.val, by omega⟩ x)) l) := by
  unfold out0_5 k0_pay61 k0_pay60 k0_pay59 k0_pay58
  rw [View.canon_unit_zero hz]
  simp only [ld512, ld128]
  exact pay13_at x0 s l

theorem out6_at (x0 : Vec Ideal S1x1024x512 .bf16) (x1 x2 : Vec Ideal S1x1024x128 .bf16) (s : Fin 1024) (l : Fin 128) :
    out0_6 x0 x1 x2 (ix3 0 s l) = Amax.code (Amax.amax rfl (fun r x => x1 (ix3 0 ⟨s.val / 128 * 128 + r.val, by omega⟩ x)) l) (x1 (ix3 0 s l)) := by
  unfold out0_6 k0_pay67 k0_pay66 k0_pay65 k0_pay64
  rw [View.canon_unit_zero hz]
  simp only [ld512, ld128]
  exact pay34_at x1 s l

theorem out7_at (x0 : Vec Ideal S1x1024x512 .bf16) (x1 x2 : Vec Ideal S1x1024x128 .bf16) (s : Fin 8) (l : Fin 128) :
    out0_7 x0 x1 x2 (ix3 0 s l) = Amax.scl (Amax.amax rfl (fun r x => x1 (ix3 0 ⟨s.val * 128 + r.val, by omega⟩ x)) l) := by
  unfold out0_7 k0_pay67 k0_pay66 k0_pay65 k0_pay64
  rw [View.canon_unit_zero hz]
  simp only [ld512, ld128]
  exact pay35_at x1 s l

theorem out8_at (x0 : Vec Ideal S1x1024x512 .bf16) (x1 x2 : Vec Ideal S1x1024x128 .bf16) (s : Fin 1024) (l : Fin 128) :
    out0_8 x0 x1 x2 (ix3 0 s l) = Amax.code (Amax.amax rfl (fun r x => x2 (ix3 0 ⟨s.val / 128 * 128 + r.val, by omega⟩ x)) l) (x2 (ix3 0 s l)) := by
  unfold out0_8 k0_pay74 k0_pay73 k0_pay72 k0_pay71 k0_pay70 k0_pay69 k0_pay68
  rw [View.canon_unit_zero hz]
  simp only [ld512, ld128, codes_v]
  exact pay34_at x2 s l

theorem out10_at (x0 : Vec Ideal S1x1024x512 .bf16) (x1 x2 : Vec Ideal S1x1024x128 .bf16) (s : Fin 8) (l : Fin 128) :
    out0_10 x0 x1 x2 (ix3 0 s l) = Amax.scl (Amax.amax rfl (fun r x => x2 (ix3 0 ⟨s.val * 128 + r.val, by omega⟩ x)) l) := by
  unfold out0_10 k0_pay73 k0_pay72 k0_pay71 k0_pay70 k0_pay69
  rw [View.canon_unit_zero hz]
  simp only [ld512, ld128, scales_v]
  exact pay35_at x2 s l

theorem raw0_at (x0 : Vec Ideal S1x1024x512 .bf16) (x1 x2 : Vec Ideal S1x1024x128 .bf16) (s : Fin 1024) (l : Fin 512) :
    k0_pay62 x0 x1 x2 (ix2 s l) = Amax.code (Amax.amax rfl (fun r x => x0 (ix3 0 ⟨s.val / 128 * 128 + r.val, by omega⟩ x)) l) (x0 (ix3 0 s l)) := by
  unfold k0_pay62 k0_pay61 k0_pay60 k0_pay59 k0_pay58 k0_pay57
  simp only [ld512]
  exact pay10_at x0 s l

theorem raw2_at (x0 : Vec Ideal S1x1024x512 .bf16) (x1 x2 : Vec Ideal S1x1024x128 .bf16) (s : Fin 1024) (l : Fin 128) :
    k0_pay75 x0 x1 x2 (ix2 s l) = Amax.code (Amax.amax rfl (fun r x => x2 (ix3 0 ⟨s.val / 128 * 128 + r.val, by omega⟩ x)) l) (x2 (ix3 0 s l)) := by
  unfold k0_pay75 k0_pay74 k0_pay73 k0_pay72 k0_pay71 k0_pay70 k0_pay69 k0_pay68
  simp only [ld128]
  exact pay45_at x2 s l

variable (m : (ℓ : Loc nD τ sig) → Buf (Elt Ideal) ℓ) (ρ : Dev nD → PrngReg)

/-- The batch and the group of eight blocks of a grid point. -/
abbrev tb (t : Fin cfg0.N) : Fin 4 := ⟨t.val / 16, by have : t.val < 64 := t.isLt; omega⟩
abbrev ti (t : Fin cfg0.N) : Fin 16 := ⟨t.val % 16, by omega⟩

theorem idx0 : ∀ t : Fin cfg0.N, (cfg0.win 0).index t = ![t.val / 16, t.val % 16, 0] := (by decide +kernel : ∀ t : Fin grid0.N, _)
theorem idx1 : ∀ t : Fin cfg0.N, (cfg0.win 1).index t = ![t.val / 16, t.val % 16, 0] := (by decide +kernel : ∀ t : Fin grid0.N, _)
theorem idx2 : ∀ t : Fin cfg0.N, (cfg0.win 2).index t = ![t.val / 16, t.val % 16, 0] := (by decide +kernel : ∀ t : Fin grid0.N, _)
theorem idx3 : ∀ t : Fin cfg0.N, (cfg0.win 3).index t = ![t.val / 16, t.val % 16, 0] := (by decide +kernel : ∀ t : Fin grid0.N, _)
theorem idx5 : ∀ t : Fin cfg0.N, (cfg0.win 5).index t = ![t.val / 16, t.val % 16, 0] := (by decide +kernel : ∀ t : Fin grid0.N, _)
theorem idx6 : ∀ t : Fin cfg0.N, (cfg0.win 6).index t = ![t.val / 16, t.val % 16, 0] := (by decide +kernel : ∀ t : Fin grid0.N, _)
theorem idx7 : ∀ t : Fin cfg0.N, (cfg0.win 7).index t = ![t.val / 16, t.val % 16, 0] := (by decide +kernel : ∀ t : Fin grid0.N, _)
theorem idx8 : ∀ t : Fin cfg0.N, (cfg0.win 8).index t = ![t.val / 16, t.val % 16, 0] := (by decide +kernel : ∀ t : Fin grid0.N, _)
theorem idx10 : ∀ t : Fin cfg0.N, (cfg0.win 10).index t = ![t.val / 16, t.val % 16, 0] := (by decide +kernel : ∀ t : Fin grid0.N, _)
theorem idx4 : ∀ t : Fin cfg0.N, (cfg0.win 4).index t = ![t.val / 16, t.val % 16, 0, 0] := (by decide +kernel : ∀ t : Fin grid0.N, _)
theorem idx9 : ∀ t : Fin cfg0.N, (cfg0.win 9).index t = ![t.val / 16, t.val % 16, 0, 0] := (by decide +kernel : ∀ t : Fin grid0.N, _)

theorem blk0_at (c : Dev nD) (t : Fin cfg0.N) (s : Fin 1024) (l : Fin 512) :
    iblk m c 0 t (ix3 0 s l) = m ((c : Thread nD τ).loc main_arg0) (ix3 (tb t) ⟨1024 * (ti t).val + s.val, by have := (ti t).isLt; omega⟩ l) := by
  blk_ext [iblk, V_main_arg0, idx0 t]

theorem blk1_at (c : Dev nD) (t : Fin cfg0.N) (s : Fin 1024) (l : Fin 128) :
    iblk m c 1 t (ix3 0 s l) = m ((c : Thread nD τ).loc main_arg1) (ix3 (tb t) ⟨1024 * (ti t).val + s.val, by have := (ti t).isLt; omega⟩ l) := by
  blk_ext [iblk, V_main_arg1, idx1 t]

theorem blk2_at (c : Dev nD) (t : Fin cfg0.N) (s : Fin 1024) (l : Fin 128) :
    iblk m c 2 t (ix3 0 s l) = m ((c : Thread nD τ).loc main_arg2) (ix3 (tb t) ⟨1024 * (ti t).val + s.val, by have := (ti t).isLt; omega⟩ l) := by
  blk_ext [iblk, V_main_arg2, idx2 t]

theorem code_blk0 (c : Dev nD) (t : Fin cfg0.N) (s : Fin 1024) (l : Fin 512) :
    Amax.code (Amax.amax rfl (fun r x => iblk m c 0 t (ix3 0 ⟨s.val / 128 * 128 + r.val, by omega⟩ x)) l) (iblk m c 0 t (ix3 0 s l))
      = codes512 (m ((c : Thread nD τ).loc main_arg0)) (ix3 (tb t) ⟨1024 * (ti t).val + s.val, by have := (ti t).isLt; omega⟩ l) := by
  rw [codes512_at]
  refine congrArg₂ Amax.code (congrArg (fun e => Amax.amax (W := 512) rfl e l) (funext fun r => funext fun x => (blk0_at m c t _ x).trans ?_)) (blk0_at m c t s l)
  exact congrArg (fun e => m ((c : Thread nD τ).loc main_arg0) (ix3 (tb t) e x)) (Fin.ext (by show 1024 * (t.val % 16) + (s.val / 128 * 128 + r.val) = (1024 * (t.val % 16) + s.val) / 128 * 128 + r.val; omega))

theorem code_blk1 (c : Dev nD) (t : Fin cfg0.N) (s : Fin 1024) (l : Fin 128) :
    Amax.code (Amax.amax rfl (fun r x => iblk m c 1 t (ix3 0 ⟨s.val / 128 * 128 + r.val, by omega⟩ x)) l) (iblk m c 1 t (ix3 0 s l))
      = codes128 (m ((c : Thread nD τ).loc main_arg1)) (ix3 (tb t) ⟨1024 * (ti t).val + s.val, by have := (ti t).isLt; omega⟩ l) := by
  rw [codes128_at]
  refine congrArg₂ Amax.code (congrArg (fun e => Amax.amax (W := 128) rfl e l) (funext fun r => funext fun x => (blk1_at m c t _ x).trans ?_)) (blk1_at m c t s l)
  exact congrArg (fun e => m ((c : Thread nD τ).loc main_arg1) (ix3 (tb t) e x)) (Fin.ext (by show 1024 * (t.val % 16) + (s.val / 128 * 128 + r.val) = (1024 * (t.val % 16) + s.val) / 128 * 128 + r.val; omega))

theorem code_blk2 (c : Dev nD) (t : Fin cfg0.N) (s : Fin 1024) (l : Fin 128) :
    Amax.code (Amax.amax rfl (fun r x => iblk m c 2 t (ix3 0 ⟨s.val / 128 * 128 + r.val, by omega⟩ x)) l) (iblk m c 2 t (ix3 0 s l))
      = codes128 (m ((c : Thread nD τ).loc main_arg2)) (ix3 (tb t) ⟨1024 * (ti t).val + s.val, by have := (ti t).isLt; omega⟩ l) := by
  rw [codes128_at]
  refine congrArg₂ Amax.code (congrArg (fun e => Amax.amax (W := 128) rfl e l) (funext fun r => funext fun x => (blk2_at m c t _ x).trans ?_)) (blk2_at m c t s l)
  exact congrArg (fun e => m ((c : Thread nD τ).loc main_arg2) (ix3 (tb t) e x)) (Fin.ext (by show 1024 * (t.val % 16) + (s.val / 128 * 128 + r.val) = (1024 * (t.val % 16) + s.val) / 128 * 128 + r.val; omega))

theorem covers3 : (cfg0.win 3).Covers := by decide +kernel

theorem final3 (c : Dev nD) : (dats m 0 c).arrAt 3 cfg0.N = codes512 (m ((c : Thread nD τ).loc main_arg0)) := by
  refine (dats m 0 c).arrAt_eq_of_covers 3 _ covers3 fun t hf y => ?_
  have h0 : (y 0).val < 1 := (y 0).isLt
  have h1 : (y 1).val < 1024 := (y 1).isLt
  have h2 : (y 2).val < 512 := (y 2).isLt
  have e : ix3 (tb t) (⟨1024 * (ti t).val + (y 1).val, by have := (ti t).isLt; omega⟩ : Fin 16384) (⟨(y 2).val, h2⟩ : Fin 512) = (win0_3.blk t).view.emb y := by
    blk_ext [idx3 t]
  blk_simp
  rw [after0_3, ← e]
  have ey : y = (ix3 0 ⟨(y 1).val, h1⟩ ⟨(y 2).val, h2⟩ : S1x1024x512.Idx) := by
    funext b; apply Fin.ext
    match b with
    | ⟨0, _⟩ => exact Nat.lt_one_iff.mp h0
    | ⟨1, _⟩ => rfl
    | ⟨2, _⟩ => rfl
  refine (congrArg (out0_3 (iblk m c 0 t) (iblk m c 1 t) (iblk m c 2 t)) ey).trans ((out3_at _ _ _ ⟨(y 1).val, h1⟩ ⟨(y 2).val, h2⟩).trans ?_)
  exact code_blk0 m c t ⟨(y 1).val, h1⟩ ⟨(y 2).val, h2⟩

theorem covers5 : (cfg0.win 5).Covers := by decide +kernel

theorem final5 (c : Dev nD) : (dats m 0 c).arrAt 5 cfg0.N = scales512 (m ((c : Thread nD τ).loc main_arg0)) := by
  refine (dats m 0 c).arrAt_eq_of_covers 5 _ covers5 fun t hf y => ?_
  have h0 : (y 0).val < 1 := (y 0).isLt
  have h1 : (y 1).val < 8 := (y 1).isLt
  have h2 : (y 2).val < 512 := (y 2).isLt
  have e : ix3 (tb t) (⟨8 * (ti t).val + (y 1).val, by have := (ti t).isLt; omega⟩ : Fin 128) (⟨(y 2).val, h2⟩ : Fin 512) = (win0_5.blk t).view.emb y := by
    blk_ext [idx5 t]
  blk_simp
  rw [after0_5, ← e, scales512_at]
  have ey : y = (ix3 0 ⟨(y 1).val, h1⟩ ⟨(y 2).val, h2⟩ : S1x8x512.Idx) := by
    funext b; apply Fin.ext
    match b with
    | ⟨0, _⟩ => exact Nat.lt_one_iff.mp h0
    | ⟨1, _⟩ => rfl
    | ⟨2, _⟩ => rfl
  refine (congrArg (out0_5 (iblk m c 0 t) (iblk m c 1 t) (iblk m c 2 t)) ey).trans ((out5_at _ _ _ ⟨(y 1).val, h1⟩ ⟨(y 2).val, h2⟩).trans ?_)
  refine congrArg (fun e => Amax.scl (Amax.amax (W := 512) rfl e ⟨(y 2).val, h2⟩)) (funext fun r => funext fun x => (blk0_at m c t _ x).trans ?_)
  exact congrArg (fun e => m ((c : Thread nD τ).loc main_arg0) (ix3 (tb t) e x)) (Fin.ext (by show 1024 * (t.val % 16) + ((y 1).val * 128 + r.val) = (8 * (t.val % 16) + (y 1).val) * 128 + r.val; omega))

theorem covers6 : (cfg0.win 6).Covers := by decide +kernel

theorem final6 (c : Dev nD) : (dats m 0 c).arrAt 6 cfg0.N = codes128 (m ((c : Thread nD τ).loc main_arg1)) := by
  refine (dats m 0 c).arrAt_eq_of_covers 6 _ covers6 fun t hf y => ?_
  have h0 : (y 0).val < 1 := (y 0).isLt
  have h1 : (y 1).val < 1024 := (y 1).isLt
  have h2 : (y 2).val < 128 := (y 2).isLt
  have e : ix3 (tb t) (⟨1024 * (ti t).val + (y 1).val, by have := (ti t).isLt; omega⟩ : Fin 16384) (⟨(y 2).val, h2⟩ : Fin 128) = (win0_6.blk t).view.emb y := by
    blk_ext [idx6 t]
  blk_simp
  rw [after0_6, ← e]
  have ey : y = (ix3 0 ⟨(y 1).val, h1⟩ ⟨(y 2).val, h2⟩ : S1x1024x128.Idx) := by
    funext b; apply Fin.ext
    match b with
    | ⟨0, _⟩ => exact Nat.lt_one_iff.mp h0
    | ⟨1, _⟩ => rfl
    | ⟨2, _⟩ => rfl
  refine (congrArg (out0_6 (iblk m c 0 t) (iblk m c 1 t) (iblk m c 2 t)) ey).trans ((out6_at _ _ _ ⟨(y 1).val, h1⟩ ⟨(y 2).val, h2⟩).trans ?_)
  exact code_blk1 m c t ⟨(y 1).val, h1⟩ ⟨(y 2).val, h2⟩

theorem covers7 : (cfg0.win 7).Covers := by decide +kernel

theorem final7 (c : Dev nD) : (dats m 0 c).arrAt 7 cfg0.N = scales128 (m ((c : Thread nD τ).loc main_arg1)) := by
  refine (dats m 0 c).arrAt_eq_of_covers 7 _ covers7 fun t hf y => ?_
  have h0 : (y 0).val < 1 := (y 0).isLt
  have h1 : (y 1).val < 8 := (y 1).isLt
  have h2 : (y 2).val < 128 := (y 2).isLt
  have e : ix3 (tb t) (⟨8 * (ti t).val + (y 1).val, by have := (ti t).isLt; omega⟩ : Fin 128) (⟨(y 2).val, h2⟩ : Fin 128) = (win0_7.blk t).view.emb y := by
    blk_ext [idx7 t]
  blk_simp
  rw [after0_7, ← e, scales128_at]
  have ey : y = (ix3 0 ⟨(y 1).val, h1⟩ ⟨(y 2).val, h2⟩ : S1x8x128.Idx) := by
    funext b; apply Fin.ext
    match b with
    | ⟨0, _⟩ => exact Nat.lt_one_iff.mp h0
    | ⟨1, _⟩ => rfl
    | ⟨2, _⟩ => rfl
  refine (congrArg (out0_7 (iblk m c 0 t) (iblk m c 1 t) (iblk m c 2 t)) ey).trans ((out7_at _ _ _ ⟨(y 1).val, h1⟩ ⟨(y 2).val, h2⟩).trans ?_)
  refine congrArg (fun e => Amax.scl (Amax.amax (W := 128) rfl e ⟨(y 2).val, h2⟩)) (funext fun r => funext fun x => (blk1_at m c t _ x).trans ?_)
  exact congrArg (fun e => m ((c : Thread nD τ).loc main_arg1) (ix3 (tb t) e x)) (Fin.ext (by show 1024 * (t.val % 16) + ((y 1).val * 128 + r.val) = (8 * (t.val % 16) + (y 1).val) * 128 + r.val; omega))

theorem covers8 : (cfg0.win 8).Covers := by decide +kernel

theorem final8 (c : Dev nD) : (dats m 0 c).arrAt 8 cfg0.N = codes128 (m ((c : Thread nD τ).loc main_arg2)) := by
  refine (dats m 0 c).arrAt_eq_of_covers 8 _ covers8 fun t hf y => ?_
  have h0 : (y 0).val < 1 := (y 0).isLt
  have h1 : (y 1).val < 1024 := (y 1).isLt
  have h2 : (y 2).val < 128 := (y 2).isLt
  have e : ix3 (tb t) (⟨1024 * (ti t).val + (y 1).val, by have := (ti t).isLt; omega⟩ : Fin 16384) (⟨(y 2).val, h2⟩ : Fin 128) = (win0_8.blk t).view.emb y := by
    blk_ext [idx8 t]
  blk_simp
  rw [after0_8, ← e]
  have ey : y = (ix3 0 ⟨(y 1).val, h1⟩ ⟨(y 2).val, h2⟩ : S1x1024x128.Idx) := by
    funext b; apply Fin.ext
    match b with
    | ⟨0, _⟩ => exact Nat.lt_one_iff.mp h0
    | ⟨1, _⟩ => rfl
    | ⟨2, _⟩ => rfl
  refine (congrArg (out0_8 (iblk m c 0 t) (iblk m c 1 t) (iblk m c 2 t)) ey).trans ((out8_at _ _ _ ⟨(y 1).val, h1⟩ ⟨(y 2).val, h2⟩).trans ?_)
  exact code_blk2 m c t ⟨(y 1).val, h1⟩ ⟨(y 2).val, h2⟩

theorem covers10 : (cfg0.win 10).Covers := by decide +kernel

theorem final10 (c : Dev nD) : (dats m 0 c).arrAt 10 cfg0.N = scales128 (m ((c : Thread nD τ).loc main_arg2)) := by
  refine (dats m 0 c).arrAt_eq_of_covers 10 _ covers10 fun t hf y => ?_
  have h0 : (y 0).val < 1 := (y 0).isLt
  have h1 : (y 1).val < 8 := (y 1).isLt
  have h2 : (y 2).val < 128 := (y 2).isLt
  have e : ix3 (tb t) (⟨8 * (ti t).val + (y 1).val, by have := (ti t).isLt; omega⟩ : Fin 128) (⟨(y 2).val, h2⟩ : Fin 128) = (win0_10.blk t).view.emb y := by
    blk_ext [idx10 t]
  blk_simp
  rw [after0_10, ← e, scales128_at]
  have ey : y = (ix3 0 ⟨(y 1).val, h1⟩ ⟨(y 2).val, h2⟩ : S1x8x128.Idx) := by
    funext b; apply Fin.ext
    match b with
    | ⟨0, _⟩ => exact Nat.lt_one_iff.mp h0
    | ⟨1, _⟩ => rfl
    | ⟨2, _⟩ => rfl
  refine (congrArg (out0_10 (iblk m c 0 t) (iblk m c 1 t) (iblk m c 2 t)) ey).trans ((out10_at _ _ _ ⟨(y 1).val, h1⟩ ⟨(y 2).val, h2⟩).trans ?_)
  refine congrArg (fun e => Amax.scl (Amax.amax (W := 128) rfl e ⟨(y 2).val, h2⟩)) (funext fun r => funext fun x => (blk2_at m c t _ x).trans ?_)
  exact congrArg (fun e => m ((c : Thread nD τ).loc main_arg2) (ix3 (tb t) e x)) (Fin.ext (by show 1024 * (t.val % 16) + ((y 1).val * 128 + r.val) = (8 * (t.val % 16) + (y 1).val) * 128 + r.val; omega))

theorem covers4 : (cfg0.win 4).Covers := by decide +kernel

theorem final4 (c : Dev nD) : (dats m 0 c).arrAt 4 cfg0.N = heads512 (m ((c : Thread nD τ).loc main_arg0)) := by
  refine (dats m 0 c).arrAt_eq_of_covers 4 _ covers4 fun t hf y => ?_
  have h0 : (y 0).val < 1 := (y 0).isLt
  have h1 : (y 1).val < 8 := (y 1).isLt
  have h2 : (y 2).val < 1024 := (y 2).isLt
  have h3 : (y 3).val < 128 := (y 3).isLt
  have e : ix4 (tb t) (⟨8 * (ti t).val + (y 1).val, by have := (ti t).isLt; omega⟩ : Fin 128) (⟨(y 2).val, h2⟩ : Fin 1024) (⟨(y 3).val, h3⟩ : Fin 128) = (win0_4.blk t).view.emb y := by
    blk_ext [idx4 t]
  blk_simp
  rw [after0_4, ← e]
  refine (out4_eq (iblk m c 0 t) (iblk m c 1 t) (iblk m c 2 t) y).trans ?_
  refine if_congr Iff.rfl ((raw0_at _ _ _ _ _).trans ((code_blk0 m c t _ _).trans ?_)) rfl
  exact congrArg (fun e => codes512 (m ((c : Thread nD τ).loc main_arg0)) (ix3 (tb t) e _)) (Fin.ext (by show 1024 * (t.val % 16) + ((y 1).val * 128 + (y 2).val % 128) = (8 * (t.val % 16) + (y 1).val) * 128 + (y 2).val % 128; omega))

theorem covers9 : (cfg0.win 9).Covers := by decide +kernel

theorem final9 (c : Dev nD) : (dats m 0 c).arrAt 9 cfg0.N = turned128 (m ((c : Thread nD τ).loc main_arg2)) := by
  refine (dats m 0 c).arrAt_eq_of_covers 9 _ covers9 fun t hf y => ?_
  have h0 : (y 0).val < 1 := (y 0).isLt
  have h1 : (y 1).val < 8 := (y 1).isLt
  have h2 : (y 2).val < 128 := (y 2).isLt
  have h3 : (y 3).val < 128 := (y 3).isLt
  have e : ix4 (tb t) (⟨8 * (ti t).val + (y 1).val, by have := (ti t).isLt; omega⟩ : Fin 128) (⟨(y 2).val, h2⟩ : Fin 128) (⟨(y 3).val, h3⟩ : Fin 128) = (win0_9.blk t).view.emb y := by
    blk_ext [idx9 t]
  blk_simp
  rw [after0_9, ← e]
  refine (out9_eq (iblk m c 0 t) (iblk m c 1 t) (iblk m c 2 t) y).trans ((raw2_at _ _ _ _ _).trans ((code_blk2 m c t _ _).trans ?_))
  exact congrArg (fun e => codes128 (m ((c : Thread nD τ).loc main_arg2)) (ix3 (tb t) e _)) (Fin.ext (by show 1024 * (t.val % 16) + ((y 1).val * 128 + (y 3).val) = (8 * (t.val % 16) + (y 1).val) * 128 + (y 3).val; omega))

/-- Every run ends with the results at those arrays, the arguments as they were. -/
theorem value : θ_run defs (onTc (τ := τ) (main (F := Ideal))) ⟨m, fun _ => 0, ρ⟩ (fun r => ∀ c : Dev nD,
      r.2.mem ((c : Thread nD τ).loc main_v0_0) = codes512 (m ((c : Thread nD τ).loc main_arg0))
      ∧ r.2.mem ((c : Thread nD τ).loc main_v0_1) = heads512 (m ((c : Thread nD τ).loc main_arg0))
      ∧ r.2.mem ((c : Thread nD τ).loc main_v0_2) = scales512 (m ((c : Thread nD τ).loc main_arg0))
      ∧ r.2.mem ((c : Thread nD τ).loc main_v0_3) = codes128 (m ((c : Thread nD τ).loc main_arg1))
      ∧ r.2.mem ((c : Thread nD τ).loc main_v0_4) = scales128 (m ((c : Thread nD τ).loc main_arg1))
      ∧ r.2.mem ((c : Thread nD τ).loc main_v0_5) = codes128 (m ((c : Thread nD τ).loc main_arg2))
      ∧ r.2.mem ((c : Thread nD τ).loc main_v0_6) = turned128 (m ((c : Thread nD τ).loc main_arg2))
      ∧ r.2.mem ((c : Thread nD τ).loc main_v0_7) = scales128 (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨((h.1 c).1 3).trans (final3 m c), ((h.1 c).1 4).trans (final4 m c), ((h.1 c).1 5).trans (final5 m c), ((h.1 c).1 6).trans (final6 m c), ((h.1 c).1 7).trans (final7 m c), ((h.1 c).1 8).trans (final8 m c), ((h.1 c).1 9).trans (final9 m c), ((h.1 c).1 10).trans (final10 m c), h.2 c⟩)
    (θ_run_and (run_main m ρ) (frame_of m ρ (dats m) (A_eq m) (run_main m ρ)))

/-! ## The reference's -/

theorem codes512_eq (a : S4x16384x512.Idx → EReal) : Cert.QuantReferenceIdeal.Gen.k0_pay4 (F := Ideal) a = codes512 a := by
  funext y
  have ey : y = ix3 (y 0) (y 1) (y 2) := by
    funext b
    match b with
    | ⟨0, _⟩ => rfl
    | ⟨1, _⟩ => rfl
    | ⟨2, _⟩ => rfl
  rw [ey]
  exact Cert.QuantReferenceIdeal.Own.pay4_at a (y 0) (y 1) (y 2)

theorem scales512_eq (a : S4x16384x512.Idx → EReal) : Cert.QuantReferenceIdeal.Gen.k0_pay5 (F := Ideal) a = scales512 a := by
  funext y
  have ey : y = ix3 (y 0) (y 1) (y 2) := by
    funext b
    match b with
    | ⟨0, _⟩ => rfl
    | ⟨1, _⟩ => rfl
    | ⟨2, _⟩ => rfl
  rw [ey]
  exact Cert.QuantReferenceIdeal.Own.pay5_at a (y 0) (y 1) (y 2)

theorem codes128_eq (a : S4x16384x128.Idx → EReal) : Cert.QuantReferenceIdeal.Gen.k0_pay8 (F := Ideal) a = codes128 a := by
  funext y
  have ey : y = ix3 (y 0) (y 1) (y 2) := by
    funext b
    match b with
    | ⟨0, _⟩ => rfl
    | ⟨1, _⟩ => rfl
    | ⟨2, _⟩ => rfl
  rw [ey]
  exact Cert.QuantReferenceIdeal.Own.pay8_at a (y 0) (y 1) (y 2)

theorem scales128_eq (a : S4x16384x128.Idx → EReal) : Cert.QuantReferenceIdeal.Gen.k0_pay9 (F := Ideal) a = scales128 a := by
  funext y
  have ey : y = ix3 (y 0) (y 1) (y 2) := by
    funext b
    match b with
    | ⟨0, _⟩ => rfl
    | ⟨1, _⟩ => rfl
    | ⟨2, _⟩ => rfl
  rw [ey]
  exact Cert.QuantReferenceIdeal.Own.pay9_at a (y 0) (y 1) (y 2)

theorem heads512_eq (a : S4x16384x512.Idx → EReal) : Cert.QuantReferenceIdeal.Gen.k0_pay1 (Cert.QuantReferenceIdeal.Gen.k0_pay15 (F := Ideal) a) (Cert.QuantReferenceIdeal.Gen.k0_pay16 a) Cert.QuantReferenceIdeal.Gen.k0_pay17 = heads512 a := by
  funext y
  have ey : y = ix4 (y 0) (y 1) (y 2) (y 3) := by
    funext b
    match b with
    | ⟨0, _⟩ => rfl
    | ⟨1, _⟩ => rfl
    | ⟨2, _⟩ => rfl
    | ⟨3, _⟩ => rfl
  rw [ey]
  refine (Cert.QuantReferenceIdeal.Own.pay1_at a (y 0) (y 1) (y 2) (y 3)).trans ?_
  rw [codes512_eq]
  rfl

theorem turned128_eq (a : S4x16384x128.Idx → EReal) : Cert.QuantReferenceIdeal.Gen.k0_pay14 (F := Ideal) a = turned128 a := by
  funext y
  have ey : y = ix4 (y 0) (y 1) (y 2) (y 3) := by
    funext b
    match b with
    | ⟨0, _⟩ => rfl
    | ⟨1, _⟩ => rfl
    | ⟨2, _⟩ => rfl
    | ⟨3, _⟩ => rfl
  rw [ey]
  refine (Cert.QuantReferenceIdeal.Own.pay14_at a (y 0) (y 1) (y 2) (y 3)).trans ?_
  rw [codes128_eq]
  rfl

end Cert.QuantIdeal.Own

namespace Cert.QuantReferenceIdeal.Own

open Idealize.ShloMosaic Idealize.ShloMosaic.TcCoe
open Cert.QuantReferenceIdeal Cert.QuantReferenceIdeal.Gen Cert.QuantIdeal.Own

variable (m : (ℓ : Loc nD τ sig) → Buf (Elt Ideal) ℓ) (ρ : Dev nD → PrngReg)

/-- The reference's runs end with the results at the same arrays. -/
theorem value : θ_run defs (onTc (τ := τ) (main (F := Ideal))) ⟨m, fun _ => 0, ρ⟩ (fun r => ∀ c : Dev nD,
      r.2.mem ((c : Thread nD τ).loc main_v0_0) = codes512 (m ((c : Thread nD τ).loc main_arg0))
      ∧ r.2.mem ((c : Thread nD τ).loc main_v0_1) = heads512 (m ((c : Thread nD τ).loc main_arg0))
      ∧ r.2.mem ((c : Thread nD τ).loc main_v0_2) = scales512 (m ((c : Thread nD τ).loc main_arg0))
      ∧ r.2.mem ((c : Thread nD τ).loc main_v0_3) = codes128 (m ((c : Thread nD τ).loc main_arg1))
      ∧ r.2.mem ((c : Thread nD τ).loc main_v0_4) = scales128 (m ((c : Thread nD τ).loc main_arg1))
      ∧ r.2.mem ((c : Thread nD τ).loc main_v0_5) = codes128 (m ((c : Thread nD τ).loc main_arg2))
      ∧ r.2.mem ((c : Thread nD τ).loc main_v0_6) = turned128 (m ((c : Thread nD τ).loc main_arg2))
      ∧ r.2.mem ((c : Thread nD τ).loc main_v0_7) = scales128 (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => by
    obtain ⟨h0, h1, h2, h3, h4, h5, h6, h7, h8⟩ := h c
    exact ⟨h0.trans (codes512_eq _), h1.trans (heads512_eq _), h2.trans (scales512_eq _), h3.trans (codes128_eq _), h4.trans (scales128_eq _), h5.trans ((congrFun pay12_eq _).trans (codes128_eq _)), h6.trans (turned128_eq _), h7.trans ((congrFun pay13_eq _).trans (scales128_eq _)), h8⟩)
    (Cert.QuantReferenceIdeal.Value.run m ρ)

end Cert.QuantReferenceIdeal.Own

end
-- ==== Proof.lean ====
module

public import proofs.«01_k».proof.Defs
public import proofs.«01_k».proof.Proof.BFrame
public import proofs.«01_k».proof.Proof.Join
public import proofs.«01_k».proof.Proof.QArr
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Quant
public import proofs.«01_k».proof.Proof.Gen.Quant.Frame
public import proofs.«01_k».proof.Proof.Gen.QuantIdeal
public import proofs.«01_k».proof.Proof.Gen.QuantIdeal.Frame
public import proofs.«01_k».proof.Proof.Gen.QuantReferenceIdeal
public import proofs.«01_k».proof.Proof.Gen.QuantReferenceIdeal.Frame
public import proofs.«01_k».proof.Proof.Gen.QuantReferenceIdeal.Value
public import Idealize.ShloMosaic.Adequacy
public import Idealize.ShloMosaic.Init

@[expose] public section

noncomputable section

namespace Cert.Proof

open Idealize.ShloMosaic Idealize.SL.Sem

theorem preserves : Cert.preserves_Kernel_KernelIdeal :=
  IdealRules.named_const.statement _ _ _ _ _ rfl

/-- The kernel and the reference, from the same arguments, end with the same result. -/
theorem algebraic : Cert.algebraic_KernelIdeal_ReferenceIdeal := by
  pair_intro
  · run_from (Cert.KernelIdeal.Own.value m g)
  · run_from (Cert.ReferenceIdeal.Value.run m' g')
    exact (Cert.Own.result_eq _ _ _ _ _ _).symm

theorem preserves_quant : Cert.preserves_Quant_QuantIdeal := trivial

/-- The quantising kernel and its reference, from the same arguments, end with the same codes and scales, and the same two layouts
    of the codes. -/
theorem algebraic_quant : Cert.algebraic_QuantIdeal_QuantReferenceIdeal := by
  pair_intro
  · run_from (Cert.QuantIdeal.Own.value m g)
  · run_from (Cert.QuantReferenceIdeal.Own.value m' g')

theorem claim : Cert.Claim :=
  ⟨Cert.Kernel.Gen.facts, Cert.KernelIdeal.Gen.facts, Cert.ReferenceIdeal.Gen.facts,
    Cert.Quant.Gen.facts, Cert.QuantIdeal.Gen.facts, Cert.QuantReferenceIdeal.Gen.facts,
    fun m g _ => Cert.Kernel.Own.frame m g, fun m g _ => Cert.KernelIdeal.Own.frame m g,
    fun m g _ => Cert.ReferenceIdeal.Gen.frame m g,
    fun m g _ => Cert.Quant.Gen.frame m g, fun m g _ => Cert.QuantIdeal.Gen.frame m g,
    fun m g _ => Cert.QuantReferenceIdeal.Gen.frame m g,
    preserves, algebraic, preserves_quant, algebraic_quant⟩

end Cert.Proof

end
